-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v47) = v1 c
          ∧ r.2.mem ((c.tc : Thread Cert.Reference16Ideal.nD Cert.Reference16Ideal.τ).loc Cert.Reference16Ideal.main_v48) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v47) = v1 c
          ∧ r.2.mem ((c.tc : Thread Cert.Reference17Ideal.nD Cert.Reference17Ideal.τ).loc Cert.Reference17Ideal.main_v48) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v44) = v0 c
          ∧ r.2.mem ((c.tc : Thread Cert.Reference18Ideal.nD Cert.Reference18Ideal.τ).loc Cert.Reference18Ideal.main_v49) = v1 c
          ∧ r.2.mem ((c.tc : Thread Cert.Reference18Ideal.nD Cert.Reference18Ideal.τ).loc Cert.Reference18Ideal.main_v50) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4608x512 : Shape := ⟨2, ![4608, 512]⟩
abbrev S4608x256 : Shape := ⟨2, ![4608, 256]⟩
abbrev S4608x1024 : Shape := ⟨2, ![4608, 1024]⟩
abbrev S_ : Shape := ⟨0, ![]⟩

class Facts : Prop where
  bitsLt_bf16_f32 : FTy.bits .bf16 < FTy.bits .f32
  bcast_S_S4608x512 : S_.BroadcastsInDim S4608x512 (![] : Fin 0 → Fin S4608x512.rank)
  bcast_S_S4608x256 : S_.BroadcastsInDim S4608x256 (![] : Fin 0 → Fin S4608x256.rank)
  bcast_S_S4608x1024 : S_.BroadcastsInDim S4608x1024 (![] : Fin 0 → Fin S4608x1024.rank)

variable [Facts]

def fn {F : FTy → Type} [FloatOps F] (main_arg0 : FVec F S4608x512 .bf16) (main_arg1 : FVec F S4608x256 .bf16) (main_arg2 : FVec F S4608x1024 .bf16) : IVec S4608x512 1 × IVec S4608x256 1 × IVec S4608x1024 1 :=
  let main_v0 : FVec F S4608x512 .f32 := (extf .f32 · bitsLt_bf16_f32) main_arg0
  let main_v1 : FVec F S4608x512 .f32 := Host.absf main_v0
  let main_cst : FVec F S_ .f32 := constant S_ .f32 0x7F800000#32
  let main_v2 : FVec F S4608x512 .f32 := broadcastInDim S4608x512 ![] bcast_S_S4608x512 main_cst
  let main_v3 : IVec S4608x512 1 := cmpf .olt main_v1 main_v2
  let main_v4 : FVec F S4608x256 .f32 := (extf .f32 · bitsLt_bf16_f32) main_arg1
  let main_v5 : FVec F S4608x256 .f32 := Host.absf main_v4
  let main_cst_0 : FVec F S_ .f32 := constant S_ .f32 0x7F800000#32
  let main_v6 : FVec F S4608x256 .f32 := broadcastInDim S4608x256 ![] bcast_S_S4608x256 main_cst_0
  let main_v7 : IVec S4608x256 1 := cmpf .olt main_v5 main_v6
  let main_v8 : FVec F S4608x1024 .f32 := (extf .f32 · bitsLt_bf16_f32) main_arg2
  let main_v9 : FVec F S4608x1024 .f32 := Host.absf main_v8
  let main_cst_1 : FVec F S_ .f32 := constant S_ .f32 0x7F800000#32
  let main_v10 : FVec F S4608x1024 .f32 := broadcastInDim S4608x1024 ![] bcast_S_S4608x1024 main_cst_1
  let main_v11 : IVec S4608x1024 1 := cmpf .olt main_v9 main_v10
  (main_v3, main_v7, main_v11)
-- ==== Kernel.lean ====
abbrev S4608x512 : Shape := ⟨2, ![4608, 512]⟩
abbrev S4608x256 : Shape := ⟨2, ![4608, 256]⟩
abbrev S4608x1024 : Shape := ⟨2, ![4608, 1024]⟩
abbrev S2x2304x2x4x64 : Shape := ⟨5, ![2, 2304, 2, 4, 64]⟩
abbrev S2x2x4x2304x64 : Shape := ⟨5, ![2, 2, 4, 2304, 64]⟩
abbrev S4608x128 : Shape := ⟨2, ![4608, 128]⟩
abbrev S2x2304x2x64 : Shape := ⟨4, ![2, 2304, 2, 64]⟩
abbrev S2x2x2304x64 : Shape := ⟨4, ![2, 2, 2304, 64]⟩
abbrev S2x2x4x256x64 : Shape := ⟨5, ![2, 2, 4, 256, 64]⟩
abbrev S2x2x256x64 : Shape := ⟨4, ![2, 2, 256, 64]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x4x2048x64 : Shape := ⟨5, ![2, 2, 4, 2048, 64]⟩
abbrev S2x2x4x2048x2304 : Shape := ⟨5, ![2, 2, 4, 2048, 2304]⟩
abbrev S2x2x4x2048 : Shape := ⟨4, ![2, 2, 4, 2048]⟩
abbrev S2x2x4x2048x1 : Shape := ⟨5, ![2, 2, 4, 2048, 1]⟩
abbrev S2x2x4x2304 : Shape := ⟨4, ![2, 2, 4, 2304]⟩
abbrev S2x2304x2x4 : Shape := ⟨4, ![2, 2304, 2, 4]⟩
abbrev S4608x8 : Shape := ⟨2, ![4608, 8]⟩
abbrev S256x4608 : Shape := ⟨2, ![256, 4608]⟩
abbrev S256x512 : Shape := ⟨2, ![256, 512]⟩
abbrev S2304x256 : Shape := ⟨2, ![2304, 256]⟩
abbrev S256x8 : Shape := ⟨2, ![256, 8]⟩
abbrev S256x2304 : Shape := ⟨2, ![256, 2304]⟩
abbrev S256x64 : Shape := ⟨2, ![256, 64]⟩
abbrev S256x256 : Shape := ⟨2, ![256, 256]⟩
abbrev S256x1 : Shape := ⟨2, ![256, 1]⟩
abbrev S256 : Shape := ⟨1, ![256]⟩
abbrev S64x256 : Shape := ⟨2, ![64, 256]⟩
abbrev S2304x64 : Shape := ⟨2, ![2304, 64]⟩
abbrev S64x2304 : Shape := ⟨2, ![64, 2304]⟩

abbrev nBuf : Space → Nat
  | .hbm => 58
  | .vmem => 14
  | .smem => 0
  | _ => 0

abbrev bufTy : (tb : Table) → Fin (tcTables nBuf tb) → BufTy
  | .hbm, ⟨0, _⟩ => ⟨S4608x512, .bf16⟩
  | .hbm, ⟨1, _⟩ => ⟨S4608x256, .bf16⟩
  | .hbm, ⟨2, _⟩ => ⟨S4608x1024, .bf16⟩
  | .hbm, ⟨3, _⟩ => ⟨S4608x512, .f32⟩
  | .hbm, ⟨4, _⟩ => ⟨S4608x256, .f32⟩
  | .hbm, ⟨5, _⟩ => ⟨S2x2304x2x4x64, .f32⟩
  | .hbm, ⟨6, _⟩ => ⟨S2x2x4x2304x64, .f32⟩
  | .hbm, ⟨7, _⟩ => ⟨S4608x128, .f32⟩
  | .hbm, ⟨8, _⟩ => ⟨S2x2304x2x64, .f32⟩
  | .hbm, ⟨9, _⟩ => ⟨S2x2x2304x64, .f32⟩
  | .hbm, ⟨10, _⟩ => ⟨S4608x128, .f32⟩
  | .hbm, ⟨11, _⟩ => ⟨S2x2304x2x64, .f32⟩
  | .hbm, ⟨12, _⟩ => ⟨S2x2x2304x64, .f32⟩
  | .hbm, ⟨13, _⟩ => ⟨S2x2x4x256x64, .f32⟩
  | .hbm, ⟨14, _⟩ => ⟨S2x2x256x64, .f32⟩
  | .hbm, ⟨15, _⟩ => ⟨S2x2x256x64, .f32⟩
  | .hbm, ⟨16, _⟩ => ⟨S2x2x4x256x256, .f32⟩
  | .hbm, ⟨17, _⟩ => ⟨S_, .f32⟩
  | .hbm, ⟨18, _⟩ => ⟨S2x2x4x256, .f32⟩
  | .hbm, ⟨19, _⟩ => ⟨S2x2x4x256x1, .f32⟩
  | .hbm, ⟨20, _⟩ => ⟨S2x2x4x256x256, .f32⟩
  | .hbm, ⟨21, _⟩ => ⟨S2x2x4x256x256, .f32⟩
  | .hbm, ⟨22, _⟩ => ⟨S2x2x4x256x256, .f32⟩
  | .hbm, ⟨23, _⟩ => ⟨S_, .f32⟩
  | .hbm, ⟨24, _⟩ => ⟨S2x2x4x256, .f32⟩
  | .hbm, ⟨25, _⟩ => ⟨S2x2x4x256x1, .f32⟩
  | .hbm, ⟨26, _⟩ => ⟨S2x2x4x256x256, .f32⟩
  | .hbm, ⟨27, _⟩ => ⟨S2x2x4x256x256, .f32⟩
  | .hbm, ⟨28, _⟩ => ⟨S2x2x4x256x64, .f32⟩
  | .hbm, ⟨29, _⟩ => ⟨S2x2x4x256x1, .f32⟩
  | .hbm, ⟨30, _⟩ => ⟨S2x2x4x256x1, .f32⟩
  | .hbm, ⟨31, _⟩ => ⟨S2x2x4x256, .f32⟩
  | .hbm, ⟨32, _⟩ => ⟨S2x2x4x2048x64, .f32⟩
  | .hbm, ⟨33, _⟩ => ⟨S2x2x4x2048x2304, .f32⟩
  | .hbm, ⟨34, _⟩ => ⟨S_, .f32⟩
  | .hbm, ⟨35, _⟩ => ⟨S2x2x4x2048, .f32⟩
  | .hbm, ⟨36, _⟩ => ⟨S2x2x4x2048x1, .f32⟩
  | .hbm, ⟨37, _⟩ => ⟨S2x2x4x2048x2304, .f32⟩
  | .hbm, ⟨38, _⟩ => ⟨S2x2x4x2048x2304, .f32⟩
  | .hbm, ⟨39, _⟩ => ⟨S2x2x4x2048x2304, .f32⟩
  | .hbm, ⟨40, _⟩ => ⟨S_, .f32⟩
  | .hbm, ⟨41, _⟩ => ⟨S2x2x4x2048, .f32⟩
  | .hbm, ⟨42, _⟩ => ⟨S2x2x4x2048x1, .f32⟩
  | .hbm, ⟨43, _⟩ => ⟨S2x2x4x2048x2304, .f32⟩
  | .hbm, ⟨44, _⟩ => ⟨S2x2x4x2048x2304, .f32⟩
  | .hbm, ⟨45, _⟩ => ⟨S2x2x4x2048x64, .f32⟩
  | .hbm, ⟨46, _⟩ => ⟨S2x2x4x2048x1, .f32⟩
  | .hbm, ⟨47, _⟩ => ⟨S2x2x4x2048x1, .f32⟩
  | .hbm, ⟨48, _⟩ => ⟨S2x2x4x2048, .f32⟩
  | .hbm, ⟨49, _⟩ => ⟨S2x2x4x2304x64, .f32⟩
  | .hbm, ⟨50, _⟩ => ⟨S2x2304x2x4x64, .f32⟩
  | .hbm, ⟨51, _⟩ => ⟨S4608x512, .f32⟩
  | .hbm, ⟨52, _⟩ => ⟨S4608x512, .bf16⟩
  | .hbm, ⟨53, _⟩ => ⟨S2x2x4x2304, .f32⟩
  | .hbm, ⟨54, _⟩ => ⟨S2x2304x2x4, .f32⟩
  | .hbm, ⟨55, _⟩ => ⟨S4608x8, .f32⟩
  | .hbm, ⟨56, _⟩ => ⟨S4608x512, .bf16⟩
  | .hbm, ⟨57, _⟩ => ⟨S256x4608, .f32⟩
  | .local _ .vmem, ⟨0, _⟩ => ⟨S256x512, .bf16⟩
  | .local _ .vmem, ⟨1, _⟩ => ⟨S256x512, .bf16⟩
  | .local _ .vmem, ⟨2, _⟩ => ⟨S2304x256, .bf16⟩
  | .local _ .vmem, ⟨3, _⟩ => ⟨S2304x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x8, .f32⟩
  | .local _ .vmem, ⟨9, _⟩ => ⟨S256x8, .f32⟩
  | .local _ .vmem, ⟨10, _⟩ => ⟨S256x512, .bf16⟩
  | .local _ .vmem, ⟨11, _⟩ => ⟨S256x512, .bf16⟩
  | .local _ .vmem, ⟨12, _⟩ => ⟨S256x2304, .f32⟩
  | .local _ .vmem, ⟨13, _⟩ => ⟨S256x2304, .f32⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49_0 : Ref sig .tc := ⟨.hbm, 56, rfl⟩
abbrev main_v49_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4608x512 : Shape := ⟨2, ![4608, 512]⟩
abbrev S4608x256 : Shape := ⟨2, ![4608, 256]⟩
abbrev S4608x1024 : Shape := ⟨2, ![4608, 1024]⟩
abbrev S4608x128 : Shape := ⟨2, ![4608, 128]⟩
abbrev S2x2304x2x4x64 : Shape := ⟨5, ![2, 2304, 2, 4, 64]⟩
abbrev S2x2x4x2304x64 : Shape := ⟨5, ![2, 2, 4, 2304, 64]⟩
abbrev S2x2304x2x64 : Shape := ⟨4, ![2, 2304, 2, 64]⟩
abbrev S2x2x2304x64 : Shape := ⟨4, ![2, 2, 2304, 64]⟩
abbrev S2x2x4x256x64 : Shape := ⟨5, ![2, 2, 4, 256, 64]⟩
abbrev S2x2x256x64 : Shape := ⟨4, ![2, 2, 256, 64]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x4x2048x64 : Shape := ⟨5, ![2, 2, 4, 2048, 64]⟩
abbrev S2x2x4x2048x2304 : Shape := ⟨5, ![2, 2, 4, 2048, 2304]⟩
abbrev S2x2x4x2048 : Shape := ⟨4, ![2, 2, 4, 2048]⟩
abbrev S2x2x4x2048x1 : Shape := ⟨5, ![2, 2, 4, 2048, 1]⟩
abbrev S2x2x64x2304 : Shape := ⟨4, ![2, 2, 64, 2304]⟩
abbrev S2x2x64x256 : Shape := ⟨4, ![2, 2, 64, 256]⟩
abbrev S128x4608 : Shape := ⟨2, ![128, 4608]⟩
abbrev S256x4608 : Shape := ⟨2, ![256, 4608]⟩

abbrev nBuf : Space → Nat
  | .hbm => 165
  | .vmem => 0
  | .smem => 0
  | _ => 0

abbrev hbmTy0_0 (i : Nat) : BufTy := match i % 128 with
  | 0 => ⟨S4608x512, .bf16⟩
  | 1 => ⟨S4608x256, .bf16⟩
  | 2 => ⟨S4608x1024, .bf16⟩
  | 3 => ⟨S4608x512, .f32⟩
  | 4 => ⟨S4608x256, .f32⟩
  | 5 => ⟨S4608x1024, .f32⟩
  | 6 => ⟨S4608x128, .f32⟩
  | 7 => ⟨S4608x128, .f32⟩
  | 8 => ⟨S2x2304x2x4x64, .f32⟩
  | 9 => ⟨S2x2x4x2304x64, .f32⟩
  | 10 => ⟨S2x2304x2x64, .f32⟩
  | 11 => ⟨S2x2x2304x64, .f32⟩
  | 12 => ⟨S2x2304x2x64, .f32⟩
  | 13 => ⟨S2x2x2304x64, .f32⟩
  | 14 => ⟨S2x2x4x256x64, .f32⟩
  | 15 => ⟨S2x2x256x64, .f32⟩
  | 16 => ⟨S2x2x256x64, .f32⟩
  | 17 => ⟨S2x2x4x256x256, .f32⟩
  | 18 => ⟨S_, .f32⟩
  | 19 => ⟨S2x2x4x256, .f32⟩
  | 20 => ⟨S2x2x4x256x1, .f32⟩
  | 21 => ⟨S2x2x4x256x256, .f32⟩
  | 22 => ⟨S2x2x4x256x256, .i1⟩
  | 23 => ⟨S2x2x4x256x256, .f32⟩
  | 24 => ⟨S_, .f32⟩
  | 25 => ⟨S2x2x4x256, .f32⟩
  | 26 => ⟨S_, .f32⟩
  | 27 => ⟨S2x2x4x256, .f32⟩
  | 28 => ⟨S2x2x4x256, .f32⟩
  | 29 => ⟨S_, .f32⟩
  | 30 => ⟨S2x2x4x256, .f32⟩
  | 31 => ⟨S2x2x4x256, .i1⟩
  | 32 => ⟨S_, .f32⟩
  | 33 => ⟨S2x2x4x256, .f32⟩
  | 34 => ⟨S2x2x4x256, .i1⟩
  | 35 => ⟨S_, .f32⟩
  | 36 => ⟨S2x2x4x256, .f32⟩
  | 37 => ⟨S_, .f32⟩
  | 38 => ⟨S2x2x4x256, .f32⟩
  | 39 => ⟨S_, .f32⟩
  | 40 => ⟨S2x2x4x256, .f32⟩
  | 41 => ⟨S2x2x4x256, .f32⟩
  | 42 => ⟨S2x2x4x256, .f32⟩
  | 43 => ⟨S2x2x4x256x1, .f32⟩
  | 44 => ⟨S2x2x4x256x256, .f32⟩
  | 45 => ⟨S2x2x4x256x256, .f32⟩
  | 46 => ⟨S2x2x4x256x256, .f32⟩
  | 47 => ⟨S_, .f32⟩
  | 48 => ⟨S2x2x4x256, .f32⟩
  | 49 => ⟨S2x2x4x256x1, .f32⟩
  | 50 => ⟨S2x2x4x256x256, .f32⟩
  | 51 => ⟨S2x2x4x256x256, .f32⟩
  | 52 => ⟨S2x2x4x256x1, .f32⟩
  | 53 => ⟨S_, .f32⟩
  | 54 => ⟨S2x2x4x256x1, .f32⟩
  | 55 => ⟨S2x2x4x256x1, .f32⟩
  | 56 => ⟨S2x2x4x256x64, .f32⟩
  | 57 => ⟨S2x2x4x2048x64, .f32⟩
  | 58 => ⟨S2x2x4x2048x2304, .f32⟩
  | 59 => ⟨S_, .f32⟩
  | 60 => ⟨S2x2x4x2048, .f32⟩
  | 61 => ⟨S2x2x4x2048x1, .f32⟩
  | 62 => ⟨S2x2x4x2048x2304, .f32⟩
  | 63 => ⟨S2x2x4x2048x2304, .i1⟩
  | 64 => ⟨S2x2x4x2048x2304, .f32⟩
  | 65 => ⟨S_, .f32⟩
  | 66 => ⟨S2x2x4x2048, .f32⟩
  | 67 => ⟨S_, .f32⟩
  | 68 => ⟨S2x2x4x2048, .f32⟩
  | 69 => ⟨S2x2x4x2048, .f32⟩
  | 70 => ⟨S_, .f32⟩
  | 71 => ⟨S2x2x4x2048, .f32⟩
  | 72 => ⟨S2x2x4x2048, .i1⟩
  | 73 => ⟨S_, .f32⟩
  | 74 => ⟨S2x2x4x2048, .f32⟩
  | 75 => ⟨S2x2x4x2048, .i1⟩
  | 76 => ⟨S_, .f32⟩
  | 77 => ⟨S2x2x4x2048, .f32⟩
  | 78 => ⟨S_, .f32⟩
  | 79 => ⟨S2x2x4x2048, .f32⟩
  | 80 => ⟨S_, .f32⟩
  | 81 => ⟨S2x2x4x2048, .f32⟩
  | 82 => ⟨S2x2x4x2048, .f32⟩
  | 83 => ⟨S2x2x4x2048, .f32⟩
  | 84 => ⟨S2x2x4x2048x1, .f32⟩
  | 85 => ⟨S2x2x4x2048x2304, .f32⟩
  | 86 => ⟨S2x2x4x2048x2304, .f32⟩
  | 87 => ⟨S2x2x4x2048x2304, .f32⟩
  | 88 => ⟨S_, .f32⟩
  | 89 => ⟨S2x2x4x2048, .f32⟩
  | 90 => ⟨S2x2x4x2048x1, .f32⟩
  | 91 => ⟨S2x2x4x2048x2304, .f32⟩
  | 92 => ⟨S2x2x4x2048x2304, .f32⟩
  | 93 => ⟨S2x2x4x2048x1, .f32⟩
  | 94 => ⟨S_, .f32⟩
  | 95 => ⟨S2x2x4x2048x1, .f32⟩
  | 96 => ⟨S2x2x4x2048x1, .f32⟩
  | 97 => ⟨S2x2x4x2048x64, .f32⟩
  | 98 => ⟨S2x2x4x2304x64, .f32⟩
  | 99 => ⟨S2x2304x2x4x64, .f32⟩
  | 100 => ⟨S4608x512, .f32⟩
  | 101 => ⟨S4608x512, .f32⟩
  | 102 => ⟨S2x2304x2x4x64, .f32⟩
  | 103 => ⟨S2x2x4x2304x64, .f32⟩
  | 104 => ⟨S2x2x4x256x64, .f32⟩
  | 105 => ⟨S2x2x4x2048x64, .f32⟩
  | 106 => ⟨S2x2x64x2304, .f32⟩
  | 107 => ⟨S2x2x2304x64, .f32⟩
  | 108 => ⟨S2x2x4x2048x2304, .f32⟩
  | 109 => ⟨S2x2x4x2048x2304, .f32⟩
  | 110 => ⟨S2x2x4x2048x2304, .f32⟩
  | 111 => ⟨S2x2x4x2048x2304, .f32⟩
  | 112 => ⟨S_, .f32⟩
  | 113 => ⟨S2x2x4x2048, .f32⟩
  | 114 => ⟨S2x2x4x2048x1, .f32⟩
  | 115 => ⟨S2x2x4x2048x1, .f32⟩
  | 116 => ⟨S2x2x4x2048x2304, .f32⟩
  | 117 => ⟨S2x2x4x2048x2304, .f32⟩
  | 118 => ⟨S_, .f32⟩
  | 119 => ⟨S2x2x4x2048, .f32⟩
  | 120 => ⟨S2x2x4x2048x2304, .f32⟩
  | 121 => ⟨S2x2x4x2048x2304, .f32⟩
  | 122 => ⟨S2x2x4x2048x2304, .f32⟩
  | 123 => ⟨S2x2x2304x64, .f32⟩
  | 124 => ⟨S2x2x4x2048x64, .f32⟩
  | 125 => ⟨S_, .f32⟩
  | 126 => ⟨S2x2x4x2304x64, .f32⟩
  | 127 => ⟨S2x2x64x256, .f32⟩
  | _ => ⟨S4608x512, .bf16⟩

abbrev hbmTy0_1 (i : Nat) : BufTy := match i % 128 with
  | 0 => ⟨S2x2x256x64, .f32⟩
  | 1 => ⟨S2x2x4x256x256, .f32⟩
  | 2 => ⟨S2x2x4x256x256, .f32⟩
  | 3 => ⟨S2x2x4x256x256, .f32⟩
  | 4 => ⟨S2x2x4x256x256, .f32⟩
  | 5 => ⟨S_, .f32⟩
  | 6 => ⟨S2x2x4x256, .f32⟩
  | 7 => ⟨S2x2x4x256x1, .f32⟩
  | 8 => ⟨S2x2x4x256x1, .f32⟩
  | 9 => ⟨S2x2x4x256x256, .f32⟩
  | 10 => ⟨S2x2x4x256x256, .f32⟩
  | 11 => ⟨S_, .f32⟩
  | 12 => ⟨S2x2x4x256, .f32⟩
  | 13 => ⟨S2x2x4x256x256, .f32⟩
  | 14 => ⟨S2x2x4x256x256, .f32⟩
  | 15 => ⟨S2x2x4x256x256, .f32⟩
  | 16 => ⟨S2x2x256x64, .f32⟩
  | 17 => ⟨S2x2x4x256x64, .f32⟩
  | 18 => ⟨S_, .f32⟩
  | 19 => ⟨S2x2x2304x64, .f32⟩
  | 20 => ⟨S2x2x2304x64, .f32⟩
  | 21 => ⟨S_, .f32⟩
  | 22 => ⟨S2x2x2304x64, .f32⟩
  | 23 => ⟨S2x2x2304x64, .f32⟩
  | 24 => ⟨S_, .f32⟩
  | 25 => ⟨S2x2x4x2304x64, .f32⟩
  | 26 => ⟨S2x2x4x2304x64, .f32⟩
  | 27 => ⟨S2x2304x2x64, .f32⟩
  | 28 => ⟨S4608x128, .f32⟩
  | 29 => ⟨S2x2304x2x64, .f32⟩
  | 30 => ⟨S4608x128, .f32⟩
  | 31 => ⟨S2x2304x2x4x64, .f32⟩
  | 32 => ⟨S4608x512, .f32⟩
  | 33 => ⟨S4608x512, .bf16⟩
  | 34 => ⟨S128x4608, .f32⟩
  | 35 => ⟨S128x4608, .f32⟩
  | 36 => ⟨S256x4608, .f32⟩
  | _ => ⟨S4608x512, .bf16⟩

abbrev hbmTy (i : Nat) : BufTy := match i / 128 with
  | 0 => hbmTy0_0 i
  | 1 => hbmTy0_1 i
  | _ => ⟨S4608x512, .bf16⟩

abbrev bufTy : (tb : Table) → Fin (tcTables nBuf tb) → BufTy
  | .hbm, ⟨i, _⟩ => hbmTy i
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_cst_14 : Ref sig .tc := ⟨.hbm, 76, rfl⟩
abbrev main_v58 : Ref sig .tc := ⟨.hbm, 77, rfl⟩
abbrev main_cst_15 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_17 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_19 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_21 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_22 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_23 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_24 : Ref sig .tc := ⟨.hbm, 146, rfl⟩
abbrev main_v118 : Ref sig .tc := ⟨.hbm, 147, rfl⟩
abbrev main_v119 : Ref sig .tc := ⟨.hbm, 148, rfl⟩
abbrev main_cst_25 : Ref sig .tc := ⟨.hbm, 149, rfl⟩
abbrev main_v120 : Ref sig .tc := ⟨.hbm, 150, rfl⟩
abbrev main_v121 : Ref sig .tc := ⟨.hbm, 151, rfl⟩
abbrev main_cst_26 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩

abbrev nD : Nat := 1
abbrev τ : Topo := Topo.v7x

variable {F : FTy → Type} [FloatOps F]
-- ==== Kernel2.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .f32⟩
  | .hbm, ⟨2, _⟩ => ⟨S4096x1024, .f32⟩
  | .hbm, ⟨3, _⟩ => ⟨S4608x1024, .bf16⟩
  | .hbm, ⟨4, _⟩ => ⟨S4608x1024, .f32⟩
  | .hbm, ⟨5, _⟩ => ⟨S4608x4096, .f32⟩
  | .hbm, ⟨6, _⟩ => ⟨S4608x4096, .bf16⟩
  | .hbm, ⟨7, _⟩ => ⟨S4096x1024, .bf16⟩
  | .hbm, ⟨8, _⟩ => ⟨S4x1024x1024, .bf16⟩
  | .hbm, ⟨9, _⟩ => ⟨S4608x4096, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x4096, .bf16⟩
  | .local _ .vmem, ⟨6, _⟩ => ⟨S512x4096, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4608x1024 : Shape := ⟨2, ![4608, 1024]⟩
abbrev S1024x4096 : Shape := ⟨2, ![1024, 4096]⟩
abbrev S4096x1024 : Shape := ⟨2, ![4096, 1024]⟩
abbrev S4608x4096 : Shape := ⟨2, ![4608, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .f32⟩
  | .hbm, ⟨2, _⟩ => ⟨S4096x1024, .f32⟩
  | .hbm, ⟨3, _⟩ => ⟨S4608x1024, .bf16⟩
  | .hbm, ⟨4, _⟩ => ⟨S4608x1024, .f32⟩
  | .hbm, ⟨5, _⟩ => ⟨S4608x4096, .f32⟩
  | .hbm, ⟨6, _⟩ => ⟨S_, .f32⟩
  | .hbm, ⟨7, _⟩ => ⟨S4608x4096, .f32⟩
  | .hbm, ⟨8, _⟩ => ⟨S4608x4096, .f32⟩
  | .hbm, ⟨9, _⟩ => ⟨S_, .f32⟩
  | .hbm, ⟨10, _⟩ => ⟨S4608x4096, .f32⟩
  | .hbm, ⟨11, _⟩ => ⟨S4608x4096, .i1⟩
  | .hbm, ⟨12, _⟩ => ⟨S_, .f32⟩
  | .hbm, ⟨13, _⟩ => ⟨S4608x4096, .f32⟩
  | .hbm, ⟨14, _⟩ => ⟨S4608x4096, .f32⟩
  | .hbm, ⟨15, _⟩ => ⟨S_, .f32⟩
  | .hbm, ⟨16, _⟩ => ⟨S4608x4096, .f32⟩
  | .hbm, ⟨17, _⟩ => ⟨S4608x4096, .f32⟩
  | .hbm, ⟨18, _⟩ => ⟨S4608x1024, .f32⟩
  | .hbm, ⟨19, _⟩ => ⟨S4608x1024, .f32⟩
  | .hbm, ⟨20, _⟩ => ⟨S4608x4096, .f32⟩
  | .hbm, ⟨21, _⟩ => ⟨S4608x4096, .f32⟩
  | .hbm, ⟨22, _⟩ => ⟨S_, .f32⟩
  | .hbm, ⟨23, _⟩ => ⟨S4608x4096, .f32⟩
  | .hbm, ⟨24, _⟩ => ⟨S4608x4096, .f32⟩
  | .hbm, ⟨25, _⟩ => ⟨S4608x4096, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel3.lean ====
abbrev S1024x4096 : Shape := ⟨2, ![1024, 4096]⟩
abbrev S4608x4096 : Shape := ⟨2, ![4608, 4096]⟩
abbrev S1024x4x1024 : Shape := ⟨3, ![1024, 4, 1024]⟩
abbrev S4x1024x1024 : Shape := ⟨3, ![4, 1024, 1024]⟩
abbrev S4608x1024 : Shape := ⟨2, ![4608, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4608x4096, .bf16⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4608x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .bf16⟩
  | .local _ .vmem, ⟨4, _⟩ => ⟨S512x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S1024x4096 : Shape := ⟨2, ![1024, 4096]⟩
abbrev S4608x4096 : Shape := ⟨2, ![4608, 4096]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4608x4096, .bf16⟩
  | .hbm, ⟨2, _⟩ => ⟨S_, .f32⟩
  | .hbm, ⟨3, _⟩ => ⟨S4608x1024, .f32⟩
  | .hbm, ⟨4, _⟩ => ⟨S4608x4096, .f32⟩
  | .hbm, ⟨5, _⟩ => ⟨S4608x4096, .f32⟩
  | .hbm, ⟨6, _⟩ => ⟨S4608x1024, .f32⟩
  | .hbm, ⟨7, _⟩ => ⟨S4608x1024, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4608x1024 : Shape := ⟨2, ![4608, 1024]⟩
abbrev S4608x4096 : Shape := ⟨2, ![4608, 4096]⟩
abbrev S8 : Shape := ⟨1, ![8]⟩
abbrev S8x512x1024 : Shape := ⟨3, ![8, 512, 1024]⟩
abbrev S4608x512 : Shape := ⟨2, ![4608, 512]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 3
  | .vmem => 7
  | .smem => 2
  | _ => 0

abbrev bufTy : (tb : Table) → Fin (tcTables nBuf tb) → BufTy
  | .hbm, ⟨0, _⟩ => ⟨S4608x1024, .bf16⟩
  | .hbm, ⟨1, _⟩ => ⟨S4608x4096, .bf16⟩
  | .hbm, ⟨2, _⟩ => ⟨S8x512x1024, .bf16⟩
  | .local _ .vmem, ⟨0, _⟩ => ⟨S4608x512, .bf16⟩
  | .local _ .vmem, ⟨1, _⟩ => ⟨S4608x512, .bf16⟩
  | .local _ .vmem, ⟨2, _⟩ => ⟨S4608x1024, .bf16⟩
  | .local _ .vmem, ⟨3, _⟩ => ⟨S4608x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | .local _ .smem, ⟨0, _⟩ => ⟨S8, .i32⟩
  | .local _ .smem, ⟨1, _⟩ => ⟨S8, .i32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S8) ![v0.toNat] S1.size (k0_off1_inb i)) numel1_S1
  let c0_i32 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4608x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4608x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4608x1024 : Shape := ⟨2, ![4608, 1024]⟩
abbrev S4608x4096 : Shape := ⟨2, ![4608, 4096]⟩
abbrev S_ : Shape := ⟨0, ![]⟩
abbrev S1024x4096 : Shape := ⟨2, ![1024, 4096]⟩
abbrev S4096x1024 : Shape := ⟨2, ![4096, 1024]⟩
abbrev S2x512x4x1024 : Shape := ⟨4, ![2, 512, 4, 1024]⟩
abbrev S2x4x512x1024 : Shape := ⟨4, ![2, 4, 512, 1024]⟩
abbrev S8x512x1024 : Shape := ⟨3, ![8, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x4096, .bf16⟩
  | .hbm, ⟨2, _⟩ => ⟨S_, .f32⟩
  | .hbm, ⟨3, _⟩ => ⟨S1024x4096, .f32⟩
  | .hbm, ⟨4, _⟩ => ⟨S4608x1024, .f32⟩
  | .hbm, ⟨5, _⟩ => ⟨S4608x4096, .f32⟩
  | .hbm, ⟨6, _⟩ => ⟨S4608x4096, .f32⟩
  | .hbm, ⟨7, _⟩ => ⟨S4096x1024, .f32⟩
  | .hbm, ⟨8, _⟩ => ⟨S1024x4096, .f32⟩
  | .hbm, ⟨9, _⟩ => ⟨S2x512x4x1024, .f32⟩
  | .hbm, ⟨10, _⟩ => ⟨S2x4x512x1024, .f32⟩
  | .hbm, ⟨11, _⟩ => ⟨S8x512x1024, .f32⟩
  | .hbm, ⟨12, _⟩ => ⟨S8x512x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4608x1024 : Shape := ⟨2, ![4608, 1024]⟩
abbrev S1024x4096 : Shape := ⟨2, ![1024, 4096]⟩
abbrev S8 : Shape := ⟨1, ![8]⟩
abbrev S4608x4096 : Shape := ⟨2, ![4608, 4096]⟩
abbrev S_ : Shape := ⟨0, ![]⟩
abbrev S8x512x1024 : Shape := ⟨3, ![8, 512, 1024]⟩
abbrev S4608x512 : Shape := ⟨2, ![4608, 512]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 11
  | .vmem => 7
  | .smem => 2
  | _ => 0

abbrev bufTy : (tb : Table) → Fin (tcTables nBuf tb) → BufTy
  | .hbm, ⟨0, _⟩ => ⟨S4608x1024, .bf16⟩
  | .hbm, ⟨1, _⟩ => ⟨S1024x4096, .f32⟩
  | .hbm, ⟨2, _⟩ => ⟨S4608x1024, .bf16⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S4608x4096, .f32⟩
  | .hbm, ⟨9, _⟩ => ⟨S4608x4096, .bf16⟩
  | .hbm, ⟨10, _⟩ => ⟨S8x512x1024, .bf16⟩
  | .local _ .vmem, ⟨0, _⟩ => ⟨S4608x512, .bf16⟩
  | .local _ .vmem, ⟨1, _⟩ => ⟨S4608x512, .bf16⟩
  | .local _ .vmem, ⟨2, _⟩ => ⟨S4608x1024, .bf16⟩
  | .local _ .vmem, ⟨3, _⟩ => ⟨S4608x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | .local _ .smem, ⟨0, _⟩ => ⟨S8, .i32⟩
  | .local _ .smem, ⟨1, _⟩ => ⟨S8, .i32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S8) ![v0.toNat] S1.size (k0_off1_inb i)) numel1_S1
  let c0_i32 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4608x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4608x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4608x1024 : Shape := ⟨2, ![4608, 1024]⟩
abbrev S1024x4096 : Shape := ⟨2, ![1024, 4096]⟩
abbrev S4608x4096 : Shape := ⟨2, ![4608, 4096]⟩
abbrev S_ : Shape := ⟨0, ![]⟩
abbrev S4096x1024 : Shape := ⟨2, ![4096, 1024]⟩
abbrev S4x2x512x1024 : Shape := ⟨4, ![4, 2, 512, 1024]⟩
abbrev S2x4x512x1024 : Shape := ⟨4, ![2, 4, 512, 1024]⟩
abbrev S8x512x1024 : Shape := ⟨3, ![8, 512, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .f32⟩
  | .hbm, ⟨2, _⟩ => ⟨S4608x1024, .bf16⟩
  | .hbm, ⟨3, _⟩ => ⟨S4608x1024, .f32⟩
  | .hbm, ⟨4, _⟩ => ⟨S4608x4096, .f32⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S4608x4096, .f32⟩
  | .hbm, ⟨9, _⟩ => ⟨S_, .f32⟩
  | .hbm, ⟨10, _⟩ => ⟨S4096x1024, .f32⟩
  | .hbm, ⟨11, _⟩ => ⟨S4608x1024, .f32⟩
  | .hbm, ⟨12, _⟩ => ⟨S4608x1024, .f32⟩
  | .hbm, ⟨13, _⟩ => ⟨S1024x4096, .f32⟩
  | .hbm, ⟨14, _⟩ => ⟨S4096x1024, .f32⟩
  | .hbm, ⟨15, _⟩ => ⟨S4x2x512x1024, .f32⟩
  | .hbm, ⟨16, _⟩ => ⟨S2x4x512x1024, .f32⟩
  | .hbm, ⟨17, _⟩ => ⟨S8x512x1024, .f32⟩
  | .hbm, ⟨18, _⟩ => ⟨S8x512x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel6.lean ====
abbrev S4608x1024 : Shape := ⟨2, ![4608, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4608x4096 : Shape := ⟨2, ![4608, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4608x4096, .bf16⟩
  | .hbm, ⟨6, _⟩ => ⟨S4608x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4608x1024 : Shape := ⟨2, ![4608, 1024]⟩
abbrev S1024x4096 : Shape := ⟨2, ![1024, 4096]⟩
abbrev S4608x4096 : Shape := ⟨2, ![4608, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x4096, .f32⟩
  | .hbm, ⟨2, _⟩ => ⟨S4608x1024, .f32⟩
  | .hbm, ⟨3, _⟩ => ⟨S4608x4096, .f32⟩
  | .hbm, ⟨4, _⟩ => ⟨S4608x4096, .bf16⟩
  | .hbm, ⟨5, _⟩ => ⟨S_, .f32⟩
  | .hbm, ⟨6, _⟩ => ⟨S4608x4096, .f32⟩
  | .hbm, ⟨7, _⟩ => ⟨S4608x4096, .f32⟩
  | .hbm, ⟨8, _⟩ => ⟨S4608x4096, .f32⟩
  | .hbm, ⟨9, _⟩ => ⟨S4608x4096, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4608x1024 : Shape := ⟨2, ![4608, 1024]⟩
abbrev S1024x1792 : Shape := ⟨2, ![1024, 1792]⟩
abbrev S4608x1792 : Shape := ⟨2, ![4608, 1792]⟩
abbrev S512x1024 : Shape := ⟨2, ![512, 1024]⟩
abbrev S512x1792 : Shape := ⟨2, ![512, 1792]⟩

abbrev nBuf : Space → Nat
  | .hbm => 4
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S1024x1792, .f32⟩
  | .hbm, ⟨2, _⟩ => ⟨S1024x1792, .bf16⟩
  | .hbm, ⟨3, _⟩ => ⟨S4608x1792, .bf16⟩
  | .local _ .vmem, ⟨0, _⟩ => ⟨S512x1024, .bf16⟩
  | .local _ .vmem, ⟨1, _⟩ => ⟨S512x1024, .bf16⟩
  | .local _ .vmem, ⟨2, _⟩ => ⟨S1024x1792, .bf16⟩
  | .local _ .vmem, ⟨3, _⟩ => ⟨S512x1792, .bf16⟩
  | .local _ .vmem, ⟨4, _⟩ => ⟨S512x1792, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4608x1024 : Shape := ⟨2, ![4608, 1024]⟩
abbrev S1024x1792 : Shape := ⟨2, ![1024, 1792]⟩
abbrev S4608x1792 : Shape := ⟨2, ![4608, 1792]⟩

abbrev nBuf : Space → Nat
  | .hbm => 5
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1792, .f32⟩
  | .hbm, ⟨2, _⟩ => ⟨S4608x1024, .f32⟩
  | .hbm, ⟨3, _⟩ => ⟨S4608x1792, .f32⟩
  | .hbm, ⟨4, _⟩ => ⟨S4608x1792, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4608x1024 : Shape := ⟨2, ![4608, 1024]⟩
abbrev S1024x1440 : Shape := ⟨2, ![1024, 1440]⟩
abbrev S1024x416 : Shape := ⟨2, ![1024, 416]⟩
abbrev S_ : Shape := ⟨0, ![]⟩
abbrev S1024x96 : Shape := ⟨2, ![1024, 96]⟩
abbrev S1024x1024 : Shape := ⟨2, ![1024, 1024]⟩
abbrev S1024x1536 : Shape := ⟨2, ![1024, 1536]⟩
abbrev S4608x1536 : Shape := ⟨2, ![4608, 1536]⟩
abbrev S512x1024 : Shape := ⟨2, ![512, 1024]⟩
abbrev S512x1536 : Shape := ⟨2, ![512, 1536]⟩

abbrev nBuf : Space → Nat
  | .hbm => 9
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S1024x1440, .f32⟩
  | .hbm, ⟨2, _⟩ => ⟨S1024x1440, .bf16⟩
  | .hbm, ⟨3, _⟩ => ⟨S1024x416, .bf16⟩
  | .hbm, ⟨4, _⟩ => ⟨S_, .bf16⟩
  | .hbm, ⟨5, _⟩ => ⟨S1024x96, .bf16⟩
  | .hbm, ⟨6, _⟩ => ⟨S1024x1024, .bf16⟩
  | .hbm, ⟨7, _⟩ => ⟨S1024x1536, .bf16⟩
  | .hbm, ⟨8, _⟩ => ⟨S4608x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4608x1024 : Shape := ⟨2, ![4608, 1024]⟩
abbrev S1024x1440 : Shape := ⟨2, ![1024, 1440]⟩
abbrev S4608x1440 : Shape := ⟨2, ![4608, 1440]⟩
abbrev S4608x416 : Shape := ⟨2, ![4608, 416]⟩
abbrev S_ : Shape := ⟨0, ![]⟩
abbrev S4608x96 : Shape := ⟨2, ![4608, 96]⟩
abbrev S4608x1536 : Shape := ⟨2, ![4608, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1440, .f32⟩
  | .hbm, ⟨2, _⟩ => ⟨S4608x1024, .f32⟩
  | .hbm, ⟨3, _⟩ => ⟨S4608x1440, .f32⟩
  | .hbm, ⟨4, _⟩ => ⟨S4608x416, .f32⟩
  | .hbm, ⟨5, _⟩ => ⟨S_, .f32⟩
  | .hbm, ⟨6, _⟩ => ⟨S4608x96, .f32⟩
  | .hbm, ⟨7, _⟩ => ⟨S4608x1024, .f32⟩
  | .hbm, ⟨8, _⟩ => ⟨S4608x1536, .f32⟩
  | .hbm, ⟨9, _⟩ => ⟨S4608x1536, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S1024x1024 : Shape := ⟨2, ![1024, 1024]⟩
abbrev S4608x1024 : Shape := ⟨2, ![4608, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4608x1024, .bf16⟩
  | .hbm, ⟨2, _⟩ => ⟨S1024x1024, .bf16⟩
  | .hbm, ⟨3, _⟩ => ⟨S4608x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1024x1024 : Shape := ⟨2, ![1024, 1024]⟩
abbrev S4608x1024 : Shape := ⟨2, ![4608, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4608x1024, .bf16⟩
  | .hbm, ⟨2, _⟩ => ⟨S_, .f32⟩
  | .hbm, ⟨3, _⟩ => ⟨S4608x1024, .f32⟩
  | .hbm, ⟨4, _⟩ => ⟨S4608x1024, .f32⟩
  | .hbm, ⟨5, _⟩ => ⟨S4608x1024, .f32⟩
  | .hbm, ⟨6, _⟩ => ⟨S4608x1024, .f32⟩
  | .hbm, ⟨7, _⟩ => ⟨S4608x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S1024x1792 : Shape := ⟨2, ![1024, 1792]⟩
abbrev S4608x1792 : Shape := ⟨2, ![4608, 1792]⟩
abbrev S4608x1024 : Shape := ⟨2, ![4608, 1024]⟩
abbrev S512x1792 : Shape := ⟨2, ![512, 1792]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1792, .f32⟩
  | .hbm, ⟨1, _⟩ => ⟨S4608x1792, .bf16⟩
  | .hbm, ⟨2, _⟩ => ⟨S1024x1792, .bf16⟩
  | .hbm, ⟨3, _⟩ => ⟨S4608x1024, .bf16⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S512x1024, .bf16⟩
  | .local _ .vmem, ⟨4, _⟩ => ⟨S512x1024, .bf16⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S1024x1792 : Shape := ⟨2, ![1024, 1792]⟩
abbrev S4608x1792 : Shape := ⟨2, ![4608, 1792]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S4608x1792, .bf16⟩
  | .hbm, ⟨2, _⟩ => ⟨S_, .f32⟩
  | .hbm, ⟨3, _⟩ => ⟨S4608x1024, .f32⟩
  | .hbm, ⟨4, _⟩ => ⟨S4608x1792, .f32⟩
  | .hbm, ⟨5, _⟩ => ⟨S4608x1792, .f32⟩
  | .hbm, ⟨6, _⟩ => ⟨S4608x1024, .f32⟩
  | .hbm, ⟨7, _⟩ => ⟨S4608x1024, .bf16⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S1024x1440 : Shape := ⟨2, ![1024, 1440]⟩
abbrev S4608x1440 : Shape := ⟨2, ![4608, 1440]⟩
abbrev S4608x416 : Shape := ⟨2, ![4608, 416]⟩
abbrev S_ : Shape := ⟨0, ![]⟩
abbrev S4608x96 : Shape := ⟨2, ![4608, 96]⟩
abbrev S4608x1024 : Shape := ⟨2, ![4608, 1024]⟩
abbrev S4608x1536 : Shape := ⟨2, ![4608, 1536]⟩
abbrev S1024x416 : Shape := ⟨2, ![1024, 416]⟩
abbrev S1024x96 : Shape := ⟨2, ![1024, 96]⟩
abbrev S1024x1024 : Shape := ⟨2, ![1024, 1024]⟩
abbrev S1024x1536 : Shape := ⟨2, ![1024, 1536]⟩
abbrev S512x1536 : Shape := ⟨2, ![512, 1536]⟩
abbrev S512x1024 : Shape := ⟨2, ![512, 1024]⟩

abbrev nBuf : Space → Nat
  | .hbm => 14
  | .vmem => 5
  | .smem => 0
  | _ => 0

abbrev bufTy : (tb : Table) → Fin (tcTables nBuf tb) → BufTy
  | .hbm, ⟨0, _⟩ => ⟨S1024x1440, .f32⟩
  | .hbm, ⟨1, _⟩ => ⟨S4608x1440, .bf16⟩
  | .hbm, ⟨2, _⟩ => ⟨S4608x416, .bf16⟩
  | .hbm, ⟨3, _⟩ => ⟨S_, .bf16⟩
  | .hbm, ⟨4, _⟩ => ⟨S4608x96, .bf16⟩
  | .hbm, ⟨5, _⟩ => ⟨S4608x1024, .bf16⟩
  | .hbm, ⟨6, _⟩ => ⟨S4608x1536, .bf16⟩
  | .hbm, ⟨7, _⟩ => ⟨S1024x1440, .bf16⟩
  | .hbm, ⟨8, _⟩ => ⟨S1024x416, .bf16⟩
  | .hbm, ⟨9, _⟩ => ⟨S_, .bf16⟩
  | .hbm, ⟨10, _⟩ => ⟨S1024x96, .bf16⟩
  | .hbm, ⟨11, _⟩ => ⟨S1024x1024, .bf16⟩
  | .hbm, ⟨12, _⟩ => ⟨S1024x1536, .bf16⟩
  | .hbm, ⟨13, _⟩ => ⟨S4608x1024, .bf16⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .bf16⟩
  | .local _ .vmem, ⟨4, _⟩ => ⟨S512x1024, .bf16⟩
  | _, _ => ⟨S1024x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S1024x1440 : Shape := ⟨2, ![1024, 1440]⟩
abbrev S4608x1440 : Shape := ⟨2, ![4608, 1440]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1440, .f32⟩
  | .hbm, ⟨1, _⟩ => ⟨S4608x1440, .bf16⟩
  | .hbm, ⟨2, _⟩ => ⟨S_, .f32⟩
  | .hbm, ⟨3, _⟩ => ⟨S4608x1024, .f32⟩
  | .hbm, ⟨4, _⟩ => ⟨S4608x1440, .f32⟩
  | .hbm, ⟨5, _⟩ => ⟨S4608x1440, .f32⟩
  | .hbm, ⟨6, _⟩ => ⟨S4608x1024, .f32⟩
  | .hbm, ⟨7, _⟩ => ⟨S4608x1024, .bf16⟩
  | _, _ => ⟨S1024x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4608x1024 : Shape := ⟨2, ![4608, 1024]⟩
abbrev S4608x1792 : Shape := ⟨2, ![4608, 1792]⟩
abbrev S2 : Shape := ⟨1, ![2]⟩
abbrev S2x512x1792 : Shape := ⟨3, ![2, 512, 1792]⟩
abbrev S2304x512 : Shape := ⟨2, ![2304, 512]⟩
abbrev S1 : Shape := ⟨1, ![1]⟩
abbrev S2304x1792 : Shape := ⟨2, ![2304, 1792]⟩
abbrev S1x512x1792 : Shape := ⟨3, ![1, 512, 1792]⟩
abbrev S512x1792 : Shape := ⟨2, ![512, 1792]⟩

abbrev nBuf : Space → Nat
  | .hbm => 3
  | .vmem => 7
  | .smem => 2
  | _ => 0

abbrev bufTy : (tb : Table) → Fin (tcTables nBuf tb) → BufTy
  | .hbm, ⟨0, _⟩ => ⟨S4608x1024, .bf16⟩
  | .hbm, ⟨1, _⟩ => ⟨S4608x1792, .bf16⟩
  | .hbm, ⟨2, _⟩ => ⟨S2x512x1792, .bf16⟩
  | .local _ .vmem, ⟨0, _⟩ => ⟨S2304x512, .bf16⟩
  | .local _ .vmem, ⟨1, _⟩ => ⟨S2304x512, .bf16⟩
  | .local _ .vmem, ⟨2, _⟩ => ⟨S2304x1792, .bf16⟩
  | .local _ .vmem, ⟨3, _⟩ => ⟨S2304x1792, .bf16⟩
  | .local _ .vmem, ⟨4, _⟩ => ⟨S1x512x1792, .bf16⟩
  | .local _ .vmem, ⟨5, _⟩ => ⟨S1x512x1792, .bf16⟩
  | .local _ .vmem, ⟨6, _⟩ => ⟨S512x1792, .f32⟩
  | .local _ .smem, ⟨0, _⟩ => ⟨S2, .i32⟩
  | .local _ .smem, ⟨1, _⟩ => ⟨S2, .i32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S2) ![v0.toNat] S1.size (k0_off1_inb i)) numel1_S1
  let c0_i32 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S4608x1024 : Shape := ⟨2, ![4608, 1024]⟩
abbrev S4608x1792 : Shape := ⟨2, ![4608, 1792]⟩
abbrev S_ : Shape := ⟨0, ![]⟩
abbrev S1024x1792 : Shape := ⟨2, ![1024, 1792]⟩
abbrev S1792x1024 : Shape := ⟨2, ![1792, 1024]⟩
abbrev S2x512x1792 : Shape := ⟨3, ![2, 512, 1792]⟩

abbrev nBuf : Space → Nat
  | .hbm => 11
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1792, .bf16⟩
  | .hbm, ⟨2, _⟩ => ⟨S_, .f32⟩
  | .hbm, ⟨3, _⟩ => ⟨S1024x1792, .f32⟩
  | .hbm, ⟨4, _⟩ => ⟨S4608x1024, .f32⟩
  | .hbm, ⟨5, _⟩ => ⟨S4608x1792, .f32⟩
  | .hbm, ⟨6, _⟩ => ⟨S4608x1792, .f32⟩
  | .hbm, ⟨7, _⟩ => ⟨S1792x1024, .f32⟩
  | .hbm, ⟨8, _⟩ => ⟨S1024x1792, .f32⟩
  | .hbm, ⟨9, _⟩ => ⟨S2x512x1792, .f32⟩
  | .hbm, ⟨10, _⟩ => ⟨S2x512x1792, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4608x1024 : Shape := ⟨2, ![4608, 1024]⟩
abbrev S4608x1440 : Shape := ⟨2, ![4608, 1440]⟩
abbrev S2 : Shape := ⟨1, ![2]⟩
abbrev S4608x416 : Shape := ⟨2, ![4608, 416]⟩
abbrev S_ : Shape := ⟨0, ![]⟩
abbrev S4608x96 : Shape := ⟨2, ![4608, 96]⟩
abbrev S4608x1536 : Shape := ⟨2, ![4608, 1536]⟩
abbrev S2x512x1536 : Shape := ⟨3, ![2, 512, 1536]⟩
abbrev S2304x512 : Shape := ⟨2, ![2304, 512]⟩
abbrev S1 : Shape := ⟨1, ![1]⟩
abbrev S2304x1536 : Shape := ⟨2, ![2304, 1536]⟩
abbrev S1x512x1536 : Shape := ⟨3, ![1, 512, 1536]⟩
abbrev S512x1536 : Shape := ⟨2, ![512, 1536]⟩

abbrev nBuf : Space → Nat
  | .hbm => 8
  | .vmem => 7
  | .smem => 2
  | _ => 0

abbrev bufTy : (tb : Table) → Fin (tcTables nBuf tb) → BufTy
  | .hbm, ⟨0, _⟩ => ⟨S4608x1024, .bf16⟩
  | .hbm, ⟨1, _⟩ => ⟨S4608x1440, .bf16⟩
  | .hbm, ⟨2, _⟩ => ⟨S4608x416, .bf16⟩
  | .hbm, ⟨3, _⟩ => ⟨S_, .bf16⟩
  | .hbm, ⟨4, _⟩ => ⟨S4608x96, .bf16⟩
  | .hbm, ⟨5, _⟩ => ⟨S4608x1024, .bf16⟩
  | .hbm, ⟨6, _⟩ => ⟨S4608x1536, .bf16⟩
  | .hbm, ⟨7, _⟩ => ⟨S2x512x1536, .bf16⟩
  | .local _ .vmem, ⟨0, _⟩ => ⟨S2304x512, .bf16⟩
  | .local _ .vmem, ⟨1, _⟩ => ⟨S2304x512, .bf16⟩
  | .local _ .vmem, ⟨2, _⟩ => ⟨S2304x1536, .bf16⟩
  | .local _ .vmem, ⟨3, _⟩ => ⟨S2304x1536, .bf16⟩
  | .local _ .vmem, ⟨4, _⟩ => ⟨S1x512x1536, .bf16⟩
  | .local _ .vmem, ⟨5, _⟩ => ⟨S1x512x1536, .bf16⟩
  | .local _ .vmem, ⟨6, _⟩ => ⟨S512x1536, .f32⟩
  | .local _ .smem, ⟨0, _⟩ => ⟨S2, .i32⟩
  | .local _ .smem, ⟨1, _⟩ => ⟨S2, .i32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S2) ![v0.toNat] S1.size (k0_off1_inb i)) numel1_S1
  let c0_i32 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S4608x1024 : Shape := ⟨2, ![4608, 1024]⟩
abbrev S4608x1440 : Shape := ⟨2, ![4608, 1440]⟩
abbrev S_ : Shape := ⟨0, ![]⟩
abbrev S1024x1440 : Shape := ⟨2, ![1024, 1440]⟩
abbrev S1440x1024 : Shape := ⟨2, ![1440, 1024]⟩
abbrev S1024x416 : Shape := ⟨2, ![1024, 416]⟩
abbrev S1024x96 : Shape := ⟨2, ![1024, 96]⟩
abbrev S1024x1024 : Shape := ⟨2, ![1024, 1024]⟩
abbrev S1024x1536 : Shape := ⟨2, ![1024, 1536]⟩
abbrev S2x512x1536 : Shape := ⟨3, ![2, 512, 1536]⟩

abbrev nBuf : Space → Nat
  | .hbm => 16
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1440, .bf16⟩
  | .hbm, ⟨2, _⟩ => ⟨S_, .f32⟩
  | .hbm, ⟨3, _⟩ => ⟨S1024x1440, .f32⟩
  | .hbm, ⟨4, _⟩ => ⟨S4608x1024, .f32⟩
  | .hbm, ⟨5, _⟩ => ⟨S4608x1440, .f32⟩
  | .hbm, ⟨6, _⟩ => ⟨S4608x1440, .f32⟩
  | .hbm, ⟨7, _⟩ => ⟨S1440x1024, .f32⟩
  | .hbm, ⟨8, _⟩ => ⟨S1024x1440, .f32⟩
  | .hbm, ⟨9, _⟩ => ⟨S1024x416, .f32⟩
  | .hbm, ⟨10, _⟩ => ⟨S_, .f32⟩
  | .hbm, ⟨11, _⟩ => ⟨S1024x96, .f32⟩
  | .hbm, ⟨12, _⟩ => ⟨S1024x1024, .f32⟩
  | .hbm, ⟨13, _⟩ => ⟨S1024x1536, .f32⟩
  | .hbm, ⟨14, _⟩ => ⟨S2x512x1536, .f32⟩
  | .hbm, ⟨15, _⟩ => ⟨S2x512x1536, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S4608x512 : Shape := ⟨2, ![4608, 512]⟩
abbrev S4608x1024 : Shape := ⟨2, ![4608, 1024]⟩
abbrev S1 : Shape := ⟨1, ![1]⟩
abbrev S1x512x1024 : Shape := ⟨3, ![1, 512, 1024]⟩
abbrev S2304x512 : Shape := ⟨2, ![2304, 512]⟩
abbrev S2304x1024 : Shape := ⟨2, ![2304, 1024]⟩
abbrev S512x1024 : Shape := ⟨2, ![512, 1024]⟩

abbrev nBuf : Space → Nat
  | .hbm => 3
  | .vmem => 6
  | .smem => 2
  | _ => 0

abbrev bufTy : (tb : Table) → Fin (tcTables nBuf tb) → BufTy
  | .hbm, ⟨0, _⟩ => ⟨S4608x512, .bf16⟩
  | .hbm, ⟨1, _⟩ => ⟨S4608x1024, .bf16⟩
  | .hbm, ⟨2, _⟩ => ⟨S1x512x1024, .bf16⟩
  | .local _ .vmem, ⟨0, _⟩ => ⟨S2304x512, .bf16⟩
  | .local _ .vmem, ⟨1, _⟩ => ⟨S2304x512, .bf16⟩
  | .local _ .vmem, ⟨2, _⟩ => ⟨S2304x1024, .bf16⟩
  | .local _ .vmem, ⟨3, _⟩ => ⟨S2304x1024, .bf16⟩
  | .local _ .vmem, ⟨4, _⟩ => ⟨S1x512x1024, .bf16⟩
  | .local _ .vmem, ⟨5, _⟩ => ⟨S512x1024, .f32⟩
  | .local _ .smem, ⟨0, _⟩ => ⟨S1, .i32⟩
  | .local _ .smem, ⟨1, _⟩ => ⟨S1, .i32⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

def cc0_transform_1 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S1) ![v0.toNat] S1.size (k0_off1_inb i)) numel1_S1
  let c0_i32 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference14Ideal.lean ====
abbrev S4608x512 : Shape := ⟨2, ![4608, 512]⟩
abbrev S4608x1024 : Shape := ⟨2, ![4608, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x1024, .bf16⟩
  | .hbm, ⟨2, _⟩ => ⟨S_, .f32⟩
  | .hbm, ⟨3, _⟩ => ⟨S512x1024, .f32⟩
  | .hbm, ⟨4, _⟩ => ⟨S4608x512, .f32⟩
  | .hbm, ⟨5, _⟩ => ⟨S4608x1024, .f32⟩
  | .hbm, ⟨6, _⟩ => ⟨S4608x1024, .f32⟩
  | .hbm, ⟨7, _⟩ => ⟨S1024x512, .f32⟩
  | .hbm, ⟨8, _⟩ => ⟨S512x1024, .f32⟩
  | .hbm, ⟨9, _⟩ => ⟨S1x512x1024, .f32⟩
  | .hbm, ⟨10, _⟩ => ⟨S1x512x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4608x1024 : Shape := ⟨2, ![4608, 1024]⟩
abbrev S4608x4096 : Shape := ⟨2, ![4608, 4096]⟩
abbrev S4096x1024 : Shape := ⟨2, ![4096, 1024]⟩
abbrev S4x6x1024 : Shape := ⟨3, ![4, 6, 1024]⟩
abbrev S4x1024x1024 : Shape := ⟨3, ![4, 1024, 1024]⟩
abbrev S24x1x1024 : Shape := ⟨3, ![24, 1, 1024]⟩
abbrev S256x4096 : Shape := ⟨2, ![256, 4096]⟩
abbrev S256x1024 : Shape := ⟨2, ![256, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4608x1024, .f32⟩
  | .hbm, ⟨1, _⟩ => ⟨S4608x4096, .bf16⟩
  | .hbm, ⟨2, _⟩ => ⟨S4096x1024, .f32⟩
  | .hbm, ⟨3, _⟩ => ⟨S4x6x1024, .f32⟩
  | .hbm, ⟨4, _⟩ => ⟨S4096x1024, .bf16⟩
  | .hbm, ⟨5, _⟩ => ⟨S4x1024x1024, .bf16⟩
  | .hbm, ⟨6, _⟩ => ⟨S24x1x1024, .f32⟩
  | .hbm, ⟨7, _⟩ => ⟨S4608x1024, .f32⟩
  | .hbm, ⟨8, _⟩ => ⟨S4608x1024, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x1024x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .sge v9 c1_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c9_i32_5 : BitVec 32 := 9#32
  let c0_i32_6 : BitVec 32 := 0#32
  let v13 : BitVec 1 := Scalar.cmpi .eq c9_i32_5 c0_i32_6
  let c1_i32_7 : BitVec 32 := 1#32
  let v14 : BitVec 32 := Scalar.select v13 c1_i32_7 c9_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c5_i32 : BitVec 32 := 5#32
  let v31 : BitVec 32 := Scalar.addi v30 c5_i32
  let c0_i32_11 : BitVec 32 := 0#32
  let c0_i32_12 : BitVec 32 := 0#32
  let c0_i32_13 : BitVec 32 := 0#32
  ![v31.toNat, c0_i32_11.toNat, c0_i32_12.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4608x1024 : Shape := ⟨2, ![4608, 1024]⟩
abbrev S4608x4096 : Shape := ⟨2, ![4608, 4096]⟩
abbrev S4096x1024 : Shape := ⟨2, ![4096, 1024]⟩
abbrev S4x6x1024 : Shape := ⟨3, ![4, 6, 1024]⟩
abbrev S2x2304x1024 : Shape := ⟨3, ![2, 2304, 1024]⟩
abbrev S2x256x1024 : Shape := ⟨3, ![2, 256, 1024]⟩
abbrev S2x2048x1024 : Shape := ⟨3, ![2, 2048, 1024]⟩
abbrev S2x2x6x1024 : Shape := ⟨4, ![2, 2, 6, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x4096, .bf16⟩
  | .hbm, ⟨2, _⟩ => ⟨S4096x1024, .f32⟩
  | .hbm, ⟨3, _⟩ => ⟨S4x6x1024, .f32⟩
  | .hbm, ⟨4, _⟩ => ⟨S2x2304x1024, .f32⟩
  | .hbm, ⟨5, _⟩ => ⟨S2x256x1024, .f32⟩
  | .hbm, ⟨6, _⟩ => ⟨S2x2048x1024, .f32⟩
  | .hbm, ⟨7, _⟩ => ⟨S4608x4096, .f32⟩
  | .hbm, ⟨8, _⟩ => ⟨S4608x1024, .f32⟩
  | .hbm, ⟨9, _⟩ => ⟨S2x2304x1024, .f32⟩
  | .hbm, ⟨10, _⟩ => ⟨S2x2048x1024, .f32⟩
  | .hbm, ⟨11, _⟩ => ⟨S2x2x6x1024, .f32⟩
  | .hbm, ⟨12, _⟩ => ⟨S2x1x1x1024, .f32⟩
  | .hbm, ⟨13, _⟩ => ⟨S2x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x256x1024, .f32⟩
  | .hbm, ⟨20, _⟩ => ⟨S2x2304x1024, .f32⟩
  | .hbm, ⟨21, _⟩ => ⟨S2x2304x1024, .f32⟩
  | .hbm, ⟨22, _⟩ => ⟨S4608x1024, .f32⟩
  | .hbm, ⟨23, _⟩ => ⟨S4608x1024, .f32⟩
  | .hbm, ⟨24, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel16.lean ====
abbrev S4608x1024 : Shape := ⟨2, ![4608, 1024]⟩
abbrev S4608x4096 : Shape := ⟨2, ![4608, 4096]⟩
abbrev S4096x1024 : Shape := ⟨2, ![4096, 1024]⟩
abbrev S4x6x1024 : Shape := ⟨3, ![4, 6, 1024]⟩
abbrev S1024 : Shape := ⟨1, ![1024]⟩
abbrev S4x1024x1024 : Shape := ⟨3, ![4, 1024, 1024]⟩
abbrev S24x1x1024 : Shape := ⟨3, ![24, 1, 1024]⟩
abbrev S1x1024 : Shape := ⟨2, ![1, 1024]⟩
abbrev S256x4096 : Shape := ⟨2, ![256, 4096]⟩
abbrev S256x1024 : Shape := ⟨2, ![256, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S4608x1024, .f32⟩
  | .hbm, ⟨1, _⟩ => ⟨S4608x4096, .bf16⟩
  | .hbm, ⟨2, _⟩ => ⟨S4096x1024, .f32⟩
  | .hbm, ⟨3, _⟩ => ⟨S4x6x1024, .f32⟩
  | .hbm, ⟨4, _⟩ => ⟨S4x6x1024, .f32⟩
  | .hbm, ⟨5, _⟩ => ⟨S1024, .f32⟩
  | .hbm, ⟨6, _⟩ => ⟨S4096x1024, .bf16⟩
  | .hbm, ⟨7, _⟩ => ⟨S4x1024x1024, .bf16⟩
  | .hbm, ⟨8, _⟩ => ⟨S24x1x1024, .f32⟩
  | .hbm, ⟨9, _⟩ => ⟨S24x1x1024, .f32⟩
  | .hbm, ⟨10, _⟩ => ⟨S1x1024, .f32⟩
  | .hbm, ⟨11, _⟩ => ⟨S4608x1024, .f32⟩
  | .hbm, ⟨12, _⟩ => ⟨S4608x1024, .bf16⟩
  | .hbm, ⟨13, _⟩ => ⟨S4608x1024, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S4x1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c5_i32 : BitVec 32 := 5#32
  let v31 : BitVec 32 := Scalar.addi v30 c5_i32
  let c0_i32_11 : BitVec 32 := 0#32
  let c0_i32_12 : BitVec 32 := 0#32
  let c0_i32_13 : BitVec 32 := 0#32
  ![v31.toNat, c0_i32_11.toNat, c0_i32_12.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c0_i32_11 : BitVec 32 := 0#32
  let v31 : BitVec 32 := Scalar.addi v30 c0_i32_11
  let c0_i32_12 : BitVec 32 := 0#32
  let c0_i32_13 : BitVec 32 := 0#32
  let c0_i32_14 : BitVec 32 := 0#32
  ![v31.toNat, c0_i32_12.toNat, c0_i32_13.toNat]

def cc0_transform_4 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c1_i32_11 : BitVec 32 := 1#32
  let v31 : BitVec 32 := Scalar.addi v30 c1_i32_11
  let c0_i32_12 : BitVec 32 := 0#32
  let c0_i32_13 : BitVec 32 := 0#32
  let c0_i32_14 : BitVec 32 := 0#32
  ![v31.toNat, c0_i32_12.toNat, c0_i32_13.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S4608x1024 : Shape := ⟨2, ![4608, 1024]⟩
abbrev S4608x4096 : Shape := ⟨2, ![4608, 4096]⟩
abbrev S4096x1024 : Shape := ⟨2, ![4096, 1024]⟩
abbrev S4x6x1024 : Shape := ⟨3, ![4, 6, 1024]⟩
abbrev S1024 : Shape := ⟨1, ![1024]⟩
abbrev S2x2x6x1024 : Shape := ⟨4, ![2, 2, 6, 1024]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x2048x1024 : Shape := ⟨3, ![2, 2048, 1024]⟩
abbrev S2x2304x1024 : Shape := ⟨3, ![2, 2304, 1024]⟩
abbrev S_ : Shape := ⟨0, ![]⟩
abbrev S4608 : Shape := ⟨1, ![4608]⟩
abbrev S4608x1 : Shape := ⟨2, ![4608, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x4096, .bf16⟩
  | .hbm, ⟨2, _⟩ => ⟨S4096x1024, .f32⟩
  | .hbm, ⟨3, _⟩ => ⟨S4x6x1024, .f32⟩
  | .hbm, ⟨4, _⟩ => ⟨S4x6x1024, .f32⟩
  | .hbm, ⟨5, _⟩ => ⟨S1024, .f32⟩
  | .hbm, ⟨6, _⟩ => ⟨S2x2x6x1024, .f32⟩
  | .hbm, ⟨7, _⟩ => ⟨S2x2x6x1024, .f32⟩
  | .hbm, ⟨8, _⟩ => ⟨S4608x4096, .f32⟩
  | .hbm, ⟨9, _⟩ => ⟨S4608x1024, .f32⟩
  | .hbm, ⟨10, _⟩ => ⟨S2x2x1x1024, .f32⟩
  | .hbm, ⟨11, _⟩ => ⟨S2x2x1024, .f32⟩
  | .hbm, ⟨12, _⟩ => ⟨S2x1x1024, .f32⟩
  | .hbm, ⟨13, _⟩ => ⟨S2x256x1024, .f32⟩
  | .hbm, ⟨14, _⟩ => ⟨S2x1x1024, .f32⟩
  | .hbm, ⟨15, _⟩ => ⟨S2x2048x1024, .f32⟩
  | .hbm, ⟨16, _⟩ => ⟨S2x2304x1024, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S_, .f32⟩
  | .hbm, ⟨22, _⟩ => ⟨S4608, .f32⟩
  | .hbm, ⟨23, _⟩ => ⟨S4608x1, .f32⟩
  | .hbm, ⟨24, _⟩ => ⟨S_, .f32⟩
  | .hbm, ⟨25, _⟩ => ⟨S4608x1, .f32⟩
  | .hbm, ⟨26, _⟩ => ⟨S4608x1, .f32⟩
  | .hbm, ⟨27, _⟩ => ⟨S_, .f32⟩
  | .hbm, ⟨28, _⟩ => ⟨S4608x1, .f32⟩
  | .hbm, ⟨29, _⟩ => ⟨S4608x1, .f32⟩
  | .hbm, ⟨30, _⟩ => ⟨S4608x1, .f32⟩
  | .hbm, ⟨31, _⟩ => ⟨S4608x1024, .f32⟩
  | .hbm, ⟨32, _⟩ => ⟨S4608x1024, .f32⟩
  | .hbm, ⟨33, _⟩ => ⟨S1x1024, .f32⟩
  | .hbm, ⟨34, _⟩ => ⟨S4608x1024, .f32⟩
  | .hbm, ⟨35, _⟩ => ⟨S4608x1024, .f32⟩
  | .hbm, ⟨36, _⟩ => ⟨S2x2x1x1024, .f32⟩
  | .hbm, ⟨37, _⟩ => ⟨S2x2x1024, .f32⟩
  | .hbm, ⟨38, _⟩ => ⟨S2x1x1024, .f32⟩
  | .hbm, ⟨39, _⟩ => ⟨S2x256x1024, .f32⟩
  | .hbm, ⟨40, _⟩ => ⟨S2x1x1024, .f32⟩
  | .hbm, ⟨41, _⟩ => ⟨S2x2048x1024, .f32⟩
  | .hbm, ⟨42, _⟩ => ⟨S2x2304x1024, .f32⟩
  | .hbm, ⟨43, _⟩ => ⟨S4608x1024, .f32⟩
  | .hbm, ⟨44, _⟩ => ⟨S_, .f32⟩
  | .hbm, ⟨45, _⟩ => ⟨S4608x1024, .f32⟩
  | .hbm, ⟨46, _⟩ => ⟨S4608x1024, .f32⟩
  | .hbm, ⟨47, _⟩ => ⟨S4608x1024, .f32⟩
  | .hbm, ⟨48, _⟩ => ⟨S2x2x1x1024, .f32⟩
  | .hbm, ⟨49, _⟩ => ⟨S2x2x1024, .f32⟩
  | .hbm, ⟨50, _⟩ => ⟨S2x1x1024, .f32⟩
  | .hbm, ⟨51, _⟩ => ⟨S2x256x1024, .f32⟩
  | .hbm, ⟨52, _⟩ => ⟨S2x1x1024, .f32⟩
  | .hbm, ⟨53, _⟩ => ⟨S2x2048x1024, .f32⟩
  | .hbm, ⟨54, _⟩ => ⟨S2x2304x1024, .f32⟩
  | .hbm, ⟨55, _⟩ => ⟨S4608x1024, .f32⟩
  | .hbm, ⟨56, _⟩ => ⟨S4608x1024, .f32⟩
  | .hbm, ⟨57, _⟩ => ⟨S4608x1024, .bf16⟩
  | .hbm, ⟨58, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel17.lean ====
abbrev S4608x512 : Shape := ⟨2, ![4608, 512]⟩
abbrev S4608x1024 : Shape := ⟨2, ![4608, 1024]⟩
abbrev S1024x1024 : Shape := ⟨2, ![1024, 1024]⟩
abbrev S4x6x1024 : Shape := ⟨3, ![4, 6, 1024]⟩
abbrev S1024 : Shape := ⟨1, ![1024]⟩
abbrev S24x1x1024 : Shape := ⟨3, ![24, 1, 1024]⟩
abbrev S1x1024 : Shape := ⟨2, ![1, 1024]⟩
abbrev S256x512 : Shape := ⟨2, ![256, 512]⟩
abbrev S256x1024 : Shape := ⟨2, ![256, 1024]⟩
abbrev S1x1x1024 : Shape := ⟨3, ![1, 1, 1024]⟩
abbrev S512x1024 : Shape := ⟨2, ![512, 1024]⟩
abbrev S256 : Shape := ⟨1, ![256]⟩
abbrev S256x1 : Shape := ⟨2, ![256, 1]⟩

abbrev nBuf : Space → Nat
  | .hbm => 12
  | .vmem => 20
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .f32⟩
  | .hbm, ⟨3, _⟩ => ⟨S1024x1024, .f32⟩
  | .hbm, ⟨4, _⟩ => ⟨S4x6x1024, .f32⟩
  | .hbm, ⟨5, _⟩ => ⟨S1024, .f32⟩
  | .hbm, ⟨6, _⟩ => ⟨S1024x1024, .bf16⟩
  | .hbm, ⟨7, _⟩ => ⟨S24x1x1024, .f32⟩
  | .hbm, ⟨8, _⟩ => ⟨S1x1024, .f32⟩
  | .hbm, ⟨9, _⟩ => ⟨S4608x1024, .f32⟩
  | .hbm, ⟨10, _⟩ => ⟨S4608x1024, .bf16⟩
  | .hbm, ⟨11, _⟩ => ⟨S4608x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c2_i32_11 : BitVec 32 := 2#32
  let v31 : BitVec 32 := Scalar.addi v30 c2_i32_11
  let c0_i32_12 : BitVec 32 := 0#32
  let c0_i32_13 : BitVec 32 := 0#32
  let c0_i32_14 : BitVec 32 := 0#32
  ![v31.toNat, c0_i32_12.toNat, c0_i32_13.toNat]

def cc0_transform_4 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c3_i32 : BitVec 32 := 3#32
  let v31 : BitVec 32 := Scalar.addi v30 c3_i32
  let c0_i32_11 : BitVec 32 := 0#32
  let c0_i32_12 : BitVec 32 := 0#32
  let c0_i32_13 : BitVec 32 := 0#32
  ![v31.toNat, c0_i32_11.toNat, c0_i32_12.toNat]

def cc0_transform_5 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c4_i32 : BitVec 32 := 4#32
  let v31 : BitVec 32 := Scalar.addi v30 c4_i32
  let c0_i32_11 : BitVec 32 := 0#32
  let c0_i32_12 : BitVec 32 := 0#32
  let c0_i32_13 : BitVec 32 := 0#32
  ![v31.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference17Ideal.lean ====
abbrev S4608x512 : Shape := ⟨2, ![4608, 512]⟩
abbrev S4608x1024 : Shape := ⟨2, ![4608, 1024]⟩
abbrev S1024x1024 : Shape := ⟨2, ![1024, 1024]⟩
abbrev S4x6x1024 : Shape := ⟨3, ![4, 6, 1024]⟩
abbrev S1024 : Shape := ⟨1, ![1024]⟩
abbrev S2x2x6x1024 : Shape := ⟨4, ![2, 2, 6, 1024]⟩
abbrev S2x2x1x1024 : Shape := ⟨4, ![2, 2, 1, 1024]⟩
abbrev S2x2x1024 : Shape := ⟨3, ![2, 2, 1024]⟩
abbrev S2x1x1024 : Shape := ⟨3, ![2, 1, 1024]⟩
abbrev S2x256x1024 : Shape := ⟨3, ![2, 256, 1024]⟩
abbrev S2x2048x1024 : Shape := ⟨3, ![2, 2048, 1024]⟩
abbrev S2x2304x1024 : Shape := ⟨3, ![2, 2304, 1024]⟩
abbrev S_ : Shape := ⟨0, ![]⟩
abbrev S4608 : Shape := ⟨1, ![4608]⟩
abbrev S4608x1 : Shape := ⟨2, ![4608, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .f32⟩
  | .hbm, ⟨3, _⟩ => ⟨S1024x1024, .f32⟩
  | .hbm, ⟨4, _⟩ => ⟨S4x6x1024, .f32⟩
  | .hbm, ⟨5, _⟩ => ⟨S1024, .f32⟩
  | .hbm, ⟨6, _⟩ => ⟨S2x2x6x1024, .f32⟩
  | .hbm, ⟨7, _⟩ => ⟨S4608x1024, .bf16⟩
  | .hbm, ⟨8, _⟩ => ⟨S4608x1024, .f32⟩
  | .hbm, ⟨9, _⟩ => ⟨S4608x1024, .f32⟩
  | .hbm, ⟨10, _⟩ => ⟨S2x2x1x1024, .f32⟩
  | .hbm, ⟨11, _⟩ => ⟨S2x2x1024, .f32⟩
  | .hbm, ⟨12, _⟩ => ⟨S2x1x1024, .f32⟩
  | .hbm, ⟨13, _⟩ => ⟨S2x256x1024, .f32⟩
  | .hbm, ⟨14, _⟩ => ⟨S2x1x1024, .f32⟩
  | .hbm, ⟨15, _⟩ => ⟨S2x2048x1024, .f32⟩
  | .hbm, ⟨16, _⟩ => ⟨S2x2304x1024, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S_, .f32⟩
  | .hbm, ⟨22, _⟩ => ⟨S4608, .f32⟩
  | .hbm, ⟨23, _⟩ => ⟨S4608x1, .f32⟩
  | .hbm, ⟨24, _⟩ => ⟨S_, .f32⟩
  | .hbm, ⟨25, _⟩ => ⟨S4608x1, .f32⟩
  | .hbm, ⟨26, _⟩ => ⟨S4608x1, .f32⟩
  | .hbm, ⟨27, _⟩ => ⟨S_, .f32⟩
  | .hbm, ⟨28, _⟩ => ⟨S4608x1, .f32⟩
  | .hbm, ⟨29, _⟩ => ⟨S4608x1, .f32⟩
  | .hbm, ⟨30, _⟩ => ⟨S4608x1, .f32⟩
  | .hbm, ⟨31, _⟩ => ⟨S4608x1024, .f32⟩
  | .hbm, ⟨32, _⟩ => ⟨S4608x1024, .f32⟩
  | .hbm, ⟨33, _⟩ => ⟨S1x1024, .f32⟩
  | .hbm, ⟨34, _⟩ => ⟨S4608x1024, .f32⟩
  | .hbm, ⟨35, _⟩ => ⟨S4608x1024, .f32⟩
  | .hbm, ⟨36, _⟩ => ⟨S2x2x1x1024, .f32⟩
  | .hbm, ⟨37, _⟩ => ⟨S2x2x1024, .f32⟩
  | .hbm, ⟨38, _⟩ => ⟨S2x1x1024, .f32⟩
  | .hbm, ⟨39, _⟩ => ⟨S2x256x1024, .f32⟩
  | .hbm, ⟨40, _⟩ => ⟨S2x1x1024, .f32⟩
  | .hbm, ⟨41, _⟩ => ⟨S2x2048x1024, .f32⟩
  | .hbm, ⟨42, _⟩ => ⟨S2x2304x1024, .f32⟩
  | .hbm, ⟨43, _⟩ => ⟨S4608x1024, .f32⟩
  | .hbm, ⟨44, _⟩ => ⟨S_, .f32⟩
  | .hbm, ⟨45, _⟩ => ⟨S4608x1024, .f32⟩
  | .hbm, ⟨46, _⟩ => ⟨S4608x1024, .f32⟩
  | .hbm, ⟨47, _⟩ => ⟨S4608x1024, .f32⟩
  | .hbm, ⟨48, _⟩ => ⟨S2x2x1x1024, .f32⟩
  | .hbm, ⟨49, _⟩ => ⟨S2x2x1024, .f32⟩
  | .hbm, ⟨50, _⟩ => ⟨S2x1x1024, .f32⟩
  | .hbm, ⟨51, _⟩ => ⟨S2x256x1024, .f32⟩
  | .hbm, ⟨52, _⟩ => ⟨S2x1x1024, .f32⟩
  | .hbm, ⟨53, _⟩ => ⟨S2x2048x1024, .f32⟩
  | .hbm, ⟨54, _⟩ => ⟨S2x2304x1024, .f32⟩
  | .hbm, ⟨55, _⟩ => ⟨S4608x1024, .f32⟩
  | .hbm, ⟨56, _⟩ => ⟨S4608x1024, .f32⟩
  | .hbm, ⟨57, _⟩ => ⟨S4608x1024, .bf16⟩
  | .hbm, ⟨58, _⟩ => ⟨S4608x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel18.lean ====
abbrev S4608x512 : Shape := ⟨2, ![4608, 512]⟩
abbrev S4608x1024 : Shape := ⟨2, ![4608, 1024]⟩
abbrev S1024x1024 : Shape := ⟨2, ![1024, 1024]⟩
abbrev S4x6x1024 : Shape := ⟨3, ![4, 6, 1024]⟩
abbrev S1024 : Shape := ⟨1, ![1024]⟩
abbrev S24x1x1024 : Shape := ⟨3, ![24, 1, 1024]⟩
abbrev S1x1024 : Shape := ⟨2, ![1, 1024]⟩
abbrev S256x512 : Shape := ⟨2, ![256, 512]⟩
abbrev S256x1024 : Shape := ⟨2, ![256, 1024]⟩
abbrev S1x1x1024 : Shape := ⟨3, ![1, 1, 1024]⟩
abbrev S512x1024 : Shape := ⟨2, ![512, 1024]⟩
abbrev S256 : Shape := ⟨1, ![256]⟩
abbrev S256x1 : Shape := ⟨2, ![256, 1]⟩

abbrev nBuf : Space → Nat
  | .hbm => 12
  | .vmem => 20
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .f32⟩
  | .hbm, ⟨3, _⟩ => ⟨S1024x1024, .f32⟩
  | .hbm, ⟨4, _⟩ => ⟨S4x6x1024, .f32⟩
  | .hbm, ⟨5, _⟩ => ⟨S1024, .f32⟩
  | .hbm, ⟨6, _⟩ => ⟨S1024x1024, .bf16⟩
  | .hbm, ⟨7, _⟩ => ⟨S24x1x1024, .f32⟩
  | .hbm, ⟨8, _⟩ => ⟨S1x1024, .f32⟩
  | .hbm, ⟨9, _⟩ => ⟨S4608x1024, .f32⟩
  | .hbm, ⟨10, _⟩ => ⟨S4608x1024, .bf16⟩
  | .hbm, ⟨11, _⟩ => ⟨S4608x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .sge v9 c1_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c9_i32_5 : BitVec 32 := 9#32
  let c0_i32_6 : BitVec 32 := 0#32
  let v13 : BitVec 1 := Scalar.cmpi .eq c9_i32_5 c0_i32_6
  let c1_i32_7 : BitVec 32 := 1#32
  let v14 : BitVec 32 := Scalar.select v13 c1_i32_7 c9_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_11 : BitVec 32 := 0#32
  let v23 : BitVec 1 := Scalar.cmpi .eq v22 c0_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c2_i32_11 : BitVec 32 := 2#32
  let v31 : BitVec 32 := Scalar.addi v30 c2_i32_11
  let c0_i32_12 : BitVec 32 := 0#32
  let c0_i32_13 : BitVec 32 := 0#32
  let c0_i32_14 : BitVec 32 := 0#32
  ![v31.toNat, c0_i32_12.toNat, c0_i32_13.toNat]

def cc0_transform_4 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c3_i32 : BitVec 32 := 3#32
  let v31 : BitVec 32 := Scalar.addi v30 c3_i32
  let c0_i32_11 : BitVec 32 := 0#32
  let c0_i32_12 : BitVec 32 := 0#32
  let c0_i32_13 : BitVec 32 := 0#32
  ![v31.toNat, c0_i32_11.toNat, c0_i32_12.toNat]

def cc0_transform_5 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c6_i32 : BitVec 32 := 6#32
  let v30 : BitVec 32 := Scalar.muli v29 c6_i32
  let c4_i32 : BitVec 32 := 4#32
  let v31 : BitVec 32 := Scalar.addi v30 c4_i32
  let c0_i32_11 : BitVec 32 := 0#32
  let c0_i32_12 : BitVec 32 := 0#32
  let c0_i32_13 : BitVec 32 := 0#32
  ![v31.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S4608x512 : Shape := ⟨2, ![4608, 512]⟩
abbrev S4608x1024 : Shape := ⟨2, ![4608, 1024]⟩
abbrev S1024x1024 : Shape := ⟨2, ![1024, 1024]⟩
abbrev S4x6x1024 : Shape := ⟨3, ![4, 6, 1024]⟩
abbrev S1024 : Shape := ⟨1, ![1024]⟩
abbrev S2x2x6x1024 : Shape := ⟨4, ![2, 2, 6, 1024]⟩
abbrev S2x1x6x1024 : Shape := ⟨4, ![2, 1, 6, 1024]⟩
abbrev S2x6x1024 : Shape := ⟨3, ![2, 6, 1024]⟩
abbrev S2x2304x1024 : Shape := ⟨3, ![2, 2304, 1024]⟩
abbrev S2x2048x1024 : Shape := ⟨3, ![2, 2048, 1024]⟩
abbrev S2x256x1024 : Shape := ⟨3, ![2, 256, 1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S4608x512, .bf16⟩
  | .hbm, ⟨2, _⟩ => ⟨S4608x1024, .f32⟩
  | .hbm, ⟨3, _⟩ => ⟨S1024x1024, .f32⟩
  | .hbm, ⟨4, _⟩ => ⟨S4x6x1024, .f32⟩
  | .hbm, ⟨5, _⟩ => ⟨S1024, .f32⟩
  | .hbm, ⟨6, _⟩ => ⟨S2x2x6x1024, .f32⟩
  | .hbm, ⟨7, _⟩ => ⟨S2x1x6x1024, .f32⟩
  | .hbm, ⟨8, _⟩ => ⟨S2x6x1024, .f32⟩
  | .hbm, ⟨9, _⟩ => ⟨S4608x1024, .bf16⟩
  | .hbm, ⟨10, _⟩ => ⟨S4608x1024, .f32⟩
  | .hbm, ⟨11, _⟩ => ⟨S4608x1024, .f32⟩
  | .hbm, ⟨12, _⟩ => ⟨S2x2304x1024, .f32⟩
  | .hbm, ⟨13, _⟩ => ⟨S2x2048x1024, .f32⟩
  | .hbm, ⟨14, _⟩ => ⟨S2x2304x1024, .f32⟩
  | .hbm, ⟨15, _⟩ => ⟨S2x256x1024, .f32⟩
  | .hbm, ⟨16, _⟩ => ⟨S2x2048x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x1x1024, .f32⟩
  | .hbm, ⟨40, _⟩ => ⟨S2x1024, .f32⟩
  | .hbm, ⟨41, _⟩ => ⟨S2x1x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x1x1024, .f32⟩
  | .hbm, ⟨48, _⟩ => ⟨S2x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x256x1024, .f32⟩
  | .hbm, ⟨54, _⟩ => ⟨S2x2304x1024, .f32⟩
  | .hbm, ⟨55, _⟩ => ⟨S4608x1024, .f32⟩
  | .hbm, ⟨56, _⟩ => ⟨S2x2304x1024, .f32⟩
  | .hbm, ⟨57, _⟩ => ⟨S4608x1024, .f32⟩
  | .hbm, ⟨58, _⟩ => ⟨S2x2304x1024, .f32⟩
  | .hbm, ⟨59, _⟩ => ⟨S4608x1024, .f32⟩
  | .hbm, ⟨60, _⟩ => ⟨S4608x1024, .bf16⟩
  | .hbm, ⟨61, _⟩ => ⟨S4608x1024, .bf16⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Proof.Pieces.lean ====
module
public import Idealize.ShloMosaic.Lib.Pipeline.ValueKit
public import Idealize.ShloMosaic.Lib.Pipeline.ReadBack
@[expose] public section
/-! A buffer left by a list of stores, read at an index: the last store that holds the index decides. -/
noncomputable section
open Idealize.ShloMosaic
namespace Cert.Pieces
variable {S : Shape} {e : EltTy} {Val : EltTy → Type}

/-- A store that misses the index on axis `a` is passed over. -/
theorem skip [∀ e, Nonempty (Val e)] {off size : Fin S.rank → ℕ} {inb : ∀ a, off a + size a ≤ S.size a}
    (w : (Rect.unit off size inb).shape.Idx → Val e) (L : List (View.Piece Val S e)) (y : S.Idx) (a : Fin S.rank)
    (h : (y a : ℕ) < off a ∨ off a + size a ≤ (y a : ℕ)) :
    View.canon ((⟨Rect.unit off size inb, w⟩ : View.Piece Val S e) :: L) y = View.canon L y :=
  View.canon_cons_of_not_mem _ _ fun hm => by
    have := (Rect.mem_set_unit (inb := inb)).1 hm a
    omega

/-- A store that holds the index gives its own value there. -/
theorem here [∀ e, Nonempty (Val e)] {off size : Fin S.rank → ℕ} {inb : ∀ a, off a + size a ≤ S.size a}
    (w : (Rect.unit off size inb).shape.Idx → Val e) (L : List (View.Piece Val S e)) (y : S.Idx) (x : (Rect.unit off size inb).shape.Idx)
    (h : ∀ a, (y a : ℕ) = off a + (x a : ℕ)) :
    View.canon ((⟨Rect.unit off size inb, w⟩ : View.Piece Val S e) :: L) y = w x := by
  have : y = (Rect.unit off size inb).emb x := funext fun a => Fin.ext (by rw [h a]; exact (Rect.idx_unit_val ..).symm)
  rw [this]
  exact View.canon_cons_emb _ w L x

end Cert.Pieces
end
-- ==== Proof.BlockDefs.lean ====
module
public import proofs.«01_k».proof.Proof.Gen.KernelIdeal.Value
public import proofs.«01_k».proof.Proof.Pieces
@[expose] public section
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
/-! What one block of rows contributes to the gradients, head by head. -/
variable (Q : FVec Ideal S256x512 .bf16) (X : FVec Ideal S2304x256 .bf16) (O D : FVec Ideal S256x512 .bf16) (W : FVec Ideal S256x8 .f32)
/-- Column `d` of head `h`. -/
abbrev hc (h : Fin 8) (d : Fin 64) : Fin 512 := ⟨64 * h.val + d.val, by omega⟩
/-- Column `d` of the keys that head `h` reads. -/
abbrev kc (h : Fin 8) (d : Fin 64) : Fin 256 := ⟨64 * (h.val / 4) + d.val, by omega⟩
/-- Column `d` of the values that head `h` reads. -/
abbrev vc (h : Fin 8) (d : Fin 64) : Fin 256 := ⟨128 + 64 * (h.val / 4) + d.val, by omega⟩
/-- Row `r`'s probability at key `k`, head `h`. -/
def pB (h : Fin 8) (r : Fin 256) (k : Fin 2304) : EReal :=
  Ideal.exp ((∑ d : Fin 64, Q (ix2 r (hc h d)) * X (ix2 k (kc h d))) - W (ix2 r h))
/-- The gradient of row `r`'s score at key `k`, head `h`. -/
def dsB (h : Fin 8) (r : Fin 256) (k : Fin 2304) : EReal :=
  pB Q X W h r k * ((∑ d : Fin 64, D (ix2 r (hc h d)) * X (ix2 k (vc h d))) - ∑ d : Fin 64, D (ix2 r (hc h d)) * O (ix2 r (hc h d)))
/-- The rows' contribution to the gradient of key `k`, head `h`. -/
def dkB (h : Fin 8) (d : Fin 64) (k : Fin 2304) : EReal := ∑ r : Fin 256, Q (ix2 r (hc h d)) * dsB Q X O D W h r k
/-- The rows' contribution to the gradient of value `k`, head `h`. -/
def dvB (h : Fin 8) (d : Fin 64) (k : Fin 2304) : EReal := ∑ r : Fin 256, D (ix2 r (hc h d)) * pB Q X W h r k
/-- The gradient of row `r`'s query over the first `n` keys. -/
def dqB (n : ℕ) (hn : n ≤ 2304) (h : Fin 8) (r : Fin 256) (d : Fin 64) : EReal :=
  ∑ k : Fin n, dsB Q X O D W h r ⟨k.val, by omega⟩ * X (ix2 (⟨k.val, by omega⟩ : Fin 2304) (kc h d))
end Cert.KernelIdeal.Hand
end
-- ==== Proof.Rows.lean ====
module
public import Idealize.ShloMosaic.PureOps.Ideal
public import Mathlib.Analysis.SpecialFunctions.Log.Basic
@[expose] public section
/-! One row of a softmax attention over the extended reals: the probabilities rebuilt from the saved log-sum are the
    normalised exponentials, and the two ways of writing the gradient of the scores agree when the row is finite. -/
noncomputable section
open Idealize.ShloMosaic
namespace Cert.Rows

/-- An extended real that is a real. -/
def IsR (x : EReal) : Prop := ∃ r : ℝ, x = r

theorem IsR.sum {ι : Type} {s : Finset ι} {f : ι → EReal} (h : ∀ i ∈ s, IsR (f i)) : IsR (∑ i ∈ s, f i) := by
  classical
  induction s using Finset.induction_on with
  | empty => exact ⟨0, by simp⟩
  | insert a s ha ih =>
    rw [Finset.sum_insert ha]
    obtain ⟨x, hx⟩ := h a (Finset.mem_insert_self _ _)
    obtain ⟨y, hy⟩ := ih fun i hi => h i (Finset.mem_insert_of_mem hi)
    exact ⟨x + y, by rw [hx, hy]; rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = (Real.exp x : EReal) := rfl

theorem log_coe {x : ℝ} (h : 0 < x) : Ideal.log (x : EReal) = (Real.log x : EReal) := by
  show (if x ≤ 0 then (⊥ : EReal) else (Real.log x : EReal)) = _
  rw [if_neg (not_le.mpr h)]

theorem div_coe (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

variable {n d : ℕ}

/-- The greatest score of a row. -/
def top (s : Fin n → EReal) : EReal := Finset.univ.fold max ⊥ s
/-- The sum of the shifted exponentials of a row. -/
def den (s : Fin n → EReal) : EReal := ∑ k, Ideal.exp (s k - top s)
/-- A row's normalised exponential. -/
def prob (s : Fin n → EReal) (k : Fin n) : EReal := Ideal.div (Ideal.exp (s k - top s)) (den s)
/-- The gradient of a row's scores as the derivative of the softmax is written: `g` is the gradient of the probabilities. -/
def grad (s g : Fin n → EReal) (k : Fin n) : EReal :=
  (Ideal.div (g k) (den s) + -(∑ j, g j * Ideal.div 1 (den s * den s) * Ideal.exp (s j - top s))) * Ideal.exp (s k - top s)

theorem top_real (hn : 0 < n) (s : Fin n → EReal) (hs : ∀ k, IsR (s k)) : IsR (top s) := by
  have key : ∀ S : Finset (Fin n), S.fold max ⊥ s = ⊥ ∨ IsR (S.fold max ⊥ s) := by
    classical
    intro S
    induction S using Finset.induction_on with
    | empty => exact .inl rfl
    | insert a S ha ih =>
      rw [Finset.fold_insert ha]
      rcases ih with h | h
      · rw [h, max_bot_right]; exact .inr (hs a)
      · rcases max_choice (s a) (S.fold max ⊥ s) with e | e <;> rw [e]
        · exact .inr (hs a)
        · exact .inr h
  rcases key Finset.univ with h | h
  · exfalso
    have : s ⟨0, hn⟩ ≤ Finset.univ.fold max ⊥ s := by
      rw [Finset.le_fold_max]; exact .inr ⟨_, Finset.mem_univ _, le_rfl⟩
    rw [h, le_bot_iff] at this
    obtain ⟨r, hr⟩ := hs ⟨0, hn⟩
    rw [hr] at this
    exact EReal.coe_ne_bot r this
  · exact h

/-- A finite row in real terms: its greatest score and its positive sum. -/
theorem den_real (hn : 0 < n) (s : Fin n → ℝ) : ∃ M Z : ℝ, 0 < Z ∧ top (fun k => (s k : EReal)) = M
    ∧ den (fun k => (s k : EReal)) = Z ∧ Z = ∑ k, Real.exp (s k - M) := by
  obtain ⟨M, hM⟩ := top_real hn (fun k => (s k : EReal)) fun k => ⟨s k, rfl⟩
  refine ⟨M, ∑ k, Real.exp (s k - M), ?_, hM, ?_, rfl⟩
  · exact Finset.sum_pos (fun k _ => Real.exp_pos _) ⟨⟨0, hn⟩, Finset.mem_univ _⟩
  · unfold den
    rw [hM, coe_sum]
    exact Finset.sum_congr rfl fun k _ => by rw [← EReal.coe_sub, exp_coe]

theorem prob_eq (hn : 0 < n) (s : Fin n → EReal) (hs : ∀ k, IsR (s k)) (k : Fin n) :
    Ideal.exp (s k - (top s + Ideal.log (den s))) = prob s k := by
  choose r hr using hs
  obtain rfl : s = fun k => (r k : EReal) := funext hr
  obtain ⟨M, Z, hZ, h1, h2, -⟩ := den_real hn r
  unfold prob
  rw [h1, h2, log_coe hZ, ← EReal.coe_add, ← EReal.coe_sub, ← EReal.coe_sub, exp_coe, exp_coe, div_coe _ hZ.ne']
  congr 1
  rw [← sub_sub, Real.exp_sub, Real.exp_log hZ]

theorem grad_eq (hn : 0 < n) (s : Fin n → EReal) (hs : ∀ k, IsR (s k)) (v : Fin n → Fin d → EReal) (hv : ∀ k e, IsR (v k e))
    (g : Fin d → EReal) (hg : ∀ e, IsR (g e)) (k : Fin n) :
    prob s k * ((∑ e, g e * v k e) - ∑ e, g e * (∑ j, prob s j * v j e)) = grad s (fun j => ∑ e, g e * v j e) k := by
  choose r hr using hs
  obtain rfl : s = fun k => (r k : EReal) := funext hr
  choose w hw using hv
  obtain rfl : v = fun k e => (w k e : EReal) := funext fun k => funext (hw k)
  choose f hf using hg
  obtain rfl : g = fun e => (f e : EReal) := funext hf
  obtain ⟨M, Z, hZ, h1, h2, -⟩ := den_real hn r
  have hp : ∀ j, prob (fun k => (r k : EReal)) j = ((Real.exp (r j - M) / Z : ℝ) : EReal) := fun j => by
    unfold prob; rw [h1, h2, ← EReal.coe_sub, exp_coe, div_coe _ hZ.ne']
  unfold grad
  simp only [hp, h1, h2]
  simp only [← EReal.coe_mul, ← EReal.coe_sub, ← coe_sum, ← EReal.coe_one, exp_coe, div_coe _ hZ.ne',
    div_coe _ (mul_pos hZ hZ).ne', ← EReal.coe_neg, ← EReal.coe_add]
  congr 1
  have e : ∑ x, f x * ∑ j, Real.exp (r j - M) / Z * w j x = (∑ j, Real.exp (r j - M) * ∑ x, f x * w j x) / Z := by
    simp only [Finset.mul_sum, Finset.sum_div]
    rw [Finset.sum_comm]
    exact Finset.sum_congr rfl fun j _ => Finset.sum_congr rfl fun x _ => by ring
  have e' : ∑ j, (∑ x, f x * w j x) * (1 / (Z * Z)) * Real.exp (r j - M) = (∑ j, Real.exp (r j - M) * ∑ x, f x * w j x) / (Z * Z) := by
    rw [Finset.sum_div]
    exact Finset.sum_congr rfl fun j _ => by ring
  rw [e, e']
  have hz := hZ.ne'
  field_simp
  ring

end Cert.Rows
end
-- ==== Proof.Spec.lean ====
module
public import proofs.«01_k».proof.Proof.BlockDefs
public import proofs.«01_k».proof.Proof.Rows
@[expose] public section
/-! The attention's gradients as functions of the three argument arrays, row by row and head by head: what both
programs are read as. -/
noncomputable section
open Idealize.ShloMosaic
namespace Cert.KernelIdeal.Hand
open Cert.KernelIdeal Cert.KernelIdeal.Gen
variable (Q : FVec Ideal S4608x512 .bf16) (X : FVec Ideal S4608x256 .bf16) (D : FVec Ideal S4608x1024 .bf16)

/-- Row `i` of example `e`. -/
abbrev row (e : Fin 2) (i : Fin 2304) : Fin 4608 := ⟨2304 * e.val + i.val, by omega⟩
/-- Column `d` of head `h` in the incoming gradient. -/
abbrev gc (h : Fin 8) (d : Fin 64) : Fin 1024 := ⟨64 * h.val + d.val, by omega⟩
/-- One of the first `n` rows of an example. -/
abbrev up {n : ℕ} (hn : n ≤ 2304) (k : Fin n) : Fin 2304 := ⟨k.val, by omega⟩

/-- The scores of row `i` of example `e` over the first `n` keys, head `h`. -/
def score (n : ℕ) (hn : n ≤ 2304) (e : Fin 2) (h : Fin 8) (i : Fin 2304) (k : Fin n) : EReal :=
  ∑ d : Fin 64, Q (ix2 (row e i) (hc h d)) * X (ix2 (row e (up hn k)) (kc h d))
/-- The gradient reaching the probability of key `k`. -/
def dprob (n : ℕ) (hn : n ≤ 2304) (e : Fin 2) (h : Fin 8) (i : Fin 2304) (k : Fin n) : EReal :=
  ∑ d : Fin 64, D (ix2 (row e i) (gc h d)) * X (ix2 (row e (up hn k)) (vc h d))
/-- The attention's output. -/
def out (n : ℕ) (hn : n ≤ 2304) (e : Fin 2) (h : Fin 8) (i : Fin 2304) (d : Fin 64) : EReal :=
  ∑ k : Fin n, Rows.prob (score Q X n hn e h i) k * X (ix2 (row e (up hn k)) (vc h d))
/-- The logarithm of the sum of the exponentials of a row's scores. -/
def lse (n : ℕ) (hn : n ≤ 2304) (e : Fin 2) (h : Fin 8) (i : Fin 2304) : EReal :=
  Rows.top (score Q X n hn e h i) + Ideal.log (Rows.den (score Q X n hn e h i))
/-- The gradient of a row's score at key `k`. -/
def dscore (n : ℕ) (hn : n ≤ 2304) (e : Fin 2) (h : Fin 8) (i : Fin 2304) (k : Fin n) : EReal :=
  Rows.grad (score Q X n hn e h i) (dprob X D n hn e h i) k
/-- The gradient of a query. -/
def gradQ (n : ℕ) (hn : n ≤ 2304) (e : Fin 2) (h : Fin 8) (i : Fin 2304) (d : Fin 64) : EReal :=
  ∑ k : Fin n, dscore Q X D n hn e h i k * X (ix2 (row e (up hn k)) (kc h d))
/-- What row `i`, which attends to `n` keys, adds to the gradient of key `k`, head `h`. -/
def termK (n : ℕ) (hn : n ≤ 2304) (e : Fin 2) (h : Fin 8) (d : Fin 64) (k : Fin n) (i : Fin 2304) : EReal :=
  Q (ix2 (row e i) (hc h d)) * dscore Q X D n hn e h i k
/-- What row `i`, which attends to `n` keys, adds to the gradient of value `k`, head `h`. -/
def termV (n : ℕ) (hn : n ≤ 2304) (e : Fin 2) (h : Fin 8) (d : Fin 64) (k : Fin n) (i : Fin 2304) : EReal :=
  D (ix2 (row e i) (gc h d)) * Rows.prob (score Q X n hn e h i) k
/-- One of the four heads of group `g`. -/
abbrev gh (g : Fin 2) (a : Fin 4) : Fin 8 := ⟨4 * g.val + a.val, by omega⟩
/-- The two parts' sum at key `k`: the context's rows reach the context's keys only. -/
def both (T : (n : ℕ) → (hn : n ≤ 2304) → Fin 8 → Fin n → Fin 2304 → EReal) (g : Fin 2) (k : Fin 2304) : EReal :=
  (if hk : k.val < 256 then ∑ a : Fin 4, ∑ i : Fin 256, T 256 (by decide) (gh g a) ⟨k.val, hk⟩ ⟨i.val, by omega⟩ else 0)
    + ∑ a : Fin 4, ∑ i : Fin 2048, T 2304 (by decide) (gh g a) k ⟨256 + i.val, by omega⟩

end Cert.KernelIdeal.Hand
end
-- ==== Proof.HostOps.lean ====
module
public import proofs.«01_k».proof.Proof.Gen.KernelIdeal.Value
public import proofs.«01_k».proof.Proof.Spec
@[expose] public section
/-! The host's operations that save the attention's output and log-sums, one by one, as functions of the arguments. -/
set_option maxRecDepth 16384
noncomputable section
open Idealize.ShloMosaic Idealize.ShloMosaic.TcCoe Idealize.SL.Sem
namespace Cert.KernelIdeal.Hand
open Cert.KernelIdeal Cert.KernelIdeal.Gen
def w0 (q : FVec Ideal S4608x512 .bf16) (x : FVec Ideal S4608x256 .bf16) : FVec Ideal S4608x512 .f32 := extf .f32 q bitsLt_bf16_f32
def w1 (q : FVec Ideal S4608x512 .bf16) (x : FVec Ideal S4608x256 .bf16) : FVec Ideal S4608x256 .f32 := extf .f32 x bitsLt_bf16_f32
def w2 (q : FVec Ideal S4608x512 .bf16) (x : FVec Ideal S4608x256 .bf16) : FVec Ideal S2x2304x2x4x64 .f32 := shapeCast _ (w0 q x) shapeCasts_S4608x512_S2x2304x2x4x64
def w3 (q : FVec Ideal S4608x512 .bf16) (x : FVec Ideal S4608x256 .bf16) : FVec Ideal S2x2x4x2304x64 .f32 := transpose S2x2x4x2304x64 [0, 2, 3, 1, 4] (w2 q x) transposes_S2x2304x2x4x64_S2x2x4x2304x64_0_2_3_1_4
def w4 (q : FVec Ideal S4608x512 .bf16) (x : FVec Ideal S4608x256 .bf16) : FVec Ideal S4608x128 .f32 := extractStridedSlice S4608x128 ![0, 0] (w1 q x) slices_S4608x256_S4608x128_0_0
def w5 (q : FVec Ideal S4608x512 .bf16) (x : FVec Ideal S4608x256 .bf16) : FVec Ideal S2x2304x2x64 .f32 := shapeCast _ (w4 q x) shapeCasts_S4608x128_S2x2304x2x64
def w6 (q : FVec Ideal S4608x512 .bf16) (x : FVec Ideal S4608x256 .bf16) : FVec Ideal S2x2x2304x64 .f32 := transpose S2x2x2304x64 [0, 2, 1, 3] (w5 q x) transposes_S2x2304x2x64_S2x2x2304x64_0_2_1_3
def w7 (q : FVec Ideal S4608x512 .bf16) (x : FVec Ideal S4608x256 .bf16) : FVec Ideal S4608x128 .f32 := extractStridedSlice S4608x128 ![0, 128] (w1 q x) slices_S4608x256_S4608x128_0_128
def w8 (q : FVec Ideal S4608x512 .bf16) (x : FVec Ideal S4608x256 .bf16) : FVec Ideal S2x2304x2x64 .f32 := shapeCast _ (w7 q x) shapeCasts_S4608x128_S2x2304x2x64
def w9 (q : FVec Ideal S4608x512 .bf16) (x : FVec Ideal S4608x256 .bf16) : FVec Ideal S2x2x2304x64 .f32 := transpose S2x2x2304x64 [0, 2, 1, 3] (w8 q x) transposes_S2x2304x2x64_S2x2x2304x64_0_2_1_3
def w10 (q : FVec Ideal S4608x512 .bf16) (x : FVec Ideal S4608x256 .bf16) : FVec Ideal S2x2x4x256x64 .f32 := extractStridedSlice S2x2x4x256x64 ![0, 0, 0, 0, 0] (w3 q x) slices_S2x2x4x2304x64_S2x2x4x256x64_0_0_0_0_0
def w11 (q : FVec Ideal S4608x512 .bf16) (x : FVec Ideal S4608x256 .bf16) : FVec Ideal S2x2x256x64 .f32 := extractStridedSlice S2x2x256x64 ![0, 0, 0, 0] (w6 q x) slices_S2x2x2304x64_S2x2x256x64_0_0_0_0
def w12 (q : FVec Ideal S4608x512 .bf16) (x : FVec Ideal S4608x256 .bf16) : FVec Ideal S2x2x256x64 .f32 := extractStridedSlice S2x2x256x64 ![0, 0, 0, 0] (w9 q x) slices_S2x2x2304x64_S2x2x256x64_0_0_0_0
def w13 (q : FVec Ideal S4608x512 .bf16) (x : FVec Ideal S4608x256 .bf16) : FVec Ideal S2x2x4x256x256 .f32 := Host.dotGeneral dot_S2x2x4x256x64_S2x2x256x64_S2x2x4x256x256_4_3_23_2_01_01 none (w10 q x) (w11 q x)
def wcst (q : FVec Ideal S4608x512 .bf16) (x : FVec Ideal S4608x256 .bf16) : FVec Ideal S_ .f32 := constant S_ .f32 0xFF800000#32
def w14 (q : FVec Ideal S4608x512 .bf16) (x : FVec Ideal S4608x256 .bf16) : FVec Ideal S2x2x4x256 .f32 := Host.reduce FloatOps.maximumf (w13 q x) (wcst q x) reducesTo_S2x2x4x256x256_S2x2x4x256_d4 h_S_
def w15 (q : FVec Ideal S4608x512 .bf16) (x : FVec Ideal S4608x256 .bf16) : FVec Ideal S2x2x4x256x1 .f32 := broadcastInDim S2x2x4x256x1 ![0, 1, 2, 3] bcast_S2x2x4x256_S2x2x4x256x1_0_1_2_3 (w14 q x)
def w16 (q : FVec Ideal S4608x512 .bf16) (x : FVec Ideal S4608x256 .bf16) : FVec Ideal S2x2x4x256x256 .f32 := broadcastInDim S2x2x4x256x256 ![0, 1, 2, 3, 4] bcast_S2x2x4x256x1_S2x2x4x256x256_0_1_2_3_4 (w15 q x)
def w17 (q : FVec Ideal S4608x512 .bf16) (x : FVec Ideal S4608x256 .bf16) : FVec Ideal S2x2x4x256x256 .f32 := subf (w13 q x) (w16 q x)
def w18 (q : FVec Ideal S4608x512 .bf16) (x : FVec Ideal S4608x256 .bf16) : FVec Ideal S2x2x4x256x256 .f32 := Host.exp (w17 q x)
def wcst_0 (q : FVec Ideal S4608x512 .bf16) (x : FVec Ideal S4608x256 .bf16) : FVec Ideal S_ .f32 := constant S_ .f32 0x00000000#32
def w19 (q : FVec Ideal S4608x512 .bf16) (x : FVec Ideal S4608x256 .bf16) : FVec Ideal S2x2x4x256 .f32 := Host.reduceAdd (w18 q x) (wcst_0 q x) reducesTo_S2x2x4x256x256_S2x2x4x256_d4 h_S_
def w20 (q : FVec Ideal S4608x512 .bf16) (x : FVec Ideal S4608x256 .bf16) : FVec Ideal S2x2x4x256x1 .f32 := broadcastInDim S2x2x4x256x1 ![0, 1, 2, 3] bcast_S2x2x4x256_S2x2x4x256x1_0_1_2_3 (w19 q x)
def w21 (q : FVec Ideal S4608x512 .bf16) (x : FVec Ideal S4608x256 .bf16) : FVec Ideal S2x2x4x256x256 .f32 := broadcastInDim S2x2x4x256x256 ![0, 1, 2, 3, 4] bcast_S2x2x4x256x1_S2x2x4x256x256_0_1_2_3_4 (w20 q x)
def w22 (q : FVec Ideal S4608x512 .bf16) (x : FVec Ideal S4608x256 .bf16) : FVec Ideal S2x2x4x256x256 .f32 := Host.divf (w18 q x) (w21 q x)
def w23 (q : FVec Ideal S4608x512 .bf16) (x : FVec Ideal S4608x256 .bf16) : FVec Ideal S2x2x4x256x64 .f32 := Host.dotGeneral dot_S2x2x4x256x256_S2x2x256x64_S2x2x4x256x64_4_2_23_3_01_01 none (w22 q x) (w12 q x)
def w24 (q : FVec Ideal S4608x512 .bf16) (x : FVec Ideal S4608x256 .bf16) : FVec Ideal S2x2x4x256x1 .f32 := Host.log (w20 q x)
def w25 (q : FVec Ideal S4608x512 .bf16) (x : FVec Ideal S4608x256 .bf16) : FVec Ideal S2x2x4x256x1 .f32 := addf (w15 q x) (w24 q x)
def w26 (q : FVec Ideal S4608x512 .bf16) (x : FVec Ideal S4608x256 .bf16) : FVec Ideal S2x2x4x256 .f32 := shapeCast _ (w25 q x) shapeCasts_S2x2x4x256x1_S2x2x4x256
def w27 (q : FVec Ideal S4608x512 .bf16) (x : FVec Ideal S4608x256 .bf16) : FVec Ideal S2x2x4x2048x64 .f32 := extractStridedSlice S2x2x4x2048x64 ![0, 0, 0, 256, 0] (w3 q x) slices_S2x2x4x2304x64_S2x2x4x2048x64_0_0_0_256_0
def w28 (q : FVec Ideal S4608x512 .bf16) (x : FVec Ideal S4608x256 .bf16) : FVec Ideal S2x2x4x2048x2304 .f32 := Host.dotGeneral dot_S2x2x4x2048x64_S2x2x2304x64_S2x2x4x2048x2304_4_3_23_2_01_01 none (w27 q x) (w6 q x)
def wcst_1 (q : FVec Ideal S4608x512 .bf16) (x : FVec Ideal S4608x256 .bf16) : FVec Ideal S_ .f32 := constant S_ .f32 0xFF800000#32
def w29 (q : FVec Ideal S4608x512 .bf16) (x : FVec Ideal S4608x256 .bf16) : FVec Ideal S2x2x4x2048 .f32 := Host.reduce FloatOps.maximumf (w28 q x) (wcst_1 q x) reducesTo_S2x2x4x2048x2304_S2x2x4x2048_d4 h_S_
def w30 (q : FVec Ideal S4608x512 .bf16) (x : FVec Ideal S4608x256 .bf16) : FVec Ideal S2x2x4x2048x1 .f32 := broadcastInDim S2x2x4x2048x1 ![0, 1, 2, 3] bcast_S2x2x4x2048_S2x2x4x2048x1_0_1_2_3 (w29 q x)
def w31 (q : FVec Ideal S4608x512 .bf16) (x : FVec Ideal S4608x256 .bf16) : FVec Ideal S2x2x4x2048x2304 .f32 := broadcastInDim S2x2x4x2048x2304 ![0, 1, 2, 3, 4] bcast_S2x2x4x2048x1_S2x2x4x2048x2304_0_1_2_3_4 (w30 q x)
def w32 (q : FVec Ideal S4608x512 .bf16) (x : FVec Ideal S4608x256 .bf16) : FVec Ideal S2x2x4x2048x2304 .f32 := subf (w28 q x) (w31 q x)
def w33 (q : FVec Ideal S4608x512 .bf16) (x : FVec Ideal S4608x256 .bf16) : FVec Ideal S2x2x4x2048x2304 .f32 := Host.exp (w32 q x)
def wcst_2 (q : FVec Ideal S4608x512 .bf16) (x : FVec Ideal S4608x256 .bf16) : FVec Ideal S_ .f32 := constant S_ .f32 0x00000000#32
def w34 (q : FVec Ideal S4608x512 .bf16) (x : FVec Ideal S4608x256 .bf16) : FVec Ideal S2x2x4x2048 .f32 := Host.reduceAdd (w33 q x) (wcst_2 q x) reducesTo_S2x2x4x2048x2304_S2x2x4x2048_d4 h_S_
def w35 (q : FVec Ideal S4608x512 .bf16) (x : FVec Ideal S4608x256 .bf16) : FVec Ideal S2x2x4x2048x1 .f32 := broadcastInDim S2x2x4x2048x1 ![0, 1, 2, 3] bcast_S2x2x4x2048_S2x2x4x2048x1_0_1_2_3 (w34 q x)
def w36 (q : FVec Ideal S4608x512 .bf16) (x : FVec Ideal S4608x256 .bf16) : FVec Ideal S2x2x4x2048x2304 .f32 := broadcastInDim S2x2x4x2048x2304 ![0, 1, 2, 3, 4] bcast_S2x2x4x2048x1_S2x2x4x2048x2304_0_1_2_3_4 (w35 q x)
def w37 (q : FVec Ideal S4608x512 .bf16) (x : FVec Ideal S4608x256 .bf16) : FVec Ideal S2x2x4x2048x2304 .f32 := Host.divf (w33 q x) (w36 q x)
def w38 (q : FVec Ideal S4608x512 .bf16) (x : FVec Ideal S4608x256 .bf16) : FVec Ideal S2x2x4x2048x64 .f32 := Host.dotGeneral dot_S2x2x4x2048x2304_S2x2x2304x64_S2x2x4x2048x64_4_2_23_3_01_01 none (w37 q x) (w9 q x)
def w39 (q : FVec Ideal S4608x512 .bf16) (x : FVec Ideal S4608x256 .bf16) : FVec Ideal S2x2x4x2048x1 .f32 := Host.log (w35 q x)
def w40 (q : FVec Ideal S4608x512 .bf16) (x : FVec Ideal S4608x256 .bf16) : FVec Ideal S2x2x4x2048x1 .f32 := addf (w30 q x) (w39 q x)
def w41 (q : FVec Ideal S4608x512 .bf16) (x : FVec Ideal S4608x256 .bf16) : FVec Ideal S2x2x4x2048 .f32 := shapeCast _ (w40 q x) shapeCasts_S2x2x4x2048x1_S2x2x4x2048
def w42 (q : FVec Ideal S4608x512 .bf16) (x : FVec Ideal S4608x256 .bf16) : FVec Ideal S2x2x4x2304x64 .f32 := concatenate S2x2x4x2304x64 3 [⟨S2x2x4x256x64, (w23 q x)⟩, ⟨S2x2x4x2048x64, (w38 q x)⟩] concatenates_S2x2x4x256x64_S2x2x4x2048x64_S2x2x4x2304x64_d3
def w43 (q : FVec Ideal S4608x512 .bf16) (x : FVec Ideal S4608x256 .bf16) : FVec Ideal S2x2304x2x4x64 .f32 := transpose S2x2304x2x4x64 [0, 3, 1, 2, 4] (w42 q x) transposes_S2x2x4x2304x64_S2x2304x2x4x64_0_3_1_2_4
def w44 (q : FVec Ideal S4608x512 .bf16) (x : FVec Ideal S4608x256 .bf16) : FVec Ideal S4608x512 .f32 := shapeCast _ (w43 q x) shapeCasts_S2x2304x2x4x64_S4608x512
def w45 (q : FVec Ideal S4608x512 .bf16) (x : FVec Ideal S4608x256 .bf16) : FVec Ideal S4608x512 .bf16 := truncf .bf16 (w44 q x) bitsLt_bf16_f32
def w46 (q : FVec Ideal S4608x512 .bf16) (x : FVec Ideal S4608x256 .bf16) : FVec Ideal S2x2x4x2304 .f32 := concatenate S2x2x4x2304 3 [⟨S2x2x4x256, (w26 q x)⟩, ⟨S2x2x4x2048, (w41 q x)⟩] concatenates_S2x2x4x256_S2x2x4x2048_S2x2x4x2304_d3
def w47 (q : FVec Ideal S4608x512 .bf16) (x : FVec Ideal S4608x256 .bf16) : FVec Ideal S2x2304x2x4 .f32 := transpose S2x2304x2x4 [0, 3, 1, 2] (w46 q x) transposes_S2x2x4x2304_S2x2304x2x4_0_3_1_2
def w48 (q : FVec Ideal S4608x512 .bf16) (x : FVec Ideal S4608x256 .bf16) : FVec Ideal S4608x8 .f32 := shapeCast _ (w47 q x) shapeCasts_S2x2304x2x4_S4608x8

variable (m : (ℓ : Loc nD τ sig) → Buf (Elt Ideal) ℓ) (c : Dev nD)
set_option maxHeartbeats 4000000 in
theorem o_eq : (V m c main_v45 : FVec Ideal S4608x512 .bf16) = w45 (m ((c.tc : Thread nD τ).loc main_arg0)) (m ((c.tc : Thread nD τ).loc main_arg1)) := by
  entry_read
  rfl
set_option maxHeartbeats 4000000 in
theorem lse_eq : (V m c main_v48 : FVec Ideal S4608x8 .f32) = w48 (m ((c.tc : Thread nD τ).loc main_arg0)) (m ((c.tc : Thread nD τ).loc main_arg1)) := by
  entry_read
  rfl
end Cert.KernelIdeal.Hand
end
-- ==== Proof.HostRead.lean ====
module
public import proofs.«01_k».proof.Proof.HostOps
@[expose] public section
/-! The saved output and log-sum of the attention, read at an index. -/
set_option maxRecDepth 16384
noncomputable section
open Idealize.ShloMosaic Idealize.ShloMosaic.TcCoe Idealize.SL.Sem
namespace Cert.KernelIdeal.Hand
open Cert.KernelIdeal Cert.KernelIdeal.Gen
variable (q : FVec Ideal S4608x512 .bf16) (x : FVec Ideal S4608x256 .bf16)

theorem negInf : Ideal.ofBits .f32 0xFF800000#32 = ⊥ := by simp [Ideal.ofBits, Ideal.ieee]

theorem sC_at (e : Fin 2) (g : Fin 2) (a : Fin 4) (i : Fin 256) (k : Fin 256) :
    (w13 q x) (ix5 e g a i k) = score q x 256 (by decide) e (gh g a) ⟨i.val, by omega⟩ k := by
  pointwise [w13, w10, w11, w6, w5, w4, w3, w2, w1, w0, score]
  blk_point []

theorem tC_at (e : Fin 2) (g : Fin 2) (a : Fin 4) (i : Fin 256) :
    (w14 q x) (ix4 e g a i) = Rows.top (score q x 256 (by decide) e (gh g a) ⟨i.val, by omega⟩) := by
  pointwise [w14, wcst, Rows.top]
  simp only [sC_at, negInf]

theorem eC_at (e : Fin 2) (g : Fin 2) (a : Fin 4) (i : Fin 256) (k : Fin 256) :
    (w18 q x) (ix5 e g a i k) = Ideal.exp (score q x 256 (by decide) e (gh g a) ⟨i.val, by omega⟩ k - Rows.top (score q x 256 (by decide) e (gh g a) ⟨i.val, by omega⟩)) := by
  pointwise [w18, w17, w16, w15]
  simp only [sC_at, tC_at]

theorem lC_at (e : Fin 2) (g : Fin 2) (a : Fin 4) (i : Fin 256) :
    (w19 q x) (ix4 e g a i) = Rows.den (score q x 256 (by decide) e (gh g a) ⟨i.val, by omega⟩) := by
  pointwise [w19, wcst_0, Rows.den]
  simp only [eC_at, zero_add]

theorem yC_at (e : Fin 2) (g : Fin 2) (a : Fin 4) (i : Fin 256) (k : Fin 256) :
    (w22 q x) (ix5 e g a i k) = Rows.prob (score q x 256 (by decide) e (gh g a) ⟨i.val, by omega⟩) k := by
  pointwise [w22, w21, w20, Rows.prob]
  simp only [eC_at, lC_at]

theorem vC_at (e : Fin 2) (g : Fin 2) (k : Fin 256) (d : Fin 64) (a : Fin 4) :
    (w12 q x) (ix4 e g k d) = x (ix2 (row e ⟨k.val, by omega⟩) (vc (gh g a) d)) := by
  pointwise [w12, w9, w8, w7, w1]
  blk_point []

theorem oC_at (e : Fin 2) (g : Fin 2) (a : Fin 4) (i : Fin 256) (d : Fin 64) :
    (w23 q x) (ix5 e g a i d) = out q x 256 (by decide) e (gh g a) ⟨i.val, by omega⟩ d := by
  pointwise [w23, out]
  simp only [yC_at, vC_at q x e g _ d a]

theorem cC_at (e : Fin 2) (g : Fin 2) (a : Fin 4) (i : Fin 256) :
    (w26 q x) (ix4 e g a i) = (w25 q x) (ix5 e g a i 0) := by
  pointwise [w26]

theorem nC_at (e : Fin 2) (g : Fin 2) (a : Fin 4) (i : Fin 256) :
    (w20 q x) (ix5 e g a i 0) = (w19 q x) (ix4 e g a i) := by
  pointwise [w20]

theorem uC_at (e : Fin 2) (g : Fin 2) (a : Fin 4) (i : Fin 256) :
    (w15 q x) (ix5 e g a i 0) = (w14 q x) (ix4 e g a i) := by
  pointwise [w15]

theorem aC_at (e : Fin 2) (g : Fin 2) (a : Fin 4) (i : Fin 256) :
    (w26 q x) (ix4 e g a i) = ((w14 q x) (ix4 e g a i) : EReal) + Ideal.log ((w19 q x) (ix4 e g a i)) := by
  rw [cC_at, ← nC_at, ← uC_at]
  unfold w25 w24
  rw [Idealize.ShloMosaic.addf_apply, Idealize.ShloMosaic.Host.log_apply]
  simp only [Ideal.hostUnary_log_def, Ideal.addf_def]

theorem lseC_at (e : Fin 2) (g : Fin 2) (a : Fin 4) (i : Fin 256) :
    (w26 q x) (ix4 e g a i) = lse q x 256 (by decide) e (gh g a) ⟨i.val, by omega⟩ := by
  rw [aC_at, tC_at, lC_at, lse]

theorem sL_at (e : Fin 2) (g : Fin 2) (a : Fin 4) (i : Fin 2048) (k : Fin 2304) :
    (w28 q x) (ix5 e g a i k) = score q x 2304 (by decide) e (gh g a) ⟨256 + i.val, by omega⟩ k := by
  pointwise [w28, w27, w6, w5, w4, w3, w2, w1, w0, score]
  blk_point []

theorem tL_at (e : Fin 2) (g : Fin 2) (a : Fin 4) (i : Fin 2048) :
    (w29 q x) (ix4 e g a i) = Rows.top (score q x 2304 (by decide) e (gh g a) ⟨256 + i.val, by omega⟩) := by
  pointwise [w29, wcst_1, Rows.top]
  simp only [sL_at, negInf]

theorem eL_at (e : Fin 2) (g : Fin 2) (a : Fin 4) (i : Fin 2048) (k : Fin 2304) :
    (w33 q x) (ix5 e g a i k) = Ideal.exp (score q x 2304 (by decide) e (gh g a) ⟨256 + i.val, by omega⟩ k - Rows.top (score q x 2304 (by decide) e (gh g a) ⟨256 + i.val, by omega⟩)) := by
  pointwise [w33, w32, w31, w30]
  simp only [sL_at, tL_at]

theorem lL_at (e : Fin 2) (g : Fin 2) (a : Fin 4) (i : Fin 2048) :
    (w34 q x) (ix4 e g a i) = Rows.den (score q x 2304 (by decide) e (gh g a) ⟨256 + i.val, by omega⟩) := by
  pointwise [w34, wcst_2, Rows.den]
  simp only [eL_at, zero_add]

theorem yL_at (e : Fin 2) (g : Fin 2) (a : Fin 4) (i : Fin 2048) (k : Fin 2304) :
    (w37 q x) (ix5 e g a i k) = Rows.prob (score q x 2304 (by decide) e (gh g a) ⟨256 + i.val, by omega⟩) k := by
  pointwise [w37, w36, w35, Rows.prob]
  simp only [eL_at, lL_at]

theorem vL_at (e : Fin 2) (g : Fin 2) (k : Fin 2304) (d : Fin 64) (a : Fin 4) :
    (w9 q x) (ix4 e g k d) = x (ix2 (row e ⟨k.val, by omega⟩) (vc (gh g a) d)) := by
  pointwise [w9, w8, w7, w1]
  blk_point []

theorem oL_at (e : Fin 2) (g : Fin 2) (a : Fin 4) (i : Fin 2048) (d : Fin 64) :
    (w38 q x) (ix5 e g a i d) = out q x 2304 (by decide) e (gh g a) ⟨256 + i.val, by omega⟩ d := by
  pointwise [w38, out]
  simp only [yL_at, vL_at q x e g _ d a]

theorem cL_at (e : Fin 2) (g : Fin 2) (a : Fin 4) (i : Fin 2048) :
    (w41 q x) (ix4 e g a i) = (w40 q x) (ix5 e g a i 0) := by
  pointwise [w41]

theorem nL_at (e : Fin 2) (g : Fin 2) (a : Fin 4) (i : Fin 2048) :
    (w35 q x) (ix5 e g a i 0) = (w34 q x) (ix4 e g a i) := by
  pointwise [w35]

theorem uL_at (e : Fin 2) (g : Fin 2) (a : Fin 4) (i : Fin 2048) :
    (w30 q x) (ix5 e g a i 0) = (w29 q x) (ix4 e g a i) := by
  pointwise [w30]

theorem aL_at (e : Fin 2) (g : Fin 2) (a : Fin 4) (i : Fin 2048) :
    (w41 q x) (ix4 e g a i) = ((w29 q x) (ix4 e g a i) : EReal) + Ideal.log ((w34 q x) (ix4 e g a i)) := by
  rw [cL_at, ← nL_at, ← uL_at]
  unfold w40 w39
  rw [Idealize.ShloMosaic.addf_apply, Idealize.ShloMosaic.Host.log_apply]
  simp only [Ideal.hostUnary_log_def, Ideal.addf_def]

theorem lseL_at (e : Fin 2) (g : Fin 2) (a : Fin 4) (i : Fin 2048) :
    (w41 q x) (ix4 e g a i) = lse q x 2304 (by decide) e (gh g a) ⟨256 + i.val, by omega⟩ := by
  rw [aL_at, tL_at, lL_at, lse]

theorem out_ctx (e : Fin 2) (g : Fin 2) (a : Fin 4) (i : Fin 2304) (hi : i.val < 256) (d : Fin 64) :
    (w45 q x) (ix2 (row e i) (hc (gh g a) d)) = out q x 256 (by decide) e (gh g a) i d := by
  refine Eq.trans ?_ (oC_at q x e g a ⟨i.val, hi⟩ d)
  · pointwise [w45, w44, w43, w42]
    rw [dif_pos (by omega)]
    blk_point []

theorem out_lat (e : Fin 2) (g : Fin 2) (a : Fin 4) (i : Fin 2304) (hi : 256 ≤ i.val) (d : Fin 64) :
    (w45 q x) (ix2 (row e i) (hc (gh g a) d)) = out q x 2304 (by decide) e (gh g a) i d := by
  refine Eq.trans ?_ (oL_at q x e g a ⟨i.val - 256, by omega⟩ d |>.trans ?_)
  · pointwise [w45, w44, w43, w42]
    rw [dif_neg (by omega)]
    blk_point []
  · have : (⟨256 + (i.val - 256), by omega⟩ : Fin 2304) = i := Fin.ext (by show 256 + (i.val - 256) = i.val; omega)
    exact congrArg (fun i' => out q x 2304 (by decide) e (gh g a) i' d) this

theorem lse_ctx (e : Fin 2) (g : Fin 2) (a : Fin 4) (i : Fin 2304) (hi : i.val < 256) :
    (w48 q x) (ix2 (row e i) (gh g a)) = lse q x 256 (by decide) e (gh g a) i := by
  refine Eq.trans ?_ (lseC_at q x e g a ⟨i.val, hi⟩)
  · pointwise [w48, w47, w46]
    rw [dif_pos (by omega)]
    refine congrArg _ ?_
    congr 1 <;> (apply Fin.ext; dsimp only; omega)

theorem lse_lat (e : Fin 2) (g : Fin 2) (a : Fin 4) (i : Fin 2304) (hi : 256 ≤ i.val) :
    (w48 q x) (ix2 (row e i) (gh g a)) = lse q x 2304 (by decide) e (gh g a) i := by
  refine Eq.trans ?_ (lseL_at q x e g a ⟨i.val - 256, by omega⟩ |>.trans ?_)
  · pointwise [w48, w47, w46]
    rw [dif_neg (by omega)]
    refine congrArg _ ?_
    congr 1 <;> (apply Fin.ext; dsimp only; omega)
  · have : (⟨256 + (i.val - 256), by omega⟩ : Fin 2304) = i := Fin.ext (by show 256 + (i.val - 256) = i.val; omega)
    exact congrArg (fun i' => lse q x 2304 (by decide) e (gh g a) i') this

end Cert.KernelIdeal.Hand
end
-- ==== Proof.Blocks.lean ====
module
public import proofs.«01_k».proof.Proof.Spec
@[expose] public section
/-! What one block of rows contributes, in terms of the argument arrays: the rebuilt probabilities are the softmax's and the
gradient of the scores is the softmax's derivative. -/
noncomputable section
open Idealize.ShloMosaic
namespace Cert.KernelIdeal.Hand
open Cert.KernelIdeal Cert.KernelIdeal.Gen
/-- The nine blocks of an example's rows, the context's first: together the two parts' sum. -/
theorem sum_blocks (T : (n : ℕ) → (hn : n ≤ 2304) → Fin 8 → Fin n → Fin 2304 → EReal) (g : Fin 2) (k : Fin 2304) (U : Fin 9 → EReal)
    (h0 : U 0 = if hk : k.val < 256 then ∑ a : Fin 4, ∑ i : Fin 256, T 256 (by decide) (gh g a) ⟨k.val, hk⟩ ⟨i.val, by omega⟩ else 0)
    (h1 : ∀ s : Fin 8, U s.succ = ∑ a : Fin 4, ∑ r : Fin 256, T 2304 (by decide) (gh g a) k ⟨256 * (s.val + 1) + r.val, by omega⟩) :
    ∑ s, U s = both T g k := by
  rw [Fin.sum_univ_succ, h0]
  unfold both
  congr 1
  rw [Finset.sum_congr rfl fun s _ => h1 s, Finset.sum_comm]
  refine Finset.sum_congr rfl fun a _ => ?_
  refine Fin.sum_mul_add_congr fun s r hl => ?_
  congr 1
  apply Fin.ext
  show 256 * (s.val + 1) + r.val = 256 + (s.val * 256 + r.val)
  omega

variable (Q : FVec Ideal S4608x512 .bf16) (X : FVec Ideal S4608x256 .bf16) (D : FVec Ideal S4608x1024 .bf16)
variable (Qb : FVec Ideal S256x512 .bf16) (Xb : FVec Ideal S2304x256 .bf16) (Ob Db : FVec Ideal S256x512 .bf16) (Wb : FVec Ideal S256x8 .f32)

/-- A block of 256 rows of example `e`, row `r` being row `p r` of the example, whose rows attend to `n` keys. -/
structure Holds (n : ℕ) (hn : n ≤ 2304) (e : Fin 2) (p : Fin 256 → Fin 2304) : Prop where
  pos : 0 < n
  fQ : ∀ j, Rows.IsR (Q j)
  fX : ∀ j, Rows.IsR (X j)
  fD : ∀ j, Rows.IsR (D j)
  q : ∀ (h : Fin 8) r d, Qb (ix2 r (hc h d)) = Q (ix2 (row e (p r)) (hc h d))
  x : ∀ k col, Xb (ix2 k col) = X (ix2 (row e k) col)
  o : ∀ (h : Fin 8) r d, Ob (ix2 r (hc h d)) = out Q X n hn e h (p r) d
  g : ∀ (h : Fin 8) r d, Db (ix2 r (hc h d)) = D (ix2 (row e (p r)) (gc h d))
  w : ∀ (h : Fin 8) r, Wb (ix2 r h) = lse Q X n hn e h (p r)

variable {Q X D Qb Xb Ob Db Wb} {n : ℕ} {hn : n ≤ 2304} {e : Fin 2} {p : Fin 256 → Fin 2304} (B : Holds Q X D Qb Xb Ob Db Wb n hn e p)
include B

theorem Holds.score_real (h : Fin 8) (i : Fin 2304) (k : Fin n) : Rows.IsR (score Q X n hn e h i k) :=
  Rows.IsR.sum fun _ _ => (B.fQ _).mul (B.fX _)

theorem Holds.prob (h : Fin 8) (r : Fin 256) (k : Fin n) :
    pB Qb Xb Wb h r (up hn k) = Rows.prob (score Q X n hn e h (p r)) k := by
  rw [← Rows.prob_eq B.pos _ (B.score_real h (p r)) k]
  unfold pB
  simp only [B.q, B.x, B.w]
  rfl

theorem Holds.dscore (h : Fin 8) (r : Fin 256) (k : Fin n) :
    dsB Qb Xb Ob Db Wb h r (up hn k) = Hand.dscore Q X D n hn e h (p r) k := by
  unfold dsB Hand.dscore
  rw [B.prob]
  simp only [B.g, B.x, B.o]
  exact Rows.grad_eq B.pos _ (B.score_real h (p r)) (fun k d => X (ix2 (row e (up hn k)) (vc h d))) (fun _ _ => B.fX _)
    (fun d => D (ix2 (row e (p r)) (gc h d))) (fun _ => B.fD _) k

theorem Holds.dq (h : Fin 8) (r : Fin 256) (d : Fin 64) :
    dqB Qb Xb Ob Db Wb n hn h r d = gradQ Q X D n hn e h (p r) d :=
  Finset.sum_congr rfl fun k _ => congrArg₂ (fun a b : EReal => a * b) (B.dscore h r k) (B.x _ _)

theorem Holds.dk (h : Fin 8) (d : Fin 64) (k : Fin n) :
    dkB Qb Xb Ob Db Wb h d (up hn k) = ∑ r : Fin 256, termK Q X D n hn e h d k (p r) :=
  Finset.sum_congr rfl fun r _ => congrArg₂ (fun a b : EReal => a * b) (B.q h r d) (B.dscore h r k)

theorem Holds.dv (h : Fin 8) (d : Fin 64) (k : Fin n) :
    dvB Qb Xb Db Wb h d (up hn k) = ∑ r : Fin 256, termV Q X D n hn e h d k (p r) :=
  Finset.sum_congr rfl fun r _ => congrArg₂ (fun a b : EReal => a * b) (B.g h r d) (B.prob h r k)

end Cert.KernelIdeal.Hand
end
-- ==== Proof.Points.lean ====
module
public import proofs.«01_k».proof.Proof.HostRead
public import proofs.«01_k».proof.Proof.Blocks
@[expose] public section
/-! The blocks of a grid point, in terms of the argument arrays. -/
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ) (c : Dev nD)

abbrev A0 : FVec Ideal S4608x512 .bf16 := m ((c.tc : Thread nD τ).loc main_arg0)
abbrev A1 : FVec Ideal S4608x256 .bf16 := m ((c.tc : Thread nD τ).loc main_arg1)
abbrev A2 : FVec Ideal S4608x1024 .bf16 := m ((c.tc : Thread nD τ).loc main_arg2)

/-- The example of a grid point. -/
def ex (t : Fin cfg0.N) : Fin 2 := ⟨t.val / 9, by have := lt_of_lt_of_eq t.isLt (show cfg0.N = 18 by decide +kernel); omega⟩
/-- The row of its example that row `r` of a grid point's block is. -/
def pos (t : Fin cfg0.N) (r : Fin 256) : Fin 2304 := ⟨256 * (t.val % 9) + r.val, by omega⟩

theorem idx : ∀ t : Fin cfg0.N, win0_0.index t = ![t.val, 0] ∧ win0_1.index t = ![t.val / 9, 0] ∧ win0_2.index t = ![t.val, 0]
    ∧ win0_3.index t = ![t.val, 0] ∧ win0_4.index t = ![t.val, 0] ∧ win0_5.index t = ![t.val, 0] ∧ win0_6.index t = ![0, t.val / 9] :=
  (by decide +kernel : ∀ t : Fin grid0.N, _)

theorem N_eq : cfg0.N = 18 := by decide +kernel

theorem blk_q (t : Fin cfg0.N) (r : Fin 256) (col : Fin 512) :
    iblk m c 0 t (ix2 r col) = A0 m c (ix2 (row (ex t) (pos t r)) col) := by
  have := lt_of_lt_of_eq t.isLt N_eq
  blk_ext [iblk, V, idx t, ex, pos]

theorem blk_x (t : Fin cfg0.N) (k : Fin 2304) (col : Fin 256) :
    iblk m c 1 t (ix2 k col) = A1 m c (ix2 (row (ex t) k) col) := by
  have := lt_of_lt_of_eq t.isLt N_eq
  blk_ext [iblk, V, idx t, ex, pos]

theorem blk_o (t : Fin cfg0.N) (r : Fin 256) (col : Fin 512) :
    iblk m c 2 t (ix2 r col) = (w45 (A0 m c) (A1 m c)) (ix2 (row (ex t) (pos t r)) col) := by
  have := lt_of_lt_of_eq t.isLt N_eq
  rw [← o_eq m c]
  unfold iblk
  blk_simp [idx t, ex, pos]
  refine congrArg (V m c main_v45) ?_
  blk_ext [idx t]

theorem blk_g (t : Fin cfg0.N) (r : Fin 256) (h : Fin 8) (d : Fin 64) :
    iblk m c 3 t (ix2 r (hc h d)) = A2 m c (ix2 (row (ex t) (pos t r)) (gc h d)) := by
  have := lt_of_lt_of_eq t.isLt N_eq
  blk_ext [iblk, V, idx t, ex, pos]

theorem blk_w (t : Fin cfg0.N) (r : Fin 256) (h : Fin 8) :
    iblk m c 4 t (ix2 r h) = (w48 (A0 m c) (A1 m c)) (ix2 (row (ex t) (pos t r)) h) := by
  have := lt_of_lt_of_eq t.isLt N_eq
  rw [← lse_eq m c]
  unfold iblk
  blk_simp [idx t, ex, pos]
  refine congrArg (V m c main_v48) ?_
  blk_ext [idx t]

theorem head (h : Fin 8) : ∃ g a, h = gh g a :=
  ⟨⟨h.val / 4, by omega⟩, ⟨h.val % 4, by omega⟩, Fin.ext (by show h.val = 4 * (h.val / 4) + h.val % 4; omega)⟩

variable (f0 : ∀ j, Rows.IsR (A0 m c j)) (f1 : ∀ j, Rows.IsR (A1 m c j)) (f2 : ∀ j, Rows.IsR (A2 m c j))
include f0 f1 f2

theorem holds_ctx (t : Fin cfg0.N) (ht : t.val % 9 = 0) :
    Holds (A0 m c) (A1 m c) (A2 m c) (iblk m c 0 t) (iblk m c 1 t) (iblk m c 2 t) (iblk m c 3 t) (iblk m c 4 t) 256 (by decide) (ex t) (pos t) where
  pos := by decide
  fQ := f0
  fX := f1
  fD := f2
  q h r d := blk_q m c t r _
  x k col := blk_x m c t k col
  o h r d := by
    obtain ⟨g, a, rfl⟩ := head h
    exact (blk_o m c t r _).trans (out_ctx _ _ _ g a _ (by show 256 * (t.val % 9) + r.val < 256; omega) d)
  g h r d := blk_g m c t r h d
  w h r := by
    obtain ⟨g, a, rfl⟩ := head h
    exact (blk_w m c t r _).trans (lse_ctx _ _ _ g a _ (by show 256 * (t.val % 9) + r.val < 256; omega))

theorem holds_lat (t : Fin cfg0.N) (ht : ¬t.val % 9 = 0) :
    Holds (A0 m c) (A1 m c) (A2 m c) (iblk m c 0 t) (iblk m c 1 t) (iblk m c 2 t) (iblk m c 3 t) (iblk m c 4 t) 2304 (by decide) (ex t) (pos t) where
  pos := by decide
  fQ := f0
  fX := f1
  fD := f2
  q h r d := blk_q m c t r _
  x k col := blk_x m c t k col
  o h r d := by
    obtain ⟨g, a, rfl⟩ := head h
    exact (blk_o m c t r _).trans (out_lat _ _ _ g a _ (by show 256 ≤ 256 * (t.val % 9) + r.val; omega) d)
  g h r d := blk_g m c t r h d
  w h r := by
    obtain ⟨g, a, rfl⟩ := head h
    exact (blk_w m c t r _).trans (lse_lat _ _ _ g a _ (by show 256 ≤ 256 * (t.val % 9) + r.val; omega))

end Cert.KernelIdeal.Hand
end
-- ==== Proof.RefOps.lean ====
module
public import proofs.«01_k».proof.Proof.Gen.ReferenceIdeal.Run
public import proofs.«01_k».proof.Proof.Spec
@[expose] public section
/-! The reference's operations one by one, as functions of its three arguments. -/
set_option maxRecDepth 16384
noncomputable section
open Idealize.ShloMosaic Idealize.ShloMosaic.TcCoe Idealize.SL.Sem
namespace Cert.ReferenceIdeal.Hand
open Cert.ReferenceIdeal Cert.ReferenceIdeal.Gen Cert.ReferenceIdeal.Value
def r0 (q : FVec Ideal S4608x512 .bf16) (x : FVec Ideal S4608x256 .bf16) (dd : FVec Ideal S4608x1024 .bf16) : FVec Ideal S4608x512 .f32 := extf .f32 q bitsLt_bf16_f32
def r1 (q : FVec Ideal S4608x512 .bf16) (x : FVec Ideal S4608x256 .bf16) (dd : FVec Ideal S4608x1024 .bf16) : FVec Ideal S4608x256 .f32 := extf .f32 x bitsLt_bf16_f32
def r2 (q : FVec Ideal S4608x512 .bf16) (x : FVec Ideal S4608x256 .bf16) (dd : FVec Ideal S4608x1024 .bf16) : FVec Ideal S4608x1024 .f32 := extf .f32 dd bitsLt_bf16_f32
def r3 (q : FVec Ideal S4608x512 .bf16) (x : FVec Ideal S4608x256 .bf16) (dd : FVec Ideal S4608x1024 .bf16) : FVec Ideal S4608x128 .f32 := extractStridedSlice S4608x128 ![0, 0] (r1 q x dd) slices_S4608x256_S4608x128_0_0
def r4 (q : FVec Ideal S4608x512 .bf16) (x : FVec Ideal S4608x256 .bf16) (dd : FVec Ideal S4608x1024 .bf16) : FVec Ideal S4608x128 .f32 := extractStridedSlice S4608x128 ![0, 128] (r1 q x dd) slices_S4608x256_S4608x128_0_128
def r5 (q : FVec Ideal S4608x512 .bf16) (x : FVec Ideal S4608x256 .bf16) (dd : FVec Ideal S4608x1024 .bf16) : FVec Ideal S2x2304x2x4x64 .f32 := shapeCast _ (r0 q x dd) shapeCasts_S4608x512_S2x2304x2x4x64
def r6 (q : FVec Ideal S4608x512 .bf16) (x : FVec Ideal S4608x256 .bf16) (dd : FVec Ideal S4608x1024 .bf16) : FVec Ideal S2x2x4x2304x64 .f32 := transpose S2x2x4x2304x64 [0, 2, 3, 1, 4] (r5 q x dd) transposes_S2x2304x2x4x64_S2x2x4x2304x64_0_2_3_1_4
def r7 (q : FVec Ideal S4608x512 .bf16) (x : FVec Ideal S4608x256 .bf16) (dd : FVec Ideal S4608x1024 .bf16) : FVec Ideal S2x2304x2x64 .f32 := shapeCast _ (r3 q x dd) shapeCasts_S4608x128_S2x2304x2x64
def r8 (q : FVec Ideal S4608x512 .bf16) (x : FVec Ideal S4608x256 .bf16) (dd : FVec Ideal S4608x1024 .bf16) : FVec Ideal S2x2x2304x64 .f32 := transpose S2x2x2304x64 [0, 2, 1, 3] (r7 q x dd) transposes_S2x2304x2x64_S2x2x2304x64_0_2_1_3
def r9 (q : FVec Ideal S4608x512 .bf16) (x : FVec Ideal S4608x256 .bf16) (dd : FVec Ideal S4608x1024 .bf16) : FVec Ideal S2x2304x2x64 .f32 := shapeCast _ (r4 q x dd) shapeCasts_S4608x128_S2x2304x2x64
def r10 (q : FVec Ideal S4608x512 .bf16) (x : FVec Ideal S4608x256 .bf16) (dd : FVec Ideal S4608x1024 .bf16) : FVec Ideal S2x2x2304x64 .f32 := transpose S2x2x2304x64 [0, 2, 1, 3] (r9 q x dd) transposes_S2x2304x2x64_S2x2x2304x64_0_2_1_3
def r11 (q : FVec Ideal S4608x512 .bf16) (x : FVec Ideal S4608x256 .bf16) (dd : FVec Ideal S4608x1024 .bf16) : FVec Ideal S2x2x4x256x64 .f32 := extractStridedSlice S2x2x4x256x64 ![0, 0, 0, 0, 0] (r6 q x dd) slices_S2x2x4x2304x64_S2x2x4x256x64_0_0_0_0_0
def r12 (q : FVec Ideal S4608x512 .bf16) (x : FVec Ideal S4608x256 .bf16) (dd : FVec Ideal S4608x1024 .bf16) : FVec Ideal S2x2x256x64 .f32 := extractStridedSlice S2x2x256x64 ![0, 0, 0, 0] (r8 q x dd) slices_S2x2x2304x64_S2x2x256x64_0_0_0_0
def r13 (q : FVec Ideal S4608x512 .bf16) (x : FVec Ideal S4608x256 .bf16) (dd : FVec Ideal S4608x1024 .bf16) : FVec Ideal S2x2x256x64 .f32 := extractStridedSlice S2x2x256x64 ![0, 0, 0, 0] (r10 q x dd) slices_S2x2x2304x64_S2x2x256x64_0_0_0_0
def r14 (q : FVec Ideal S4608x512 .bf16) (x : FVec Ideal S4608x256 .bf16) (dd : FVec Ideal S4608x1024 .bf16) : FVec Ideal S2x2x4x256x256 .f32 := Host.dotGeneral dot_S2x2x4x256x64_S2x2x256x64_S2x2x4x256x256_4_3_23_2_01_01 none (r11 q x dd) (r12 q x dd)
def rcst (q : FVec Ideal S4608x512 .bf16) (x : FVec Ideal S4608x256 .bf16) (dd : FVec Ideal S4608x1024 .bf16) : FVec Ideal S_ .f32 := constant S_ .f32 0xFF800000#32
def r15 (q : FVec Ideal S4608x512 .bf16) (x : FVec Ideal S4608x256 .bf16) (dd : FVec Ideal S4608x1024 .bf16) : FVec Ideal S2x2x4x256 .f32 := Host.reduce FloatOps.maximumf (r14 q x dd) (rcst q x dd) reducesTo_S2x2x4x256x256_S2x2x4x256_d4 h_S_
def rcst_1 (q : FVec Ideal S4608x512 .bf16) (x : FVec Ideal S4608x256 .bf16) (dd : FVec Ideal S4608x1024 .bf16) : FVec Ideal S_ .f32 := constant S_ .f32 0xFF800000#32
def r21 (q : FVec Ideal S4608x512 .bf16) (x : FVec Ideal S4608x256 .bf16) (dd : FVec Ideal S4608x1024 .bf16) : FVec Ideal S2x2x4x256 .f32 := broadcastInDim S2x2x4x256 ![] bcast_S_S2x2x4x256 (rcst_1 q x dd)
def r22 (q : FVec Ideal S4608x512 .bf16) (x : FVec Ideal S4608x256 .bf16) (dd : FVec Ideal S4608x1024 .bf16) : FVec Ideal S2x2x4x256 .f32 := maximumf (r21 q x dd) (r15 q x dd)
def r32 (q : FVec Ideal S4608x512 .bf16) (x : FVec Ideal S4608x256 .bf16) (dd : FVec Ideal S4608x1024 .bf16) : FVec Ideal S2x2x4x256x1 .f32 := broadcastInDim S2x2x4x256x1 ![0, 1, 2, 3] bcast_S2x2x4x256_S2x2x4x256x1_0_1_2_3 (r22 q x dd)
def r33 (q : FVec Ideal S4608x512 .bf16) (x : FVec Ideal S4608x256 .bf16) (dd : FVec Ideal S4608x1024 .bf16) : FVec Ideal S2x2x4x256x256 .f32 := broadcastInDim S2x2x4x256x256 ![0, 1, 2, 3, 4] bcast_S2x2x4x256x1_S2x2x4x256x256_0_1_2_3_4 (r32 q x dd)
def r34 (q : FVec Ideal S4608x512 .bf16) (x : FVec Ideal S4608x256 .bf16) (dd : FVec Ideal S4608x1024 .bf16) : FVec Ideal S2x2x4x256x256 .f32 := subf (r14 q x dd) (r33 q x dd)
def r35 (q : FVec Ideal S4608x512 .bf16) (x : FVec Ideal S4608x256 .bf16) (dd : FVec Ideal S4608x1024 .bf16) : FVec Ideal S2x2x4x256x256 .f32 := Host.exp (r34 q x dd)
def rcst_7 (q : FVec Ideal S4608x512 .bf16) (x : FVec Ideal S4608x256 .bf16) (dd : FVec Ideal S4608x1024 .bf16) : FVec Ideal S_ .f32 := constant S_ .f32 0x00000000#32
def r36 (q : FVec Ideal S4608x512 .bf16) (x : FVec Ideal S4608x256 .bf16) (dd : FVec Ideal S4608x1024 .bf16) : FVec Ideal S2x2x4x256 .f32 := Host.reduceAdd (r35 q x dd) (rcst_7 q x dd) reducesTo_S2x2x4x256x256_S2x2x4x256_d4 h_S_
def r37 (q : FVec Ideal S4608x512 .bf16) (x : FVec Ideal S4608x256 .bf16) (dd : FVec Ideal S4608x1024 .bf16) : FVec Ideal S2x2x4x256x1 .f32 := broadcastInDim S2x2x4x256x1 ![0, 1, 2, 3] bcast_S2x2x4x256_S2x2x4x256x1_0_1_2_3 (r36 q x dd)
def r38 (q : FVec Ideal S4608x512 .bf16) (x : FVec Ideal S4608x256 .bf16) (dd : FVec Ideal S4608x1024 .bf16) : FVec Ideal S2x2x4x256x256 .f32 := broadcastInDim S2x2x4x256x256 ![0, 1, 2, 3, 4] bcast_S2x2x4x256x1_S2x2x4x256x256_0_1_2_3_4 (r37 q x dd)
def r39 (q : FVec Ideal S4608x512 .bf16) (x : FVec Ideal S4608x256 .bf16) (dd : FVec Ideal S4608x1024 .bf16) : FVec Ideal S2x2x4x256x256 .f32 := Host.divf (r35 q x dd) (r38 q x dd)
def r40 (q : FVec Ideal S4608x512 .bf16) (x : FVec Ideal S4608x256 .bf16) (dd : FVec Ideal S4608x1024 .bf16) : FVec Ideal S2x2x4x256x1 .f32 := mulf (r37 q x dd) (r37 q x dd)
def rcst_8 (q : FVec Ideal S4608x512 .bf16) (x : FVec Ideal S4608x256 .bf16) (dd : FVec Ideal S4608x1024 .bf16) : FVec Ideal S_ .f32 := constant S_ .f32 0x3F800000#32
def r41 (q : FVec Ideal S4608x512 .bf16) (x : FVec Ideal S4608x256 .bf16) (dd : FVec Ideal S4608x1024 .bf16) : FVec Ideal S2x2x4x256x1 .f32 := broadcastInDim S2x2x4x256x1 ![] bcast_S_S2x2x4x256x1 (rcst_8 q x dd)
def r42 (q : FVec Ideal S4608x512 .bf16) (x : FVec Ideal S4608x256 .bf16) (dd : FVec Ideal S4608x1024 .bf16) : FVec Ideal S2x2x4x256x1 .f32 := Host.divf (r41 q x dd) (r40 q x dd)
def r44 (q : FVec Ideal S4608x512 .bf16) (x : FVec Ideal S4608x256 .bf16) (dd : FVec Ideal S4608x1024 .bf16) : FVec Ideal S2x2x4x2048x64 .f32 := extractStridedSlice S2x2x4x2048x64 ![0, 0, 0, 256, 0] (r6 q x dd) slices_S2x2x4x2304x64_S2x2x4x2048x64_0_0_0_256_0
def r45 (q : FVec Ideal S4608x512 .bf16) (x : FVec Ideal S4608x256 .bf16) (dd : FVec Ideal S4608x1024 .bf16) : FVec Ideal S2x2x4x2048x2304 .f32 := Host.dotGeneral dot_S2x2x4x2048x64_S2x2x2304x64_S2x2x4x2048x2304_4_3_23_2_01_01 none (r44 q x dd) (r8 q x dd)
def rcst_9 (q : FVec Ideal S4608x512 .bf16) (x : FVec Ideal S4608x256 .bf16) (dd : FVec Ideal S4608x1024 .bf16) : FVec Ideal S_ .f32 := constant S_ .f32 0xFF800000#32
def r46 (q : FVec Ideal S4608x512 .bf16) (x : FVec Ideal S4608x256 .bf16) (dd : FVec Ideal S4608x1024 .bf16) : FVec Ideal S2x2x4x2048 .f32 := Host.reduce FloatOps.maximumf (r45 q x dd) (rcst_9 q x dd) reducesTo_S2x2x4x2048x2304_S2x2x4x2048_d4 h_S_
def rcst_11 (q : FVec Ideal S4608x512 .bf16) (x : FVec Ideal S4608x256 .bf16) (dd : FVec Ideal S4608x1024 .bf16) : FVec Ideal S_ .f32 := constant S_ .f32 0xFF800000#32
def r52 (q : FVec Ideal S4608x512 .bf16) (x : FVec Ideal S4608x256 .bf16) (dd : FVec Ideal S4608x1024 .bf16) : FVec Ideal S2x2x4x2048 .f32 := broadcastInDim S2x2x4x2048 ![] bcast_S_S2x2x4x2048 (rcst_11 q x dd)
def r53 (q : FVec Ideal S4608x512 .bf16) (x : FVec Ideal S4608x256 .bf16) (dd : FVec Ideal S4608x1024 .bf16) : FVec Ideal S2x2x4x2048 .f32 := maximumf (r52 q x dd) (r46 q x dd)
def r63 (q : FVec Ideal S4608x512 .bf16) (x : FVec Ideal S4608x256 .bf16) (dd : FVec Ideal S4608x1024 .bf16) : FVec Ideal S2x2x4x2048x1 .f32 := broadcastInDim S2x2x4x2048x1 ![0, 1, 2, 3] bcast_S2x2x4x2048_S2x2x4x2048x1_0_1_2_3 (r53 q x dd)
def r64 (q : FVec Ideal S4608x512 .bf16) (x : FVec Ideal S4608x256 .bf16) (dd : FVec Ideal S4608x1024 .bf16) : FVec Ideal S2x2x4x2048x2304 .f32 := broadcastInDim S2x2x4x2048x2304 ![0, 1, 2, 3, 4] bcast_S2x2x4x2048x1_S2x2x4x2048x2304_0_1_2_3_4 (r63 q x dd)
def r65 (q : FVec Ideal S4608x512 .bf16) (x : FVec Ideal S4608x256 .bf16) (dd : FVec Ideal S4608x1024 .bf16) : FVec Ideal S2x2x4x2048x2304 .f32 := subf (r45 q x dd) (r64 q x dd)
def r66 (q : FVec Ideal S4608x512 .bf16) (x : FVec Ideal S4608x256 .bf16) (dd : FVec Ideal S4608x1024 .bf16) : FVec Ideal S2x2x4x2048x2304 .f32 := Host.exp (r65 q x dd)
def rcst_17 (q : FVec Ideal S4608x512 .bf16) (x : FVec Ideal S4608x256 .bf16) (dd : FVec Ideal S4608x1024 .bf16) : FVec Ideal S_ .f32 := constant S_ .f32 0x00000000#32
def r67 (q : FVec Ideal S4608x512 .bf16) (x : FVec Ideal S4608x256 .bf16) (dd : FVec Ideal S4608x1024 .bf16) : FVec Ideal S2x2x4x2048 .f32 := Host.reduceAdd (r66 q x dd) (rcst_17 q x dd) reducesTo_S2x2x4x2048x2304_S2x2x4x2048_d4 h_S_
def r68 (q : FVec Ideal S4608x512 .bf16) (x : FVec Ideal S4608x256 .bf16) (dd : FVec Ideal S4608x1024 .bf16) : FVec Ideal S2x2x4x2048x1 .f32 := broadcastInDim S2x2x4x2048x1 ![0, 1, 2, 3] bcast_S2x2x4x2048_S2x2x4x2048x1_0_1_2_3 (r67 q x dd)
def r69 (q : FVec Ideal S4608x512 .bf16) (x : FVec Ideal S4608x256 .bf16) (dd : FVec Ideal S4608x1024 .bf16) : FVec Ideal S2x2x4x2048x2304 .f32 := broadcastInDim S2x2x4x2048x2304 ![0, 1, 2, 3, 4] bcast_S2x2x4x2048x1_S2x2x4x2048x2304_0_1_2_3_4 (r68 q x dd)
def r70 (q : FVec Ideal S4608x512 .bf16) (x : FVec Ideal S4608x256 .bf16) (dd : FVec Ideal S4608x1024 .bf16) : FVec Ideal S2x2x4x2048x2304 .f32 := Host.divf (r66 q x dd) (r69 q x dd)
def r71 (q : FVec Ideal S4608x512 .bf16) (x : FVec Ideal S4608x256 .bf16) (dd : FVec Ideal S4608x1024 .bf16) : FVec Ideal S2x2x4x2048x1 .f32 := mulf (r68 q x dd) (r68 q x dd)
def rcst_18 (q : FVec Ideal S4608x512 .bf16) (x : FVec Ideal S4608x256 .bf16) (dd : FVec Ideal S4608x1024 .bf16) : FVec Ideal S_ .f32 := constant S_ .f32 0x3F800000#32
def r72 (q : FVec Ideal S4608x512 .bf16) (x : FVec Ideal S4608x256 .bf16) (dd : FVec Ideal S4608x1024 .bf16) : FVec Ideal S2x2x4x2048x1 .f32 := broadcastInDim S2x2x4x2048x1 ![] bcast_S_S2x2x4x2048x1 (rcst_18 q x dd)
def r73 (q : FVec Ideal S4608x512 .bf16) (x : FVec Ideal S4608x256 .bf16) (dd : FVec Ideal S4608x1024 .bf16) : FVec Ideal S2x2x4x2048x1 .f32 := Host.divf (r72 q x dd) (r71 q x dd)
def r78 (q : FVec Ideal S4608x512 .bf16) (x : FVec Ideal S4608x256 .bf16) (dd : FVec Ideal S4608x1024 .bf16) : FVec Ideal S4608x512 .f32 := extractStridedSlice S4608x512 ![0, 0] (r2 q x dd) slices_S4608x1024_S4608x512_0_0
def r79 (q : FVec Ideal S4608x512 .bf16) (x : FVec Ideal S4608x256 .bf16) (dd : FVec Ideal S4608x1024 .bf16) : FVec Ideal S2x2304x2x4x64 .f32 := shapeCast _ (r78 q x dd) shapeCasts_S4608x512_S2x2304x2x4x64
def r80 (q : FVec Ideal S4608x512 .bf16) (x : FVec Ideal S4608x256 .bf16) (dd : FVec Ideal S4608x1024 .bf16) : FVec Ideal S2x2x4x2304x64 .f32 := transpose S2x2x4x2304x64 [0, 2, 3, 1, 4] (r79 q x dd) transposes_S2x2304x2x4x64_S2x2x4x2304x64_0_2_3_1_4
def r81 (q : FVec Ideal S4608x512 .bf16) (x : FVec Ideal S4608x256 .bf16) (dd : FVec Ideal S4608x1024 .bf16) : FVec Ideal S2x2x4x256x64 .f32 := extractStridedSlice S2x2x4x256x64 ![0, 0, 0, 0, 0] (r80 q x dd) slices_S2x2x4x2304x64_S2x2x4x256x64_0_0_0_0_0
def r82 (q : FVec Ideal S4608x512 .bf16) (x : FVec Ideal S4608x256 .bf16) (dd : FVec Ideal S4608x1024 .bf16) : FVec Ideal S2x2x4x2048x64 .f32 := extractStridedSlice S2x2x4x2048x64 ![0, 0, 0, 256, 0] (r80 q x dd) slices_S2x2x4x2304x64_S2x2x4x2048x64_0_0_0_256_0
def r83 (q : FVec Ideal S4608x512 .bf16) (x : FVec Ideal S4608x256 .bf16) (dd : FVec Ideal S4608x1024 .bf16) : FVec Ideal S2x2x64x2304 .f32 := Host.dotGeneral dot_S2x2x4x2048x64_S2x2x4x2048x2304_S2x2x64x2304_23_23_4_4_01_01 none (r82 q x dd) (r70 q x dd)
def r84 (q : FVec Ideal S4608x512 .bf16) (x : FVec Ideal S4608x256 .bf16) (dd : FVec Ideal S4608x1024 .bf16) : FVec Ideal S2x2x2304x64 .f32 := transpose S2x2x2304x64 [0, 1, 3, 2] (r83 q x dd) transposes_S2x2x64x2304_S2x2x2304x64_0_1_3_2
def r85 (q : FVec Ideal S4608x512 .bf16) (x : FVec Ideal S4608x256 .bf16) (dd : FVec Ideal S4608x1024 .bf16) : FVec Ideal S2x2x4x2048x2304 .f32 := Host.dotGeneral dot_S2x2x4x2048x64_S2x2x2304x64_S2x2x4x2048x2304_4_3_23_2_01_01 none (r82 q x dd) (r10 q x dd)
def r86 (q : FVec Ideal S4608x512 .bf16) (x : FVec Ideal S4608x256 .bf16) (dd : FVec Ideal S4608x1024 .bf16) : FVec Ideal S2x2x4x2048x2304 .f32 := broadcastInDim S2x2x4x2048x2304 ![0, 1, 2, 3, 4] bcast_S2x2x4x2048x1_S2x2x4x2048x2304_0_1_2_3_4 (r73 q x dd)
def r87 (q : FVec Ideal S4608x512 .bf16) (x : FVec Ideal S4608x256 .bf16) (dd : FVec Ideal S4608x1024 .bf16) : FVec Ideal S2x2x4x2048x2304 .f32 := mulf (r85 q x dd) (r86 q x dd)
def r88 (q : FVec Ideal S4608x512 .bf16) (x : FVec Ideal S4608x256 .bf16) (dd : FVec Ideal S4608x1024 .bf16) : FVec Ideal S2x2x4x2048x2304 .f32 := mulf (r87 q x dd) (r66 q x dd)
def rcst_19 (q : FVec Ideal S4608x512 .bf16) (x : FVec Ideal S4608x256 .bf16) (dd : FVec Ideal S4608x1024 .bf16) : FVec Ideal S_ .f32 := constant S_ .f32 0x00000000#32
def r89 (q : FVec Ideal S4608x512 .bf16) (x : FVec Ideal S4608x256 .bf16) (dd : FVec Ideal S4608x1024 .bf16) : FVec Ideal S2x2x4x2048 .f32 := Host.reduceAdd (r88 q x dd) (rcst_19 q x dd) reducesTo_S2x2x4x2048x2304_S2x2x4x2048_d4 h_S_
def r90 (q : FVec Ideal S4608x512 .bf16) (x : FVec Ideal S4608x256 .bf16) (dd : FVec Ideal S4608x1024 .bf16) : FVec Ideal S2x2x4x2048x1 .f32 := shapeCast _ (r89 q x dd) shapeCasts_S2x2x4x2048_S2x2x4x2048x1
def r91 (q : FVec Ideal S4608x512 .bf16) (x : FVec Ideal S4608x256 .bf16) (dd : FVec Ideal S4608x1024 .bf16) : FVec Ideal S2x2x4x2048x1 .f32 := Host.negf (r90 q x dd)
def r92 (q : FVec Ideal S4608x512 .bf16) (x : FVec Ideal S4608x256 .bf16) (dd : FVec Ideal S4608x1024 .bf16) : FVec Ideal S2x2x4x2048x2304 .f32 := broadcastInDim S2x2x4x2048x2304 ![0, 1, 2, 3, 4] bcast_S2x2x4x2048x1_S2x2x4x2048x2304_0_1_2_3_4 (r68 q x dd)
def r93 (q : FVec Ideal S4608x512 .bf16) (x : FVec Ideal S4608x256 .bf16) (dd : FVec Ideal S4608x1024 .bf16) : FVec Ideal S2x2x4x2048x2304 .f32 := Host.divf (r85 q x dd) (r92 q x dd)
def rcst_20 (q : FVec Ideal S4608x512 .bf16) (x : FVec Ideal S4608x256 .bf16) (dd : FVec Ideal S4608x1024 .bf16) : FVec Ideal S_ .f32 := constant S_ .f32 0x00000000#32
def r94 (q : FVec Ideal S4608x512 .bf16) (x : FVec Ideal S4608x256 .bf16) (dd : FVec Ideal S4608x1024 .bf16) : FVec Ideal S2x2x4x2048 .f32 := Host.reduceAdd (r91 q x dd) (rcst_20 q x dd) reducesTo_S2x2x4x2048x1_S2x2x4x2048_d4 h_S_
def r95 (q : FVec Ideal S4608x512 .bf16) (x : FVec Ideal S4608x256 .bf16) (dd : FVec Ideal S4608x1024 .bf16) : FVec Ideal S2x2x4x2048x2304 .f32 := broadcastInDim S2x2x4x2048x2304 ![0, 1, 2, 3] bcast_S2x2x4x2048_S2x2x4x2048x2304_0_1_2_3 (r94 q x dd)
def r96 (q : FVec Ideal S4608x512 .bf16) (x : FVec Ideal S4608x256 .bf16) (dd : FVec Ideal S4608x1024 .bf16) : FVec Ideal S2x2x4x2048x2304 .f32 := addf (r93 q x dd) (r95 q x dd)
def r97 (q : FVec Ideal S4608x512 .bf16) (x : FVec Ideal S4608x256 .bf16) (dd : FVec Ideal S4608x1024 .bf16) : FVec Ideal S2x2x4x2048x2304 .f32 := mulf (r96 q x dd) (r66 q x dd)
def r98 (q : FVec Ideal S4608x512 .bf16) (x : FVec Ideal S4608x256 .bf16) (dd : FVec Ideal S4608x1024 .bf16) : FVec Ideal S2x2x2304x64 .f32 := Host.dotGeneral dot_S2x2x4x2048x2304_S2x2x4x2048x64_S2x2x2304x64_23_23_4_4_01_01 none (r97 q x dd) (r44 q x dd)
def r99 (q : FVec Ideal S4608x512 .bf16) (x : FVec Ideal S4608x256 .bf16) (dd : FVec Ideal S4608x1024 .bf16) : FVec Ideal S2x2x4x2048x64 .f32 := Host.dotGeneral dot_S2x2x4x2048x2304_S2x2x2304x64_S2x2x4x2048x64_4_2_23_3_01_01 none (r97 q x dd) (r8 q x dd)
def rcst_21 (q : FVec Ideal S4608x512 .bf16) (x : FVec Ideal S4608x256 .bf16) (dd : FVec Ideal S4608x1024 .bf16) : FVec Ideal S_ .f32 := constant S_ .f32 0x00000000#32
def r100 (q : FVec Ideal S4608x512 .bf16) (x : FVec Ideal S4608x256 .bf16) (dd : FVec Ideal S4608x1024 .bf16) : FVec Ideal S2x2x4x2304x64 .f32 := pad S2x2x4x2304x64 ![0, 0, 0, 256, 0] ![0, 0, 0, 0, 0] ![0, 0, 0, 0, 0] (r99 q x dd) (rcst_21 q x dd) pads_S2x2x4x2048x64_S2x2x4x2304x64_000_000_000_25600_000 h_S_
def r101 (q : FVec Ideal S4608x512 .bf16) (x : FVec Ideal S4608x256 .bf16) (dd : FVec Ideal S4608x1024 .bf16) : FVec Ideal S2x2x64x256 .f32 := Host.dotGeneral dot_S2x2x4x256x64_S2x2x4x256x256_S2x2x64x256_23_23_4_4_01_01 none (r81 q x dd) (r39 q x dd)
def r102 (q : FVec Ideal S4608x512 .bf16) (x : FVec Ideal S4608x256 .bf16) (dd : FVec Ideal S4608x1024 .bf16) : FVec Ideal S2x2x256x64 .f32 := transpose S2x2x256x64 [0, 1, 3, 2] (r101 q x dd) transposes_S2x2x64x256_S2x2x256x64_0_1_3_2
def r103 (q : FVec Ideal S4608x512 .bf16) (x : FVec Ideal S4608x256 .bf16) (dd : FVec Ideal S4608x1024 .bf16) : FVec Ideal S2x2x4x256x256 .f32 := Host.dotGeneral dot_S2x2x4x256x64_S2x2x256x64_S2x2x4x256x256_4_3_23_2_01_01 none (r81 q x dd) (r13 q x dd)
def r104 (q : FVec Ideal S4608x512 .bf16) (x : FVec Ideal S4608x256 .bf16) (dd : FVec Ideal S4608x1024 .bf16) : FVec Ideal S2x2x4x256x256 .f32 := broadcastInDim S2x2x4x256x256 ![0, 1, 2, 3, 4] bcast_S2x2x4x256x1_S2x2x4x256x256_0_1_2_3_4 (r42 q x dd)
def r105 (q : FVec Ideal S4608x512 .bf16) (x : FVec Ideal S4608x256 .bf16) (dd : FVec Ideal S4608x1024 .bf16) : FVec Ideal S2x2x4x256x256 .f32 := mulf (r103 q x dd) (r104 q x dd)
def r106 (q : FVec Ideal S4608x512 .bf16) (x : FVec Ideal S4608x256 .bf16) (dd : FVec Ideal S4608x1024 .bf16) : FVec Ideal S2x2x4x256x256 .f32 := mulf (r105 q x dd) (r35 q x dd)
def rcst_22 (q : FVec Ideal S4608x512 .bf16) (x : FVec Ideal S4608x256 .bf16) (dd : FVec Ideal S4608x1024 .bf16) : FVec Ideal S_ .f32 := constant S_ .f32 0x00000000#32
def r107 (q : FVec Ideal S4608x512 .bf16) (x : FVec Ideal S4608x256 .bf16) (dd : FVec Ideal S4608x1024 .bf16) : FVec Ideal S2x2x4x256 .f32 := Host.reduceAdd (r106 q x dd) (rcst_22 q x dd) reducesTo_S2x2x4x256x256_S2x2x4x256_d4 h_S_
def r108 (q : FVec Ideal S4608x512 .bf16) (x : FVec Ideal S4608x256 .bf16) (dd : FVec Ideal S4608x1024 .bf16) : FVec Ideal S2x2x4x256x1 .f32 := shapeCast _ (r107 q x dd) shapeCasts_S2x2x4x256_S2x2x4x256x1
def r109 (q : FVec Ideal S4608x512 .bf16) (x : FVec Ideal S4608x256 .bf16) (dd : FVec Ideal S4608x1024 .bf16) : FVec Ideal S2x2x4x256x1 .f32 := Host.negf (r108 q x dd)
def r110 (q : FVec Ideal S4608x512 .bf16) (x : FVec Ideal S4608x256 .bf16) (dd : FVec Ideal S4608x1024 .bf16) : FVec Ideal S2x2x4x256x256 .f32 := broadcastInDim S2x2x4x256x256 ![0, 1, 2, 3, 4] bcast_S2x2x4x256x1_S2x2x4x256x256_0_1_2_3_4 (r37 q x dd)
def r111 (q : FVec Ideal S4608x512 .bf16) (x : FVec Ideal S4608x256 .bf16) (dd : FVec Ideal S4608x1024 .bf16) : FVec Ideal S2x2x4x256x256 .f32 := Host.divf (r103 q x dd) (r110 q x dd)
def rcst_23 (q : FVec Ideal S4608x512 .bf16) (x : FVec Ideal S4608x256 .bf16) (dd : FVec Ideal S4608x1024 .bf16) : FVec Ideal S_ .f32 := constant S_ .f32 0x00000000#32
def r112 (q : FVec Ideal S4608x512 .bf16) (x : FVec Ideal S4608x256 .bf16) (dd : FVec Ideal S4608x1024 .bf16) : FVec Ideal S2x2x4x256 .f32 := Host.reduceAdd (r109 q x dd) (rcst_23 q x dd) reducesTo_S2x2x4x256x1_S2x2x4x256_d4 h_S_
def r113 (q : FVec Ideal S4608x512 .bf16) (x : FVec Ideal S4608x256 .bf16) (dd : FVec Ideal S4608x1024 .bf16) : FVec Ideal S2x2x4x256x256 .f32 := broadcastInDim S2x2x4x256x256 ![0, 1, 2, 3] bcast_S2x2x4x256_S2x2x4x256x256_0_1_2_3 (r112 q x dd)
def r114 (q : FVec Ideal S4608x512 .bf16) (x : FVec Ideal S4608x256 .bf16) (dd : FVec Ideal S4608x1024 .bf16) : FVec Ideal S2x2x4x256x256 .f32 := addf (r111 q x dd) (r113 q x dd)
def r115 (q : FVec Ideal S4608x512 .bf16) (x : FVec Ideal S4608x256 .bf16) (dd : FVec Ideal S4608x1024 .bf16) : FVec Ideal S2x2x4x256x256 .f32 := mulf (r114 q x dd) (r35 q x dd)
def r116 (q : FVec Ideal S4608x512 .bf16) (x : FVec Ideal S4608x256 .bf16) (dd : FVec Ideal S4608x1024 .bf16) : FVec Ideal S2x2x256x64 .f32 := Host.dotGeneral dot_S2x2x4x256x256_S2x2x4x256x64_S2x2x256x64_23_23_4_4_01_01 none (r115 q x dd) (r11 q x dd)
def r117 (q : FVec Ideal S4608x512 .bf16) (x : FVec Ideal S4608x256 .bf16) (dd : FVec Ideal S4608x1024 .bf16) : FVec Ideal S2x2x4x256x64 .f32 := Host.dotGeneral dot_S2x2x4x256x256_S2x2x256x64_S2x2x4x256x64_4_2_23_3_01_01 none (r115 q x dd) (r12 q x dd)
def rcst_24 (q : FVec Ideal S4608x512 .bf16) (x : FVec Ideal S4608x256 .bf16) (dd : FVec Ideal S4608x1024 .bf16) : FVec Ideal S_ .f32 := constant S_ .f32 0x00000000#32
def r118 (q : FVec Ideal S4608x512 .bf16) (x : FVec Ideal S4608x256 .bf16) (dd : FVec Ideal S4608x1024 .bf16) : FVec Ideal S2x2x2304x64 .f32 := pad S2x2x2304x64 ![0, 0, 0, 0] ![0, 0, 2048, 0] ![0, 0, 0, 0] (r102 q x dd) (rcst_24 q x dd) pads_S2x2x256x64_S2x2x2304x64_000_000_020480_000 h_S_
def r119 (q : FVec Ideal S4608x512 .bf16) (x : FVec Ideal S4608x256 .bf16) (dd : FVec Ideal S4608x1024 .bf16) : FVec Ideal S2x2x2304x64 .f32 := addf (r84 q x dd) (r118 q x dd)
def rcst_25 (q : FVec Ideal S4608x512 .bf16) (x : FVec Ideal S4608x256 .bf16) (dd : FVec Ideal S4608x1024 .bf16) : FVec Ideal S_ .f32 := constant S_ .f32 0x00000000#32
def r120 (q : FVec Ideal S4608x512 .bf16) (x : FVec Ideal S4608x256 .bf16) (dd : FVec Ideal S4608x1024 .bf16) : FVec Ideal S2x2x2304x64 .f32 := pad S2x2x2304x64 ![0, 0, 0, 0] ![0, 0, 2048, 0] ![0, 0, 0, 0] (r116 q x dd) (rcst_25 q x dd) pads_S2x2x256x64_S2x2x2304x64_000_000_020480_000 h_S_
def r121 (q : FVec Ideal S4608x512 .bf16) (x : FVec Ideal S4608x256 .bf16) (dd : FVec Ideal S4608x1024 .bf16) : FVec Ideal S2x2x2304x64 .f32 := addf (r98 q x dd) (r120 q x dd)
def rcst_26 (q : FVec Ideal S4608x512 .bf16) (x : FVec Ideal S4608x256 .bf16) (dd : FVec Ideal S4608x1024 .bf16) : FVec Ideal S_ .f32 := constant S_ .f32 0x00000000#32
def r122 (q : FVec Ideal S4608x512 .bf16) (x : FVec Ideal S4608x256 .bf16) (dd : FVec Ideal S4608x1024 .bf16) : FVec Ideal S2x2x4x2304x64 .f32 := pad S2x2x4x2304x64 ![0, 0, 0, 0, 0] ![0, 0, 0, 2048, 0] ![0, 0, 0, 0, 0] (r117 q x dd) (rcst_26 q x dd) pads_S2x2x4x256x64_S2x2x4x2304x64_000_000_000_020480_000 h_S_
def r123 (q : FVec Ideal S4608x512 .bf16) (x : FVec Ideal S4608x256 .bf16) (dd : FVec Ideal S4608x1024 .bf16) : FVec Ideal S2x2x4x2304x64 .f32 := addf (r100 q x dd) (r122 q x dd)
def r124 (q : FVec Ideal S4608x512 .bf16) (x : FVec Ideal S4608x256 .bf16) (dd : FVec Ideal S4608x1024 .bf16) : FVec Ideal S2x2304x2x64 .f32 := transpose S2x2304x2x64 [0, 2, 1, 3] (r119 q x dd) transposes_S2x2x2304x64_S2x2304x2x64_0_2_1_3
def r125 (q : FVec Ideal S4608x512 .bf16) (x : FVec Ideal S4608x256 .bf16) (dd : FVec Ideal S4608x1024 .bf16) : FVec Ideal S4608x128 .f32 := shapeCast _ (r124 q x dd) shapeCasts_S2x2304x2x64_S4608x128
def r126 (q : FVec Ideal S4608x512 .bf16) (x : FVec Ideal S4608x256 .bf16) (dd : FVec Ideal S4608x1024 .bf16) : FVec Ideal S2x2304x2x64 .f32 := transpose S2x2304x2x64 [0, 2, 1, 3] (r121 q x dd) transposes_S2x2x2304x64_S2x2304x2x64_0_2_1_3
def r127 (q : FVec Ideal S4608x512 .bf16) (x : FVec Ideal S4608x256 .bf16) (dd : FVec Ideal S4608x1024 .bf16) : FVec Ideal S4608x128 .f32 := shapeCast _ (r126 q x dd) shapeCasts_S2x2304x2x64_S4608x128
def r128 (q : FVec Ideal S4608x512 .bf16) (x : FVec Ideal S4608x256 .bf16) (dd : FVec Ideal S4608x1024 .bf16) : FVec Ideal S2x2304x2x4x64 .f32 := transpose S2x2304x2x4x64 [0, 3, 1, 2, 4] (r123 q x dd) transposes_S2x2x4x2304x64_S2x2304x2x4x64_0_3_1_2_4
def r129 (q : FVec Ideal S4608x512 .bf16) (x : FVec Ideal S4608x256 .bf16) (dd : FVec Ideal S4608x1024 .bf16) : FVec Ideal S4608x512 .f32 := shapeCast _ (r128 q x dd) shapeCasts_S2x2304x2x4x64_S4608x512
def r130 (q : FVec Ideal S4608x512 .bf16) (x : FVec Ideal S4608x256 .bf16) (dd : FVec Ideal S4608x1024 .bf16) : FVec Ideal S4608x512 .bf16 := truncf .bf16 (r129 q x dd) bitsLt_bf16_f32
def r131 (q : FVec Ideal S4608x512 .bf16) (x : FVec Ideal S4608x256 .bf16) (dd : FVec Ideal S4608x1024 .bf16) : FVec Ideal S128x4608 .f32 := transpose S128x4608 [1, 0] (r127 q x dd) transposes_S4608x128_S128x4608_1_0
def r132 (q : FVec Ideal S4608x512 .bf16) (x : FVec Ideal S4608x256 .bf16) (dd : FVec Ideal S4608x1024 .bf16) : FVec Ideal S128x4608 .f32 := transpose S128x4608 [1, 0] (r125 q x dd) transposes_S4608x128_S128x4608_1_0
def r133 (q : FVec Ideal S4608x512 .bf16) (x : FVec Ideal S4608x256 .bf16) (dd : FVec Ideal S4608x1024 .bf16) : FVec Ideal S256x4608 .f32 := concatenate S256x4608 0 [⟨S128x4608, (r131 q x dd)⟩, ⟨S128x4608, (r132 q x dd)⟩] concatenates_S128x4608_S128x4608_S256x4608_d0

variable (m : (ℓ : Loc nD τ sig) → Buf (Elt Ideal) ℓ) (c : Dev nD)
theorem out0_eq : res_out0 m c = r130 (m ((c.tc : Thread nD τ).loc main_arg0)) (m ((c.tc : Thread nD τ).loc main_arg1)) (m ((c.tc : Thread nD τ).loc main_arg2)) := rfl
theorem out1_eq : res_out1 m c = r133 (m ((c.tc : Thread nD τ).loc main_arg0)) (m ((c.tc : Thread nD τ).loc main_arg1)) (m ((c.tc : Thread nD τ).loc main_arg2)) := rfl
end Cert.ReferenceIdeal.Hand
end
-- ==== Proof.RefRead.lean ====
module
public import proofs.«01_k».proof.Proof.RefOps
@[expose] public section
/-! The reference's two results, read at an index: the attention's gradients row by row and head by head. -/
set_option maxRecDepth 16384
noncomputable section
open Idealize.ShloMosaic Idealize.ShloMosaic.TcCoe Idealize.SL.Sem
namespace Cert.ReferenceIdeal.Hand
open Cert.ReferenceIdeal Cert.ReferenceIdeal.Gen Cert.KernelIdeal.Hand
variable (q : FVec Ideal S4608x512 .bf16) (x : FVec Ideal S4608x256 .bf16) (dd : FVec Ideal S4608x1024 .bf16)

theorem negInf : Ideal.ofBits .f32 0xFF800000#32 = ⊥ := by simp [Ideal.ofBits, Ideal.ieee]
theorem ofBits_one : Ideal.ofBits .f32 0x3F800000#32 = 1 := by
  simp [Ideal.ofBits, Ideal.ieee, -EReal.coe_mul]
  norm_num
theorem sC_at (e : Fin 2) (g : Fin 2) (a : Fin 4) (i : Fin 256) (k : Fin 256) :
    (r14 q x dd) (ix5 e g a i k) = score q x 256 (by decide) e (gh g a) ⟨i.val, by omega⟩ k := by
  pointwise [r14, r11, r12, r8, r7, r6, r5, r3, r1, r0, score]
  blk_point []

theorem mC_at (e : Fin 2) (g : Fin 2) (a : Fin 4) (i : Fin 256) :
    (r15 q x dd) (ix4 e g a i) = Rows.top (score q x 256 (by decide) e (gh g a) ⟨i.val, by omega⟩) := by
  pointwise [r15, rcst, Rows.top]
  simp only [sC_at, negInf]

theorem tbC_at (e : Fin 2) (g : Fin 2) (a : Fin 4) (i : Fin 256) :
    (r21 q x dd) (ix4 e g a i) = (⊥ : EReal) := by
  pointwise [r21, rcst_1]
  exact negInf

theorem tC_at (e : Fin 2) (g : Fin 2) (a : Fin 4) (i : Fin 256) :
    (r22 q x dd) (ix4 e g a i) = Rows.top (score q x 256 (by decide) e (gh g a) ⟨i.val, by omega⟩) := by
  unfold r22
  rw [Idealize.ShloMosaic.maximumf_apply, mC_at, tbC_at, Ideal.maximumf_def]
  exact max_bot_left _

theorem eC_at (e : Fin 2) (g : Fin 2) (a : Fin 4) (i : Fin 256) (k : Fin 256) :
    (r35 q x dd) (ix5 e g a i k) = Ideal.exp (score q x 256 (by decide) e (gh g a) ⟨i.val, by omega⟩ k - Rows.top (score q x 256 (by decide) e (gh g a) ⟨i.val, by omega⟩)) := by
  pointwise [r35, r34, r33, r32]
  simp only [sC_at, tC_at]

theorem lC_at (e : Fin 2) (g : Fin 2) (a : Fin 4) (i : Fin 256) :
    (r36 q x dd) (ix4 e g a i) = Rows.den (score q x 256 (by decide) e (gh g a) ⟨i.val, by omega⟩) := by
  pointwise [r36, rcst_7, Rows.den]
  simp only [eC_at, zero_add]

theorem bC_at (e : Fin 2) (g : Fin 2) (a : Fin 4) (i : Fin 256) :
    (r37 q x dd) (ix5 e g a i 0) = Rows.den (score q x 256 (by decide) e (gh g a) ⟨i.val, by omega⟩) := by
  pointwise [r37]
  rw [lC_at]

theorem yC_at (e : Fin 2) (g : Fin 2) (a : Fin 4) (i : Fin 256) (k : Fin 256) :
    (r39 q x dd) (ix5 e g a i k) = Rows.prob (score q x 256 (by decide) e (gh g a) ⟨i.val, by omega⟩) k := by
  pointwise [r39, r38, r37, Rows.prob]
  simp only [eC_at, lC_at]

theorem wC_at (e : Fin 2) (g : Fin 2) (a : Fin 4) (i : Fin 256) :
    (r42 q x dd) (ix5 e g a i 0) = Ideal.div 1 (Rows.den (score q x 256 (by decide) e (gh g a) ⟨i.val, by omega⟩) * Rows.den (score q x 256 (by decide) e (gh g a) ⟨i.val, by omega⟩)) := by
  pointwise [r42, r41, r40, rcst_8]
  simp only [bC_at, ofBits_one]

theorem pC_at (e : Fin 2) (g : Fin 2) (a : Fin 4) (i : Fin 256) (k : Fin 256) :
    (r103 q x dd) (ix5 e g a i k) = dprob x dd 256 (by decide) e (gh g a) ⟨i.val, by omega⟩ k := by
  pointwise [r103, r81, r80, r79, r78, r13, r10, r9, r4, r2, r1, dprob]
  blk_point []

theorem fC_at (e : Fin 2) (g : Fin 2) (a : Fin 4) (i : Fin 256) (k : Fin 256) :
    (r106 q x dd) (ix5 e g a i k) = (dprob x dd 256 (by decide) e (gh g a) ⟨i.val, by omega⟩ k) * Ideal.div 1 (Rows.den (score q x 256 (by decide) e (gh g a) ⟨i.val, by omega⟩) * Rows.den (score q x 256 (by decide) e (gh g a) ⟨i.val, by omega⟩)) * Ideal.exp (score q x 256 (by decide) e (gh g a) ⟨i.val, by omega⟩ k - Rows.top (score q x 256 (by decide) e (gh g a) ⟨i.val, by omega⟩)) := by
  pointwise [r106, r105, r104]
  simp only [pC_at, wC_at, eC_at]

theorem zC_at (e : Fin 2) (g : Fin 2) (a : Fin 4) (i : Fin 256) :
    (r107 q x dd) (ix4 e g a i) = ∑ k, (dprob x dd 256 (by decide) e (gh g a) ⟨i.val, by omega⟩ k) * Ideal.div 1 (Rows.den (score q x 256 (by decide) e (gh g a) ⟨i.val, by omega⟩) * Rows.den (score q x 256 (by decide) e (gh g a) ⟨i.val, by omega⟩)) * Ideal.exp (score q x 256 (by decide) e (gh g a) ⟨i.val, by omega⟩ k - Rows.top (score q x 256 (by decide) e (gh g a) ⟨i.val, by omega⟩)) := by
  pointwise [r107, rcst_22]
  simp only [fC_at, zero_add]

theorem nC_at (e : Fin 2) (g : Fin 2) (a : Fin 4) (i : Fin 256) :
    (r112 q x dd) (ix4 e g a i) = -(r107 q x dd) (ix4 e g a i) := by
  pointwise [r112, rcst_23, r109, r108]
  simp

theorem dC_at (e : Fin 2) (g : Fin 2) (a : Fin 4) (i : Fin 256) (k : Fin 256) :
    (r115 q x dd) (ix5 e g a i k) = dscore q x dd 256 (by decide) e (gh g a) ⟨i.val, by omega⟩ k := by
  pointwise [r115, r114, r113, r111, r110, dscore, Rows.grad]
  simp only [pC_at, nC_at, zC_at, bC_at, eC_at]

theorem kC_at (e : Fin 2) (g : Fin 2) (a : Fin 4) (k : Fin 256) (d : Fin 64) :
    (r12 q x dd) (ix4 e g k d) = x (ix2 (row e (up (by decide : 256 ≤ 2304) k)) (kc (gh g a) d)) := by
  pointwise [r12, r8, r7, r3, r1]
  blk_point []

theorem qqC_at (e : Fin 2) (g : Fin 2) (a : Fin 4) (i : Fin 256) (d : Fin 64) :
    (r11 q x dd) (ix5 e g a i d) = q (ix2 (row e ⟨i.val, by omega⟩) (hc (gh g a) d)) := by
  pointwise [r11, r6, r5, r0]
  blk_point []

theorem gC_at (e : Fin 2) (g : Fin 2) (a : Fin 4) (i : Fin 256) (d : Fin 64) :
    (r81 q x dd) (ix5 e g a i d) = dd (ix2 (row e ⟨i.val, by omega⟩) (gc (gh g a) d)) := by
  pointwise [r81, r80, r79, r78, r2]
  blk_point []

theorem qC_at (e : Fin 2) (g : Fin 2) (a : Fin 4) (i : Fin 256) (d : Fin 64) :
    (r117 q x dd) (ix5 e g a i d) = gradQ q x dd 256 (by decide) e (gh g a) ⟨i.val, by omega⟩ d := by
  pointwise [r117, gradQ]
  simp only [dC_at, kC_at q x dd e g a]

theorem dkC_at (e : Fin 2) (g : Fin 2) (k : Fin 256) (d : Fin 64) :
    (r116 q x dd) (ix4 e g k d) = ∑ a : Fin 4, ∑ i : Fin 256, termK q x dd 256 (by decide) e (gh g a) d k ⟨i.val, by omega⟩ := by
  pointwise [r116, termK]
  simp only [dC_at, qqC_at, mul_comm]

theorem dvC_at (e : Fin 2) (g : Fin 2) (k : Fin 256) (d : Fin 64) :
    (r102 q x dd) (ix4 e g k d) = ∑ a : Fin 4, ∑ i : Fin 256, termV q x dd 256 (by decide) e (gh g a) d k ⟨i.val, by omega⟩ := by
  pointwise [r102, r101, termV]
  simp only [yC_at, gC_at, mul_comm]

theorem sL_at (e : Fin 2) (g : Fin 2) (a : Fin 4) (i : Fin 2048) (k : Fin 2304) :
    (r45 q x dd) (ix5 e g a i k) = score q x 2304 (by decide) e (gh g a) ⟨256 + i.val, by omega⟩ k := by
  pointwise [r45, r44, r8, r7, r6, r5, r3, r1, r0, score]
  blk_point []

theorem mL_at (e : Fin 2) (g : Fin 2) (a : Fin 4) (i : Fin 2048) :
    (r46 q x dd) (ix4 e g a i) = Rows.top (score q x 2304 (by decide) e (gh g a) ⟨256 + i.val, by omega⟩) := by
  pointwise [r46, rcst_9, Rows.top]
  simp only [sL_at, negInf]

theorem tbL_at (e : Fin 2) (g : Fin 2) (a : Fin 4) (i : Fin 2048) :
    (r52 q x dd) (ix4 e g a i) = (⊥ : EReal) := by
  pointwise [r52, rcst_11]
  exact negInf

theorem tL_at (e : Fin 2) (g : Fin 2) (a : Fin 4) (i : Fin 2048) :
    (r53 q x dd) (ix4 e g a i) = Rows.top (score q x 2304 (by decide) e (gh g a) ⟨256 + i.val, by omega⟩) := by
  unfold r53
  rw [Idealize.ShloMosaic.maximumf_apply, mL_at, tbL_at, Ideal.maximumf_def]
  exact max_bot_left _

theorem eL_at (e : Fin 2) (g : Fin 2) (a : Fin 4) (i : Fin 2048) (k : Fin 2304) :
    (r66 q x dd) (ix5 e g a i k) = Ideal.exp (score q x 2304 (by decide) e (gh g a) ⟨256 + i.val, by omega⟩ k - Rows.top (score q x 2304 (by decide) e (gh g a) ⟨256 + i.val, by omega⟩)) := by
  pointwise [r66, r65, r64, r63]
  simp only [sL_at, tL_at]

theorem lL_at (e : Fin 2) (g : Fin 2) (a : Fin 4) (i : Fin 2048) :
    (r67 q x dd) (ix4 e g a i) = Rows.den (score q x 2304 (by decide) e (gh g a) ⟨256 + i.val, by omega⟩) := by
  pointwise [r67, rcst_17, Rows.den]
  simp only [eL_at, zero_add]

theorem bL_at (e : Fin 2) (g : Fin 2) (a : Fin 4) (i : Fin 2048) :
    (r68 q x dd) (ix5 e g a i 0) = Rows.den (score q x 2304 (by decide) e (gh g a) ⟨256 + i.val, by omega⟩) := by
  pointwise [r68]
  rw [lL_at]

theorem yL_at (e : Fin 2) (g : Fin 2) (a : Fin 4) (i : Fin 2048) (k : Fin 2304) :
    (r70 q x dd) (ix5 e g a i k) = Rows.prob (score q x 2304 (by decide) e (gh g a) ⟨256 + i.val, by omega⟩) k := by
  pointwise [r70, r69, r68, Rows.prob]
  simp only [eL_at, lL_at]

theorem wL_at (e : Fin 2) (g : Fin 2) (a : Fin 4) (i : Fin 2048) :
    (r73 q x dd) (ix5 e g a i 0) = Ideal.div 1 (Rows.den (score q x 2304 (by decide) e (gh g a) ⟨256 + i.val, by omega⟩) * Rows.den (score q x 2304 (by decide) e (gh g a) ⟨256 + i.val, by omega⟩)) := by
  pointwise [r73, r72, r71, rcst_18]
  simp only [bL_at, ofBits_one]

theorem pL_at (e : Fin 2) (g : Fin 2) (a : Fin 4) (i : Fin 2048) (k : Fin 2304) :
    (r85 q x dd) (ix5 e g a i k) = dprob x dd 2304 (by decide) e (gh g a) ⟨256 + i.val, by omega⟩ k := by
  pointwise [r85, r82, r80, r79, r78, r10, r9, r4, r2, r1, dprob]
  blk_point []

theorem fL_at (e : Fin 2) (g : Fin 2) (a : Fin 4) (i : Fin 2048) (k : Fin 2304) :
    (r88 q x dd) (ix5 e g a i k) = (dprob x dd 2304 (by decide) e (gh g a) ⟨256 + i.val, by omega⟩ k) * Ideal.div 1 (Rows.den (score q x 2304 (by decide) e (gh g a) ⟨256 + i.val, by omega⟩) * Rows.den (score q x 2304 (by decide) e (gh g a) ⟨256 + i.val, by omega⟩)) * Ideal.exp (score q x 2304 (by decide) e (gh g a) ⟨256 + i.val, by omega⟩ k - Rows.top (score q x 2304 (by decide) e (gh g a) ⟨256 + i.val, by omega⟩)) := by
  pointwise [r88, r87, r86]
  simp only [pL_at, wL_at, eL_at]

theorem zL_at (e : Fin 2) (g : Fin 2) (a : Fin 4) (i : Fin 2048) :
    (r89 q x dd) (ix4 e g a i) = ∑ k, (dprob x dd 2304 (by decide) e (gh g a) ⟨256 + i.val, by omega⟩ k) * Ideal.div 1 (Rows.den (score q x 2304 (by decide) e (gh g a) ⟨256 + i.val, by omega⟩) * Rows.den (score q x 2304 (by decide) e (gh g a) ⟨256 + i.val, by omega⟩)) * Ideal.exp (score q x 2304 (by decide) e (gh g a) ⟨256 + i.val, by omega⟩ k - Rows.top (score q x 2304 (by decide) e (gh g a) ⟨256 + i.val, by omega⟩)) := by
  pointwise [r89, rcst_19]
  simp only [fL_at, zero_add]

theorem nL_at (e : Fin 2) (g : Fin 2) (a : Fin 4) (i : Fin 2048) :
    (r94 q x dd) (ix4 e g a i) = -(r89 q x dd) (ix4 e g a i) := by
  pointwise [r94, rcst_20, r91, r90]
  simp

theorem dL_at (e : Fin 2) (g : Fin 2) (a : Fin 4) (i : Fin 2048) (k : Fin 2304) :
    (r97 q x dd) (ix5 e g a i k) = dscore q x dd 2304 (by decide) e (gh g a) ⟨256 + i.val, by omega⟩ k := by
  pointwise [r97, r96, r95, r93, r92, dscore, Rows.grad]
  simp only [pL_at, nL_at, zL_at, bL_at, eL_at]

theorem kL_at (e : Fin 2) (g : Fin 2) (a : Fin 4) (k : Fin 2304) (d : Fin 64) :
    (r8 q x dd) (ix4 e g k d) = x (ix2 (row e (up (by decide : 2304 ≤ 2304) k)) (kc (gh g a) d)) := by
  pointwise [r8, r7, r3, r1]
  blk_point []

theorem qqL_at (e : Fin 2) (g : Fin 2) (a : Fin 4) (i : Fin 2048) (d : Fin 64) :
    (r44 q x dd) (ix5 e g a i d) = q (ix2 (row e ⟨256 + i.val, by omega⟩) (hc (gh g a) d)) := by
  pointwise [r44, r6, r5, r0]
  blk_point []

theorem gL_at (e : Fin 2) (g : Fin 2) (a : Fin 4) (i : Fin 2048) (d : Fin 64) :
    (r82 q x dd) (ix5 e g a i d) = dd (ix2 (row e ⟨256 + i.val, by omega⟩) (gc (gh g a) d)) := by
  pointwise [r82, r80, r79, r78, r2]
  blk_point []

theorem qL_at (e : Fin 2) (g : Fin 2) (a : Fin 4) (i : Fin 2048) (d : Fin 64) :
    (r99 q x dd) (ix5 e g a i d) = gradQ q x dd 2304 (by decide) e (gh g a) ⟨256 + i.val, by omega⟩ d := by
  pointwise [r99, gradQ]
  simp only [dL_at, kL_at q x dd e g a]

theorem dkL_at (e : Fin 2) (g : Fin 2) (k : Fin 2304) (d : Fin 64) :
    (r98 q x dd) (ix4 e g k d) = ∑ a : Fin 4, ∑ i : Fin 2048, termK q x dd 2304 (by decide) e (gh g a) d k ⟨256 + i.val, by omega⟩ := by
  pointwise [r98, termK]
  simp only [dL_at, qqL_at, mul_comm]

theorem dvL_at (e : Fin 2) (g : Fin 2) (k : Fin 2304) (d : Fin 64) :
    (r84 q x dd) (ix4 e g k d) = ∑ a : Fin 4, ∑ i : Fin 2048, termV q x dd 2304 (by decide) e (gh g a) d k ⟨256 + i.val, by omega⟩ := by
  pointwise [r84, r83, termV]
  simp only [yL_at, gL_at, mul_comm]

theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  rw [Fin.ext ha, Fin.ext hb, Fin.ext hc, Fin.ext hd]
theorem ix5_eq {n0 n1 n2 n3 n4 : ℕ} {a a' : Fin n0} {b b' : Fin n1} {c c' : Fin n2} {d d' : Fin n3} {e e' : Fin n4}
    (ha : a.val = a'.val) (hb : b.val = b'.val) (hc : c.val = c'.val) (hd : d.val = d'.val) (he : e.val = e'.val) :
    ix5 a b c d e = ix5 a' b' c' d' e' := by
  rw [Fin.ext ha, Fin.ext hb, Fin.ext hc, Fin.ext hd, Fin.ext he]

theorem outQ_at (e : Fin 2) (g : Fin 2) (a : Fin 4) (i : Fin 2304) (d : Fin 64) :
    (r130 q x dd) (ix2 (row e i) (hc (gh g a) d)) = (r123 q x dd) (ix5 e g a i d) := by
  pointwise [r130, r129, r128]
  exact congrArg (r123 q x dd) (ix5_eq (by (try dsimp only) <;> omega) (by (try dsimp only) <;> omega) (by (try dsimp only) <;> omega) (by (try dsimp only) <;> omega) (by (try dsimp only) <;> omega))

theorem outQ_ctx (e : Fin 2) (g : Fin 2) (a : Fin 4) (i : Fin 2304) (hi : i.val < 256) (d : Fin 64) :
    (r130 q x dd) (ix2 (row e i) (hc (gh g a) d)) = gradQ q x dd 256 (by decide) e (gh g a) i d := by
  refine (outQ_at q x dd e g a i d).trans (Eq.trans ?_ (qC_at q x dd e g a ⟨i.val, hi⟩ d))
  pointwise [r123, r122, r100, rcst_21, rcst_26]
  rw [dif_neg (by omega), dif_pos hi]
  exact zero_add (M := EReal) _

theorem outQ_lat (e : Fin 2) (g : Fin 2) (a : Fin 4) (i : Fin 2304) (hi : 256 ≤ i.val) (d : Fin 64) :
    (r130 q x dd) (ix2 (row e i) (hc (gh g a) d)) = gradQ q x dd 2304 (by decide) e (gh g a) i d := by
  refine (outQ_at q x dd e g a i d).trans (Eq.trans ?_ (qL_at q x dd e g a ⟨i.val - 256, by omega⟩ d |>.trans ?_))
  · pointwise [r123, r122, r100, rcst_21, rcst_26]
    rw [dif_pos (by omega), dif_neg (by omega)]
    exact add_zero (M := EReal) _
  · have : (⟨256 + (i.val - 256), by omega⟩ : Fin 2304) = i := Fin.ext (by show 256 + (i.val - 256) = i.val; omega)
    exact congrArg (fun i' => gradQ q x dd 2304 (by decide) e (gh g a) i' d) this

theorem outK (e : Fin 2) (g : Fin 2) (k : Fin 2304) (d : Fin 64) :
    (r133 q x dd) (ix2 (kc (gh g 0) d) (row e k)) = both (fun n hn h k i => termK q x dd n hn e h d k i) g k := by
  pointwise [r133, r131, r127, r126, r121, r120, rcst_25, both]
  rw [dif_pos (by omega), add_comm, dkL_at]
  congr 1
  split
  · exact dkC_at q x dd e g _ d
  · rfl

theorem outV_at (e : Fin 2) (g : Fin 2) (k : Fin 2304) (d : Fin 64) :
    (r133 q x dd) (ix2 (vc (gh g 0) d) (row e k)) = (r119 q x dd) (ix4 e g k d) := by
  pointwise [r133, r132, r125, r124]
  rw [dif_neg (by omega)]
  exact congrArg (r119 q x dd) (ix4_eq (by (try dsimp only) <;> omega) (by (try dsimp only) <;> omega) (by (try dsimp only) <;> omega) (by (try dsimp only) <;> omega))

theorem outV (e : Fin 2) (g : Fin 2) (k : Fin 2304) (d : Fin 64) :
    (r133 q x dd) (ix2 (vc (gh g 0) d) (row e k)) = both (fun n hn h k i => termV q x dd n hn e h d k i) g k := by
  refine (outV_at q x dd e g k d).trans ?_
  pointwise [r119, r118, rcst_24, both]
  rw [add_comm, dvL_at]
  congr 1
  split
  · exact dvC_at q x dd e g _ d
  · rfl

end Cert.ReferenceIdeal.Hand
end
-- ==== Proof.BlockA.lean ====
module
public import proofs.«01_k».proof.Proof.Gen.KernelIdeal.Value
public import proofs.«01_k».proof.Proof.Pieces
public import proofs.«01_k».proof.Proof.BlockDefs
@[expose] public section
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

set_option maxHeartbeats 1600000 in
theorem stepA_k0 (c : Dev nD) (t : Fin cfg0.N) (h0 : t.val % 9 = 0) (h1 : t.val % 9 = 0) (h2 : ¬1 ≤ t.val % 9) (d : Fin 64) (k : Fin 2304) (hk : k.val < 256) :
    (outsAt0 m c t.val t.isLt).2 (ix2 (kc 0 d) k) =
    ((((0 : EReal) + dkB (iblk m c 0 t) (iblk m c 1 t) (iblk m c 2 t) (iblk m c 3 t) (iblk m c 4 t) 0 d k) + dkB (iblk m c 0 t) (iblk m c 1 t) (iblk m c 2 t) (iblk m c 3 t) (iblk m c 4 t) 1 d k)
      + dkB (iblk m c 0 t) (iblk m c 1 t) (iblk m c 2 t) (iblk m c 3 t) (iblk m c 4 t) 2 d k) + dkB (iblk m c 0 t) (iblk m c 1 t) (iblk m c 2 t) (iblk m c 3 t) (iblk m c 4 t) 3 d k := by
  rw [outsAt0_A m c t h0 h1 h2]
  frame_open
  simp (disch := decide) only [↓ View.readCov_skip, ↓ View.readCov_cons_toLoadRect, ↓ View.readCov_fill]
  frame_out
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.here _ _ _ (ix2 d (⟨k.val, hk⟩ : Fin 256)) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dkB, dsB, pB]
  simp [hc, kc, vc]

set_option maxHeartbeats 1600000 in
theorem stepA_k1 (c : Dev nD) (t : Fin cfg0.N) (h0 : t.val % 9 = 0) (h1 : t.val % 9 = 0) (h2 : ¬1 ≤ t.val % 9) (d : Fin 64) (k : Fin 2304) (hk : k.val < 256) :
    (outsAt0 m c t.val t.isLt).2 (ix2 (kc 4 d) k) =
    ((((0 : EReal) + dkB (iblk m c 0 t) (iblk m c 1 t) (iblk m c 2 t) (iblk m c 3 t) (iblk m c 4 t) 4 d k) + dkB (iblk m c 0 t) (iblk m c 1 t) (iblk m c 2 t) (iblk m c 3 t) (iblk m c 4 t) 5 d k)
      + dkB (iblk m c 0 t) (iblk m c 1 t) (iblk m c 2 t) (iblk m c 3 t) (iblk m c 4 t) 6 d k) + dkB (iblk m c 0 t) (iblk m c 1 t) (iblk m c 2 t) (iblk m c 3 t) (iblk m c 4 t) 7 d k := by
  rw [outsAt0_A m c t h0 h1 h2]
  frame_open
  simp (disch := decide) only [↓ View.readCov_skip, ↓ View.readCov_cons_toLoadRect, ↓ View.readCov_fill]
  frame_out
  refine (Pieces.here _ _ _ (ix2 d (⟨k.val, hk⟩ : Fin 256)) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dkB, dsB, pB]
  simp [hc, kc, vc]

set_option maxHeartbeats 1600000 in
theorem stepA_v0 (c : Dev nD) (t : Fin cfg0.N) (h0 : t.val % 9 = 0) (h1 : t.val % 9 = 0) (h2 : ¬1 ≤ t.val % 9) (d : Fin 64) (k : Fin 2304) (hk : k.val < 256) :
    (outsAt0 m c t.val t.isLt).2 (ix2 (vc 0 d) k) =
    ((((0 : EReal) + dvB (iblk m c 0 t) (iblk m c 1 t) (iblk m c 3 t) (iblk m c 4 t) 0 d k) + dvB (iblk m c 0 t) (iblk m c 1 t) (iblk m c 3 t) (iblk m c 4 t) 1 d k)
      + dvB (iblk m c 0 t) (iblk m c 1 t) (iblk m c 3 t) (iblk m c 4 t) 2 d k) + dvB (iblk m c 0 t) (iblk m c 1 t) (iblk m c 3 t) (iblk m c 4 t) 3 d k := by
  rw [outsAt0_A m c t h0 h1 h2]
  frame_open
  simp (disch := decide) only [↓ View.readCov_skip, ↓ View.readCov_cons_toLoadRect, ↓ View.readCov_fill]
  frame_out
  refine (Pieces.skip _ _ _ 0 (by right; simp; try omega)).trans ?_
  refine (Pieces.skip _ _ _ 0 (by left; simp; try omega)).trans ?_
  refine (Pieces.skip _ _ _ 0 (by right; simp; try omega)).trans ?_
  refine (Pieces.skip _ _ _ 0 (by left; simp; try omega)).trans ?_
  refine (Pieces.skip _ _ _ 0 (by right; simp; try omega)).trans ?_
  refine (Pieces.skip _ _ _ 0 (by left; simp; try omega)).trans ?_
  refine (Pieces.skip _ _ _ 0 (by right; simp; try omega)).trans ?_
  refine (Pieces.skip _ _ _ 0 (by left; simp; try omega)).trans ?_
  refine (Pieces.skip _ _ _ 0 (by right; simp; try omega)).trans ?_
  refine (Pieces.here _ _ _ (ix2 d (⟨k.val, hk⟩ : Fin 256)) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dvB, dsB, pB]
  simp [hc, kc, vc]

set_option maxHeartbeats 1600000 in
theorem stepA_v1 (c : Dev nD) (t : Fin cfg0.N) (h0 : t.val % 9 = 0) (h1 : t.val % 9 = 0) (h2 : ¬1 ≤ t.val % 9) (d : Fin 64) (k : Fin 2304) (hk : k.val < 256) :
    (outsAt0 m c t.val t.isLt).2 (ix2 (vc 4 d) k) =
    ((((0 : EReal) + dvB (iblk m c 0 t) (iblk m c 1 t) (iblk m c 3 t) (iblk m c 4 t) 4 d k) + dvB (iblk m c 0 t) (iblk m c 1 t) (iblk m c 3 t) (iblk m c 4 t) 5 d k)
      + dvB (iblk m c 0 t) (iblk m c 1 t) (iblk m c 3 t) (iblk m c 4 t) 6 d k) + dvB (iblk m c 0 t) (iblk m c 1 t) (iblk m c 3 t) (iblk m c 4 t) 7 d k := by
  rw [outsAt0_A m c t h0 h1 h2]
  frame_open
  simp (disch := decide) only [↓ View.readCov_skip, ↓ View.readCov_cons_toLoadRect, ↓ View.readCov_fill]
  frame_out
  refine (Pieces.skip _ _ _ 0 (by right; simp; try omega)).trans ?_
  refine (Pieces.here _ _ _ (ix2 d (⟨k.val, hk⟩ : Fin 256)) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dvB, dsB, pB]
  simp [hc, kc, vc]

set_option maxHeartbeats 1600000 in
theorem stepA_far (c : Dev nD) (t : Fin cfg0.N) (h0 : t.val % 9 = 0) (h1 : t.val % 9 = 0) (h2 : ¬1 ≤ t.val % 9) (r : Fin 256) (k : Fin 2304) (hk : 256 ≤ k.val) :
    (outsAt0 m c t.val t.isLt).2 (ix2 r k) = (0 : EReal) := by
  rw [outsAt0_A m c t h0 h1 h2]
  frame_open
  simp (disch := decide) only [↓ View.readCov_skip, ↓ View.readCov_cons_toLoadRect, ↓ View.readCov_fill]
  frame_out
  iterate 16 refine (Pieces.skip _ _ _ 1 (by right; simp; try omega)).trans ?_
  refine (Pieces.here _ _ _ (ix2 r k) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]

end Cert.KernelIdeal.Hand
end
-- ==== Proof.BlockAq.lean ====
module
public import proofs.«01_k».proof.Proof.Gen.KernelIdeal.Value
public import proofs.«01_k».proof.Proof.Pieces
public import proofs.«01_k».proof.Proof.BlockDefs
@[expose] public section
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

set_option maxHeartbeats 1600000 in
theorem stepA_q0 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 0 d)) = dqB (iblk m c 0 t) (iblk m c 1 t) (iblk m c 2 t) (iblk m c 3 t) (iblk m c 4 t) 256 (by decide) 0 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q1 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 1 d)) = dqB (iblk m c 0 t) (iblk m c 1 t) (iblk m c 2 t) (iblk m c 3 t) (iblk m c 4 t) 256 (by decide) 1 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q2 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 2 d)) = dqB (iblk m c 0 t) (iblk m c 1 t) (iblk m c 2 t) (iblk m c 3 t) (iblk m c 4 t) 256 (by decide) 2 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q3 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 3 d)) = dqB (iblk m c 0 t) (iblk m c 1 t) (iblk m c 2 t) (iblk m c 3 t) (iblk m c 4 t) 256 (by decide) 3 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q4 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 4 d)) = dqB (iblk m c 0 t) (iblk m c 1 t) (iblk m c 2 t) (iblk m c 3 t) (iblk m c 4 t) 256 (by decide) 4 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q5 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 5 d)) = dqB (iblk m c 0 t) (iblk m c 1 t) (iblk m c 2 t) (iblk m c 3 t) (iblk m c 4 t) 256 (by decide) 5 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q6 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 6 d)) = dqB (iblk m c 0 t) (iblk m c 1 t) (iblk m c 2 t) (iblk m c 3 t) (iblk m c 4 t) 256 (by decide) 6 r d := by
  rw [outsAt0_A m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

set_option maxHeartbeats 1600000 in
theorem stepA_q7 (c : Dev nD) (t : Fin cfg0.N) (h0 : t.val % 9 = 0) (h1 : t.val % 9 = 0) (h2 : ¬1 ≤ t.val % 9) (r : Fin 256) (d : Fin 64) :
    (outsAt0 m c t.val t.isLt).1 (ix2 r (hc 7 d)) = dqB (iblk m c 0 t) (iblk m c 1 t) (iblk m c 2 t) (iblk m c 3 t) (iblk m c 4 t) 256 (by decide) 7 r d := by
  rw [outsAt0_A m c t h0 h1 h2]
  frame_open
  simp (disch := decide) only [↓ View.readCov_skip, ↓ View.readCov_cons_toLoadRect, ↓ View.readCov_fill]
  frame_out
  refine (Pieces.here _ _ _ (ix2 r d) (fun a => ?_)).trans ?_
  · fin_cases a <;> simp
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, dqB, dsB, pB]
  simp [hc, kc, vc]

theorem stepA_q (c : Dev nD) (t : Fin cfg0.N) (h0 : t.val % 9 = 0) (h1 : t.val % 9 = 0) (h2 : ¬1 ≤ t.val % 9) (h : Fin 8) (r : Fin 256) (d : Fin 64) :
    (outsAt0 m c t.val t.isLt).1 (ix2 r (hc h d)) = dqB (iblk m c 0 t) (iblk m c 1 t) (iblk m c 2 t) (iblk m c 3 t) (iblk m c 4 t) 256 (by decide) h r d := by
  match h with
  | ⟨0, _⟩ => exact stepA_q0 m c t h0 h1 h2 r d
  | ⟨1, _⟩ => exact stepA_q1 m c t h0 h1 h2 r d
  | ⟨2, _⟩ => exact stepA_q2 m c t h0 h1 h2 r d
  | ⟨3, _⟩ => exact stepA_q3 m c t h0 h1 h2 r d
  | ⟨4, _⟩ => exact stepA_q4 m c t h0 h1 h2 r d
  | ⟨5, _⟩ => exact stepA_q5 m c t h0 h1 h2 r d
  | ⟨6, _⟩ => exact stepA_q6 m c t h0 h1 h2 r d
  | ⟨7, _⟩ => exact stepA_q7 m c t h0 h1 h2 r d

end Cert.KernelIdeal.Hand
end
-- ==== Proof.BlockBk.lean ====
module
public import proofs.«01_k».proof.Proof.Gen.KernelIdeal.Value
public import proofs.«01_k».proof.Proof.Pieces
public import proofs.«01_k».proof.Proof.BlockDefs
@[expose] public section
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

set_option maxHeartbeats 1600000 in
theorem stepB_k0 (c : Dev nD) (t : Fin cfg0.N) (h0 : ¬t.val % 9 = 0) (h1 : ¬t.val % 9 = 0) (h2 : 1 ≤ t.val % 9) (d : Fin 64) (k : Fin 2304) :
    (outsAt0 m c t.val t.isLt).2 (ix2 (kc 0 d) k) =
    (((((outsAt0 m c (t.val - 1) (Nat.lt_of_le_of_lt (Nat.sub_le _ _) t.isLt)).2 (ix2 (kc 0 d) k) : EReal) + dkB (iblk m c 0 t) (iblk m c 1 t) (iblk m c 2 t) (iblk m c 3 t) (iblk m c 4 t) 0 d k) + dkB (iblk m c 0 t) (iblk m c 1 t) (iblk m c 2 t) (iblk m c 3 t) (iblk m c 4 t) 1 d k)
      + dkB (iblk m c 0 t) (iblk m c 1 t) (iblk m c 2 t) (iblk m c 3 t) (iblk m c 4 t) 2 d k) + dkB (iblk m c 0 t) (iblk m c 1 t) (iblk m c 2 t) (iblk m c 3 t) (iblk m c 4 t) 3 d k := by
  rw [outsAt0_B m c t h0 h1 h2]
  frame_open
  simp (disch := decide) only [↓ View.readCov_skip, ↓ View.readCov_cons_toLoadRect, ↓ View.readCov_fill]
  frame_out
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.skip _ _ _ 0 (by left; simp; try omega)).trans ?_
  refine (Pieces.here _ _ _ (ix2 d k) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dkB, dsB, pB]
  simp [hc, kc, vc]

set_option maxHeartbeats 1600000 in
theorem stepB_k1 (c : Dev nD) (t : Fin cfg0.N) (h0 : ¬t.val % 9 = 0) (h1 : ¬t.val % 9 = 0) (h2 : 1 ≤ t.val % 9) (d : Fin 64) (k : Fin 2304) :
    (outsAt0 m c t.val t.isLt).2 (ix2 (kc 4 d) k) =
    (((((outsAt0 m c (t.val - 1) (Nat.lt_of_le_of_lt (Nat.sub_le _ _) t.isLt)).2 (ix2 (kc 4 d) k) : EReal) + dkB (iblk m c 0 t) (iblk m c 1 t) (iblk m c 2 t) (iblk m c 3 t) (iblk m c 4 t) 4 d k) + dkB (iblk m c 0 t) (iblk m c 1 t) (iblk m c 2 t) (iblk m c 3 t) (iblk m c 4 t) 5 d k)
      + dkB (iblk m c 0 t) (iblk m c 1 t) (iblk m c 2 t) (iblk m c 3 t) (iblk m c 4 t) 6 d k) + dkB (iblk m c 0 t) (iblk m c 1 t) (iblk m c 2 t) (iblk m c 3 t) (iblk m c 4 t) 7 d k := by
  rw [outsAt0_B m c t h0 h1 h2]
  frame_open
  simp (disch := decide) only [↓ View.readCov_skip, ↓ View.readCov_cons_toLoadRect, ↓ View.readCov_fill]
  frame_out
  refine (Pieces.here _ _ _ (ix2 d k) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dkB, dsB, pB]
  simp [hc, kc, vc]

end Cert.KernelIdeal.Hand
end
-- ==== Proof.BlockBv.lean ====
module
public import proofs.«01_k».proof.Proof.Gen.KernelIdeal.Value
public import proofs.«01_k».proof.Proof.Pieces
public import proofs.«01_k».proof.Proof.BlockDefs
@[expose] public section
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

set_option maxHeartbeats 1600000 in
theorem stepB_v0 (c : Dev nD) (t : Fin cfg0.N) (h0 : ¬t.val % 9 = 0) (h1 : ¬t.val % 9 = 0) (h2 : 1 ≤ t.val % 9) (d : Fin 64) (k : Fin 2304) :
    (outsAt0 m c t.val t.isLt).2 (ix2 (vc 0 d) k) =
    (((((outsAt0 m c (t.val - 1) (Nat.lt_of_le_of_lt (Nat.sub_le _ _) t.isLt)).2 (ix2 (vc 0 d) k) : EReal) + dvB (iblk m c 0 t) (iblk m c 1 t) (iblk m c 3 t) (iblk m c 4 t) 0 d k) + dvB (iblk m c 0 t) (iblk m c 1 t) (iblk m c 3 t) (iblk m c 4 t) 1 d k)
      + dvB (iblk m c 0 t) (iblk m c 1 t) (iblk m c 3 t) (iblk m c 4 t) 2 d k) + dvB (iblk m c 0 t) (iblk m c 1 t) (iblk m c 3 t) (iblk m c 4 t) 3 d k := by
  rw [outsAt0_B m c t h0 h1 h2]
  frame_open
  simp (disch := decide) only [↓ View.readCov_skip, ↓ View.readCov_cons_toLoadRect, ↓ View.readCov_fill]
  frame_out
  refine (Pieces.skip _ _ _ 0 (by right; simp; try omega)).trans ?_
  refine (Pieces.skip _ _ _ 0 (by left; simp; try omega)).trans ?_
  refine (Pieces.skip _ _ _ 0 (by right; simp; try omega)).trans ?_
  refine (Pieces.skip _ _ _ 0 (by left; simp; try omega)).trans ?_
  refine (Pieces.skip _ _ _ 0 (by right; simp; try omega)).trans ?_
  refine (Pieces.skip _ _ _ 0 (by left; simp; try omega)).trans ?_
  refine (Pieces.skip _ _ _ 0 (by right; simp; try omega)).trans ?_
  refine (Pieces.skip _ _ _ 0 (by left; simp; try omega)).trans ?_
  refine (Pieces.skip _ _ _ 0 (by right; simp; try omega)).trans ?_
  refine (Pieces.here _ _ _ (ix2 d k) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dvB, dsB, pB]
  simp [hc, kc, vc]

set_option maxHeartbeats 1600000 in
theorem stepB_v1 (c : Dev nD) (t : Fin cfg0.N) (h0 : ¬t.val % 9 = 0) (h1 : ¬t.val % 9 = 0) (h2 : 1 ≤ t.val % 9) (d : Fin 64) (k : Fin 2304) :
    (outsAt0 m c t.val t.isLt).2 (ix2 (vc 4 d) k) =
    (((((outsAt0 m c (t.val - 1) (Nat.lt_of_le_of_lt (Nat.sub_le _ _) t.isLt)).2 (ix2 (vc 4 d) k) : EReal) + dvB (iblk m c 0 t) (iblk m c 1 t) (iblk m c 3 t) (iblk m c 4 t) 4 d k) + dvB (iblk m c 0 t) (iblk m c 1 t) (iblk m c 3 t) (iblk m c 4 t) 5 d k)
      + dvB (iblk m c 0 t) (iblk m c 1 t) (iblk m c 3 t) (iblk m c 4 t) 6 d k) + dvB (iblk m c 0 t) (iblk m c 1 t) (iblk m c 3 t) (iblk m c 4 t) 7 d k := by
  rw [outsAt0_B m c t h0 h1 h2]
  frame_open
  simp (disch := decide) only [↓ View.readCov_skip, ↓ View.readCov_cons_toLoadRect, ↓ View.readCov_fill]
  frame_out
  refine (Pieces.skip _ _ _ 0 (by right; simp; try omega)).trans ?_
  refine (Pieces.here _ _ _ (ix2 d k) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dvB, dsB, pB]
  simp [hc, kc, vc]

end Cert.KernelIdeal.Hand
end
-- ==== Proof.BlockBq.lean ====
module
public import proofs.«01_k».proof.Proof.Gen.KernelIdeal.Value
public import proofs.«01_k».proof.Proof.Pieces
public import proofs.«01_k».proof.Proof.BlockDefs
@[expose] public section
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

set_option maxHeartbeats 1600000 in
theorem stepB_q0 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 0 d)) = dqB (iblk m c 0 t) (iblk m c 1 t) (iblk m c 2 t) (iblk m c 3 t) (iblk m c 4 t) 2304 (by decide) 0 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q1 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 1 d)) = dqB (iblk m c 0 t) (iblk m c 1 t) (iblk m c 2 t) (iblk m c 3 t) (iblk m c 4 t) 2304 (by decide) 1 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q2 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 2 d)) = dqB (iblk m c 0 t) (iblk m c 1 t) (iblk m c 2 t) (iblk m c 3 t) (iblk m c 4 t) 2304 (by decide) 2 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q3 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 3 d)) = dqB (iblk m c 0 t) (iblk m c 1 t) (iblk m c 2 t) (iblk m c 3 t) (iblk m c 4 t) 2304 (by decide) 3 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q4 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 4 d)) = dqB (iblk m c 0 t) (iblk m c 1 t) (iblk m c 2 t) (iblk m c 3 t) (iblk m c 4 t) 2304 (by decide) 4 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q5 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 5 d)) = dqB (iblk m c 0 t) (iblk m c 1 t) (iblk m c 2 t) (iblk m c 3 t) (iblk m c 4 t) 2304 (by decide) 5 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q6 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 6 d)) = dqB (iblk m c 0 t) (iblk m c 1 t) (iblk m c 2 t) (iblk m c 3 t) (iblk m c 4 t) 2304 (by decide) 6 r d := by
  rw [outsAt0_B m c t h0 h1 h2]
  frame_open
  simp (disch := decide) only [↓ View.readCov_skip, ↓ View.readCov_cons_toLoadRect, ↓ View.readCov_fill]
  frame_out
  refine (Pieces.skip _ _ _ 1 (by left; simp; try omega)).trans ?_
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

set_option maxHeartbeats 1600000 in
theorem stepB_q7 (c : Dev nD) (t : Fin cfg0.N) (h0 : ¬t.val % 9 = 0) (h1 : ¬t.val % 9 = 0) (h2 : 1 ≤ t.val % 9) (r : Fin 256) (d : Fin 64) :
    (outsAt0 m c t.val t.isLt).1 (ix2 r (hc 7 d)) = dqB (iblk m c 0 t) (iblk m c 1 t) (iblk m c 2 t) (iblk m c 3 t) (iblk m c 4 t) 2304 (by decide) 7 r d := by
  rw [outsAt0_B m c t h0 h1 h2]
  frame_open
  simp (disch := decide) only [↓ View.readCov_skip, ↓ View.readCov_cons_toLoadRect, ↓ View.readCov_fill]
  frame_out
  refine (Pieces.here _ _ _ (ix2 r d) (fun a => ?_)).trans ?_
  · fin_cases a <;> simp
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, dqB, dsB, pB]
  simp [hc, kc, vc]

theorem stepB_q (c : Dev nD) (t : Fin cfg0.N) (h0 : ¬t.val % 9 = 0) (h1 : ¬t.val % 9 = 0) (h2 : 1 ≤ t.val % 9) (h : Fin 8) (r : Fin 256) (d : Fin 64) :
    (outsAt0 m c t.val t.isLt).1 (ix2 r (hc h d)) = dqB (iblk m c 0 t) (iblk m c 1 t) (iblk m c 2 t) (iblk m c 3 t) (iblk m c 4 t) 2304 (by decide) h r d := by
  match h with
  | ⟨0, _⟩ => exact stepB_q0 m c t h0 h1 h2 r d
  | ⟨1, _⟩ => exact stepB_q1 m c t h0 h1 h2 r d
  | ⟨2, _⟩ => exact stepB_q2 m c t h0 h1 h2 r d
  | ⟨3, _⟩ => exact stepB_q3 m c t h0 h1 h2 r d
  | ⟨4, _⟩ => exact stepB_q4 m c t h0 h1 h2 r d
  | ⟨5, _⟩ => exact stepB_q5 m c t h0 h1 h2 r d
  | ⟨6, _⟩ => exact stepB_q6 m c t h0 h1 h2 r d
  | ⟨7, _⟩ => exact stepB_q7 m c t h0 h1 h2 r d

end Cert.KernelIdeal.Hand
end
-- ==== Proof.Final.lean ====
module
public import proofs.«01_k».proof.Proof.Points
public import proofs.«01_k».proof.Proof.RefRead
public import proofs.«01_k».proof.Proof.BlockA
public import proofs.«01_k».proof.Proof.BlockAq
public import proofs.«01_k».proof.Proof.BlockBk
public import proofs.«01_k».proof.Proof.BlockBv
public import proofs.«01_k».proof.Proof.BlockBq
@[expose] public section
/-! The two result arrays after the last grid point. -/
set_option maxRecDepth 16384
noncomputable section
open Idealize.ShloMosaic Idealize.ShloMosaic.TcCoe Idealize.SL.Sem
open Idealize.ShloMosaic.Pipeline (Dat)
namespace Cert.KernelIdeal.Hand
open Cert.KernelIdeal Cert.KernelIdeal.Gen
open Cert.ReferenceIdeal.Hand (r130 r133)
variable (m : (ℓ : Loc nD τ sig) → Buf (Elt Ideal) ℓ) (c : Dev nD)

/-- What grid point `t` adds to the gradient of key `k`, group `g`. -/
def addK (g : Fin 2) (d : Fin 64) (k : Fin 2304) (t : Fin cfg0.N) : EReal :=
  if t.val % 9 = 0 ∧ 256 ≤ k.val then 0 else
    ∑ a : Fin 4, dkB (iblk m c 0 t) (iblk m c 1 t) (iblk m c 2 t) (iblk m c 3 t) (iblk m c 4 t) (gh g a) d k
/-- What grid point `t` adds to the gradient of value `k`, group `g`. -/
def addV (g : Fin 2) (d : Fin 64) (k : Fin 2304) (t : Fin cfg0.N) : EReal :=
  if t.val % 9 = 0 ∧ 256 ≤ k.val then 0 else
    ∑ a : Fin 4, dvB (iblk m c 0 t) (iblk m c 1 t) (iblk m c 3 t) (iblk m c 4 t) (gh g a) d k

theorem four (f : Fin 4 → EReal) (p x0 x1 x2 x3 : EReal) (h0 : x0 = f 0) (h1 : x1 = f 1) (h2 : x2 = f 2) (h3 : x3 = f 3) :
    (((p + x0) + x1) + x2) + x3 = p + ∑ a, f a := by
  rw [Fin.sum_univ_four, h0, h1, h2, h3]
  simp only [add_assoc]

theorem firstK (g : Fin 2) (d : Fin 64) (k : Fin 2304) (t : Fin cfg0.N) (h : t.val % 9 = 0) :
    ((outsAt0 m c t.val t.isLt).2 (ix2 (kc (gh g 0) d) k) : EReal) = 0 + addK m c g d k t := by
  unfold addK
  by_cases hk : 256 ≤ k.val
  · rw [if_pos ⟨h, hk⟩, add_zero]
    exact stepA_far m c t h h (by omega) _ k hk
  · rw [if_neg (fun e => hk e.2)]
    match g with
    | ⟨0, _⟩ => exact (stepA_k0 m c t h h (by omega) d k (by omega)).trans (four _ _ _ _ _ _ rfl rfl rfl rfl)
    | ⟨1, _⟩ => exact (stepA_k1 m c t h h (by omega) d k (by omega)).trans (four _ _ _ _ _ _ rfl rfl rfl rfl)

theorem nextK (g : Fin 2) (d : Fin 64) (k : Fin 2304) (t : Fin cfg0.N) (h : ¬t.val % 9 = 0) :
    ((outsAt0 m c t.val t.isLt).2 (ix2 (kc (gh g 0) d) k) : EReal)
      = ((outsAt0 m c (t.val - 1) (Nat.lt_of_le_of_lt (Nat.sub_le _ _) t.isLt)).2 (ix2 (kc (gh g 0) d) k) : EReal) + addK m c g d k t := by
  unfold addK
  rw [if_neg (fun e => h e.1)]
  match g with
  | ⟨0, _⟩ => exact (stepB_k0 m c t h h (by omega) d k).trans (four _ _ _ _ _ _ rfl rfl rfl rfl)
  | ⟨1, _⟩ => exact (stepB_k1 m c t h h (by omega) d k).trans (four _ _ _ _ _ _ rfl rfl rfl rfl)

theorem firstV (g : Fin 2) (d : Fin 64) (k : Fin 2304) (t : Fin cfg0.N) (h : t.val % 9 = 0) :
    ((outsAt0 m c t.val t.isLt).2 (ix2 (vc (gh g 0) d) k) : EReal) = 0 + addV m c g d k t := by
  unfold addV
  by_cases hk : 256 ≤ k.val
  · rw [if_pos ⟨h, hk⟩, add_zero]
    exact stepA_far m c t h h (by omega) _ k hk
  · rw [if_neg (fun e => hk e.2)]
    match g with
    | ⟨0, _⟩ => exact (stepA_v0 m c t h h (by omega) d k (by omega)).trans (four _ _ _ _ _ _ rfl rfl rfl rfl)
    | ⟨1, _⟩ => exact (stepA_v1 m c t h h (by omega) d k (by omega)).trans (four _ _ _ _ _ _ rfl rfl rfl rfl)

theorem nextV (g : Fin 2) (d : Fin 64) (k : Fin 2304) (t : Fin cfg0.N) (h : ¬t.val % 9 = 0) :
    ((outsAt0 m c t.val t.isLt).2 (ix2 (vc (gh g 0) d) k) : EReal)
      = ((outsAt0 m c (t.val - 1) (Nat.lt_of_le_of_lt (Nat.sub_le _ _) t.isLt)).2 (ix2 (vc (gh g 0) d) k) : EReal) + addV m c g d k t := by
  unfold addV
  rw [if_neg (fun e => h e.1)]
  match g with
  | ⟨0, _⟩ => exact (stepB_v0 m c t h h (by omega) d k).trans (four _ _ _ _ _ _ rfl rfl rfl rfl)
  | ⟨1, _⟩ => exact (stepB_v1 m c t h h (by omega) d k).trans (four _ _ _ _ _ _ rfl rfl rfl rfl)

variable (f0 : ∀ j, Rows.IsR (A0 m c j)) (f1 : ∀ j, Rows.IsR (A1 m c j)) (f2 : ∀ j, Rows.IsR (A2 m c j))
include f0 f1 f2

theorem pointQ (t : Fin cfg0.N) (r : Fin 256) (h : Fin 8) (d : Fin 64) :
    (outsAt0 m c t.val t.isLt).1 (ix2 r (hc h d)) = (r130 (A0 m c) (A1 m c) (A2 m c)) (ix2 (row (ex t) (pos t r)) (hc h d)) := by
  obtain ⟨g, a, rfl⟩ := head h
  by_cases ht : t.val % 9 = 0
  · exact (stepA_q m c t ht ht (by omega) _ r d).trans (((holds_ctx m c f0 f1 f2 t ht).dq _ r d).trans
      (Cert.ReferenceIdeal.Hand.outQ_ctx _ _ _ _ g a _ (by show 256 * (t.val % 9) + r.val < 256; omega) d).symm)
  · exact (stepB_q m c t ht ht (by omega) _ r d).trans (((holds_lat m c f0 f1 f2 t ht).dq _ r d).trans
      (Cert.ReferenceIdeal.Hand.outQ_lat _ _ _ _ g a _ (by show 256 ≤ 256 * (t.val % 9) + r.val; omega) d).symm)

theorem runK (g : Fin 2) (d : Fin 64) (k : Fin 2304) (t : Fin cfg0.N) (ht : t.val % 9 = 8) :
    ((outsAt0 m c t.val t.isLt).2 (ix2 (kc (gh g 0) d) k) : EReal)
      = both (fun n hn h k i => termK (A0 m c) (A1 m c) (A2 m c) n hn (ex t) h d k i) g k := by
  rw [Pipeline.eq_sum_fin_of_reset_step_of_flush (fun n h => ((outsAt0 m c n h).2 (ix2 (kc (gh g 0) d) k) : EReal)) 9 0 (addK m c g d k)
    (firstK m c g d k) (nextK m c g d k) t ht, zero_add]
  refine sum_blocks _ g k _ ?_ fun s => ?_
  · unfold addK
    have e9 : (9 * (t.val / 9) + (0 : Fin 9).val) % 9 = 0 := by show (9 * (t.val / 9) + 0) % 9 = 0; omega
    have eE : ex ⟨9 * (t.val / 9) + (0 : Fin 9).val, Pipeline.run_point_lt_of_flush t ht 0⟩ = ex t := Fin.ext (by show (9 * (t.val / 9) + 0) / 9 = t.val / 9; omega)
    by_cases hk : k.val < 256
    · rw [if_neg (by rintro ⟨-, h⟩; omega), dif_pos hk]
      refine Finset.sum_congr rfl fun a _ => ?_
      refine ((holds_ctx m c f0 f1 f2 _ e9).dk (gh g a) d ⟨k.val, hk⟩).trans ?_
      refine Finset.sum_congr rfl fun r _ => ?_
      rw [eE]
      congr 1
      apply Fin.ext
      show 256 * ((9 * (t.val / 9) + 0) % 9) + r.val = r.val
      omega
    · rw [if_pos ⟨e9, by omega⟩, dif_neg hk]
  · unfold addK
    have e9 : (9 * (t.val / 9) + s.succ.val) % 9 = s.val + 1 := by rw [Fin.val_succ]; omega
    have e9' : ¬(9 * (t.val / 9) + s.succ.val) % 9 = 0 := by omega
    have eE : ex ⟨9 * (t.val / 9) + s.succ.val, Pipeline.run_point_lt_of_flush t ht s.succ⟩ = ex t := Fin.ext (by show (9 * (t.val / 9) + (s.val + 1)) / 9 = t.val / 9; omega)
    rw [if_neg (fun e => e9' e.1)]
    refine Finset.sum_congr rfl fun a _ => ?_
    refine ((holds_lat m c f0 f1 f2 _ e9').dk (gh g a) d k).trans ?_
    refine Finset.sum_congr rfl fun r _ => ?_
    rw [eE]
    congr 1
    apply Fin.ext
    show 256 * ((9 * (t.val / 9) + s.succ.val) % 9) + r.val = 256 * (s.val + 1) + r.val
    rw [e9]

theorem runV (g : Fin 2) (d : Fin 64) (k : Fin 2304) (t : Fin cfg0.N) (ht : t.val % 9 = 8) :
    ((outsAt0 m c t.val t.isLt).2 (ix2 (vc (gh g 0) d) k) : EReal)
      = both (fun n hn h k i => termV (A0 m c) (A1 m c) (A2 m c) n hn (ex t) h d k i) g k := by
  rw [Pipeline.eq_sum_fin_of_reset_step_of_flush (fun n h => ((outsAt0 m c n h).2 (ix2 (vc (gh g 0) d) k) : EReal)) 9 0 (addV m c g d k)
    (firstV m c g d k) (nextV m c g d k) t ht, zero_add]
  refine sum_blocks _ g k _ ?_ fun s => ?_
  · unfold addV
    have e9 : (9 * (t.val / 9) + (0 : Fin 9).val) % 9 = 0 := by show (9 * (t.val / 9) + 0) % 9 = 0; omega
    have eE : ex ⟨9 * (t.val / 9) + (0 : Fin 9).val, Pipeline.run_point_lt_of_flush t ht 0⟩ = ex t := Fin.ext (by show (9 * (t.val / 9) + 0) / 9 = t.val / 9; omega)
    by_cases hk : k.val < 256
    · rw [if_neg (by rintro ⟨-, h⟩; omega), dif_pos hk]
      refine Finset.sum_congr rfl fun a _ => ?_
      refine ((holds_ctx m c f0 f1 f2 _ e9).dv (gh g a) d ⟨k.val, hk⟩).trans ?_
      refine Finset.sum_congr rfl fun r _ => ?_
      rw [eE]
      congr 1
      apply Fin.ext
      show 256 * ((9 * (t.val / 9) + 0) % 9) + r.val = r.val
      omega
    · rw [if_pos ⟨e9, by omega⟩, dif_neg hk]
  · unfold addV
    have e9 : (9 * (t.val / 9) + s.succ.val) % 9 = s.val + 1 := by rw [Fin.val_succ]; omega
    have e9' : ¬(9 * (t.val / 9) + s.succ.val) % 9 = 0 := by omega
    have eE : ex ⟨9 * (t.val / 9) + s.succ.val, Pipeline.run_point_lt_of_flush t ht s.succ⟩ = ex t := Fin.ext (by show (9 * (t.val / 9) + (s.val + 1)) / 9 = t.val / 9; omega)
    rw [if_neg (fun e => e9' e.1)]
    refine Finset.sum_congr rfl fun a _ => ?_
    refine ((holds_lat m c f0 f1 f2 _ e9').dv (gh g a) d k).trans ?_
    refine Finset.sum_congr rfl fun r _ => ?_
    rw [eE]
    congr 1
    apply Fin.ext
    show 256 * ((9 * (t.val / 9) + s.succ.val) % 9) + r.val = 256 * (s.val + 1) + r.val
    rw [e9]

theorem pointKV (t : Fin cfg0.N) (ht : t.val % 9 = 8) (r : Fin 256) (k : Fin 2304) :
    (outsAt0 m c t.val t.isLt).2 (ix2 r k) = (r133 (A0 m c) (A1 m c) (A2 m c)) (ix2 r (row (ex t) k)) := by
  by_cases hr : r.val < 128
  · have e : r = kc (gh (⟨r.val / 64, by omega⟩ : Fin 2) 0) (⟨r.val % 64, by omega⟩ : Fin 64) :=
      Fin.ext (by show r.val = 64 * ((4 * (r.val / 64) + 0) / 4) + r.val % 64; omega)
    rw [e]
    exact (runK m c f0 f1 f2 _ _ k t ht).trans (Cert.ReferenceIdeal.Hand.outK _ _ _ _ _ k _).symm
  · have e : r = vc (gh (⟨r.val / 64 - 2, by omega⟩ : Fin 2) 0) (⟨r.val % 64, by omega⟩ : Fin 64) :=
      Fin.ext (by show r.val = 128 + 64 * ((4 * (r.val / 64 - 2) + 0) / 4) + r.val % 64; omega)
    rw [e]
    exact (runV m c f0 f1 f2 _ _ k t ht).trans (Cert.ReferenceIdeal.Hand.outV _ _ _ _ _ k _).symm

theorem pointQ' (t : Fin cfg0.N) (r : Fin 256) (col : Fin 512) :
    (outsAt0 m c t.val t.isLt).1 (ix2 r col) = (r130 (A0 m c) (A1 m c) (A2 m c)) (ix2 (row (ex t) (pos t r)) col) := by
  have e : col = hc (⟨col.val / 64, by omega⟩ : Fin 8) (⟨col.val % 64, by omega⟩ : Fin 64) :=
    Fin.ext (by show col.val = 64 * (col.val / 64) + col.val % 64; omega)
  rw [e]
  exact pointQ m c f0 f1 f2 t r _ _

theorem finalQ : (dats m 0 c).arrAt 5 cfg0.N = r130 (A0 m c) (A1 m c) (A2 m c) := by
  refine (dats m 0 c).arrAt_eq_of_covers 5 _ (by decide +kernel) fun t hf y => ?_
  blk_simp
  rw [after0_5]
  have := lt_of_lt_of_eq t.isLt N_eq
  obtain ⟨r, col, rfl⟩ : ∃ (r : Fin 256) (col : Fin 512), y = ix2 r col := ⟨y 0, y 1, by funext a; fin_cases a <;> rfl⟩
  refine (pointQ' m c f0 f1 f2 t r col).trans (congrArg (r130 (A0 m c) (A1 m c) (A2 m c)) ?_)
  blk_ext [idx t, ex, pos]

theorem finalKV : (dats m 0 c).arrAt 6 cfg0.N = r133 (A0 m c) (A1 m c) (A2 m c) := by
  refine (dats m 0 c).arrAt_eq_of_covers 6 _ (by decide +kernel) fun t hf y => ?_
  blk_simp
  rw [after0_6]
  have := lt_of_lt_of_eq t.isLt N_eq
  obtain ⟨r, col, rfl⟩ : ∃ (r : Fin 256) (col : Fin 2304), y = ix2 r col := ⟨y 0, y 1, by funext a; fin_cases a <;> rfl⟩
  refine (pointKV m c f0 f1 f2 t ((flush0_6 t).mp hf) r col).trans (congrArg (r133 (A0 m c) (A1 m c) (A2 m c)) ?_)
  blk_ext [idx t, ex, pos]

end Cert.KernelIdeal.Hand
end
-- ==== Proof.Mlp.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
@[expose] public section

end
-- ==== Proof.Mlp2.lean ====
module
public import proofs.«01_k».proof.Proof.Pieces
public import proofs.«01_k».proof.Proof.Gen.Kernel2Ideal.Value
public import proofs.«01_k».proof.Proof.Gen.Reference2Ideal.Run
@[expose] public section
/-! The gradient of the MLP's activation, shard by shard. -/
set_option maxRecDepth 16384
noncomputable section
open Idealize.ShloMosaic Idealize.ShloMosaic.TcCoe Idealize.SL.Sem
open Idealize.ShloMosaic.Pipeline (Dat)
namespace Cert.Kernel2Ideal.Hand
open Cert.Kernel2Ideal Cert.Kernel2Ideal.Gen
variable (m : (ℓ : Loc nD τ sig) → Buf (Elt Ideal) ℓ) (c : Dev nD)

/-- The number the derivative of a square is doubled with. -/
abbrev two : EReal := Ideal.ofBits .f32 0x40000000#32

section
variable (h : FVec Ideal Cert.Reference2Ideal.S4608x1024 .bf16) (w : FVec Ideal Cert.Reference2Ideal.S1024x4096 .f32)
  (u : FVec Ideal Cert.Reference2Ideal.S4096x1024 .f32) (g : FVec Ideal Cert.Reference2Ideal.S4608x1024 .bf16)
/-- Zeros. -/
def zer : FVec Ideal Cert.Reference2Ideal.S4608x4096 .f32 :=
  broadcastInDim Cert.Reference2Ideal.S4608x4096 ![] Cert.Reference2Ideal.Gen.bcast_S_S4608x4096 (constant Cert.Reference2Ideal.S_ .f32 0x00000000#32)
/-- Twos. -/
def twos : FVec Ideal Cert.Reference2Ideal.S4608x4096 .f32 :=
  broadcastInDim Cert.Reference2Ideal.S4608x4096 ![] Cert.Reference2Ideal.Gen.bcast_S_S4608x4096 (constant Cert.Reference2Ideal.S_ .f32 0x40000000#32)
/-- The activation. -/
def act : FVec Ideal Cert.Reference2Ideal.S4608x4096 .f32 :=
  Host.dotGeneral Cert.Reference2Ideal.dot_S4608x1024_S1024x4096_S4608x4096_1_0_0_1_n_n none (extf .f32 h bitsLt_bf16_f32) w
/-- The gradient of the squared relu. -/
def df : FVec Ideal Cert.Reference2Ideal.S4608x4096 .f32 :=
  Host.dotGeneral Cert.Reference2Ideal.dot_S4608x1024_S4096x1024_S4608x4096_1_1_0_0_n_n none (extf .f32 g bitsLt_bf16_f32) u
/-- The relu's positive side. -/
def pos : FVec Ideal Cert.Reference2Ideal.S4608x4096 .f32 := mulf (df u g) (mulf twos (maximumf (act h w) zer))
/-- What the reference leaves. -/
def res : FVec Ideal Cert.Reference2Ideal.S4608x4096 .bf16 :=
  truncf .bf16 (select (cmpf .ogt (act h w) zer) (pos h w u g) zer) bitsLt_bf16_f32

theorem act_at (r : Fin 4608) (j : Fin 4096) : act h w (ix2 r j) = ∑ e : Fin 1024, h (ix2 r e) * w (ix2 e j) := by
  pointwise [act]
theorem df_at (r : Fin 4608) (j : Fin 4096) : df u g (ix2 r j) = ∑ e : Fin 1024, g (ix2 r e) * u (ix2 j e) := by
  pointwise [df]
theorem zer_at (r : Fin 4608) (j : Fin 4096) : zer (ix2 r j) = (0 : EReal) := by
  pointwise [zer]
theorem twos_at (r : Fin 4608) (j : Fin 4096) : twos (ix2 r j) = two := by
  pointwise [twos]
theorem pos_at (r : Fin 4608) (j : Fin 4096) : pos h w u g (ix2 r j)
    = (∑ e : Fin 1024, g (ix2 r e) * u (ix2 j e)) * (two * max (∑ e : Fin 1024, h (ix2 r e) * w (ix2 e j)) (0 : EReal)) := by
  unfold pos
  rw [Idealize.ShloMosaic.mulf_apply, Idealize.ShloMosaic.mulf_apply, Idealize.ShloMosaic.maximumf_apply, act_at, df_at, zer_at, twos_at]
  rw [Ideal.mulf_def, Ideal.mulf_def, Ideal.maximumf_def]

theorem res_at (r : Fin 4608) (j : Fin 4096) : res h w u g (ix2 r j)
    = (∑ e : Fin 1024, g (ix2 r e) * u (ix2 j e)) * (two * max (∑ e : Fin 1024, h (ix2 r e) * w (ix2 e j)) (0 : EReal)) := by
  pointwise [res]
  rw [pos_at, act_at, zer_at]
  split
  · rfl
  · rename_i hn
    rw [max_eq_right (not_lt.mp hn), mul_zero, mul_zero]
end

/-- The activation as the call gets it. -/
def actB (h : FVec Ideal S4608x1024 .bf16) (w : FVec Ideal S1024x4096 .f32) : FVec Ideal S4608x4096 .bf16 :=
  truncf .bf16 (Host.dotGeneral dot_S4608x1024_S1024x4096_S4608x4096_1_0_0_1_n_n none (extf .f32 h bitsLt_bf16_f32) w) bitsLt_bf16_f32
/-- The weights' shards as the call gets them. -/
def shards (u : FVec Ideal S4096x1024 .f32) : FVec Ideal S4x1024x1024 .bf16 :=
  shapeCast S4x1024x1024 (truncf .bf16 u bitsLt_bf16_f32) shapeCasts_S4096x1024_S4x1024x1024

/-- Column `k` of shard `s`. -/
abbrev col (s : Fin 4) (k : Fin 1024) : Fin 4096 := ⟨1024 * s.val + k.val, by omega⟩

theorem actB_at (h : FVec Ideal S4608x1024 .bf16) (w : FVec Ideal S1024x4096 .f32) (r : Fin 4608) (j : Fin 4096) :
    actB h w (ix2 r j) = ∑ e : Fin 1024, h (ix2 r e) * w (ix2 e j) := by
  pointwise [actB]
theorem shards_at (u : FVec Ideal S4096x1024 .f32) (s : Fin 4) (k e : Fin 1024) : shards u (ix3 s k e) = u (ix2 (col s k) e) := by
  pointwise [shards]
  blk_point []

abbrev A0 : FVec Ideal S4608x1024 .bf16 := m ((c.tc : Thread nD τ).loc main_arg0)
abbrev A1 : FVec Ideal S1024x4096 .f32 := m ((c.tc : Thread nD τ).loc main_arg1)
abbrev A2 : FVec Ideal S4096x1024 .f32 := m ((c.tc : Thread nD τ).loc main_arg2)
abbrev A3 : FVec Ideal S4608x1024 .bf16 := m ((c.tc : Thread nD τ).loc main_arg3)

theorem act_eq : (V m c main_v2 : FVec Ideal S4608x4096 .bf16) = actB (A0 m c) (A1 m c) := by
  entry_read
  rfl
theorem shards_eq : (V m c main_v4 : FVec Ideal S4x1024x1024 .bf16) = shards (A2 m c) := by
  entry_read
  rfl

theorem N_eq : cfg0.N = 9 := by decide +kernel
theorem idx : ∀ t : Fin cfg0.N, win0_0.index t = ![t.val, 0] ∧ win0_1.index t = ![t.val, 0] ∧ win0_2.index t = ![0, 0, 0] ∧ win0_3.index t = ![t.val, 0] :=
  (by decide +kernel : ∀ t : Fin grid0.N, _)

theorem blk_g (t : Fin cfg0.N) (r : Fin 512) (e : Fin 1024) :
    iblk m c 0 t (ix2 r e) = A3 m c (ix2 (⟨512 * t.val + r.val, by have := lt_of_lt_of_eq t.isLt N_eq; omega⟩ : Fin 4608) e) := by
  have := lt_of_lt_of_eq t.isLt N_eq
  blk_ext [iblk, V, idx t]

theorem blk_a (t : Fin cfg0.N) (r : Fin 512) (j : Fin 4096) :
    iblk m c 1 t (ix2 r j) = ∑ e : Fin 1024, A0 m c (ix2 (⟨512 * t.val + r.val, by have := lt_of_lt_of_eq t.isLt N_eq; omega⟩ : Fin 4608) e) * A1 m c (ix2 e j) := by
  have := lt_of_lt_of_eq t.isLt N_eq
  rw [← actB_at (A0 m c) (A1 m c), ← act_eq m c]
  unfold iblk
  blk_simp [idx t]
  refine congrArg (V m c main_v2) ?_
  blk_ext [idx t]

theorem blk_w (t : Fin cfg0.N) (s : Fin 4) (k e : Fin 1024) : iblk m c 2 t (ix3 s k e) = A2 m c (ix2 (col s k) e) := by
  rw [← shards_at (A2 m c), ← shards_eq m c]
  unfold iblk
  blk_simp [idx t]
  refine congrArg (V m c main_v4) ?_
  blk_ext [idx t]

theorem point (x0 : Vec Ideal S512x1024 .bf16) (x1 : Vec Ideal S512x4096 .bf16) (x2 : Vec Ideal S4x1024x1024 .bf16) (r : Fin 512) (s : Fin 4) (k : Fin 1024) :
    out0_3 x0 x1 x2 (ix2 r (col s k)) = (∑ e : Fin 1024, x0 (ix2 r e) * x2 (ix3 s k e)) * (two * max (x1 (ix2 r (col s k))) (0 : EReal)) := by
  unfold out0_3
  match s with
  | ⟨0, _⟩ =>
    refine (Pieces.skip _ _ _ 1 (by left; simp; try omega)).trans ?_
    refine (Pieces.skip _ _ _ 1 (by left; simp; try omega)).trans ?_
    refine (Pieces.skip _ _ _ 1 (by left; simp; try omega)).trans ?_
    refine (Pieces.here _ _ _ (ix2 r k) (fun a => ?_)).trans ?_
    · fin_cases a <;> simp
    pointwise [k0_pay3]
    blk_point []
  | ⟨1, _⟩ =>
    refine (Pieces.skip _ _ _ 1 (by left; simp; try omega)).trans ?_
    refine (Pieces.skip _ _ _ 1 (by left; simp; try omega)).trans ?_
    refine (Pieces.here _ _ _ (ix2 r k) (fun a => ?_)).trans ?_
    · fin_cases a <;> simp
    pointwise [k0_pay4]
    blk_point []
  | ⟨2, _⟩ =>
    refine (Pieces.skip _ _ _ 1 (by left; simp; try omega)).trans ?_
    refine (Pieces.here _ _ _ (ix2 r k) (fun a => ?_)).trans ?_
    · fin_cases a <;> simp
    pointwise [k0_pay1, k0_pay5]
    blk_point []
  | ⟨3, _⟩ =>
    refine (Pieces.here _ _ _ (ix2 r k) (fun a => ?_)).trans ?_
    · fin_cases a <;> simp
    pointwise [k0_pay2]
    blk_point []

/-- Every column is a column of a shard. -/
theorem col_cases (j : Fin 4096) : ∃ (s : Fin 4) (k : Fin 1024), j = col s k :=
  ⟨⟨j.val / 1024, by omega⟩, ⟨j.val % 1024, by omega⟩, Fin.ext (by show j.val = 1024 * (j.val / 1024) + j.val % 1024; omega)⟩

theorem final : (dats m 0 c).arrAt 3 cfg0.N = res (A0 m c) (A1 m c) (A2 m c) (A3 m c) := by
  refine (dats m 0 c).arrAt_eq_of_covers 3 _ (by decide +kernel) fun t hf y => ?_
  blk_simp
  rw [after0_3]
  have := lt_of_lt_of_eq t.isLt N_eq
  obtain ⟨r, j, rfl⟩ : ∃ (r : Fin 512) (j : Fin 4096), y = ix2 r j := ⟨y 0, y 1, by funext a; fin_cases a <;> rfl⟩
  obtain ⟨s, k, rfl⟩ := col_cases j
  refine ((point _ _ _ r s k).trans ?_).trans (congrArg (res (A0 m c) (A1 m c) (A2 m c) (A3 m c)) (?_ : ix2 (⟨512 * t.val + r.val, by omega⟩ : Fin 4608) (col s k) = _))
  · rw [res_at]
    simp only [blk_g, blk_w, blk_a]
  · blk_ext [idx t]

end Cert.Kernel2Ideal.Hand
end
-- ==== Proof.Sums.lean ====
module
public import Idealize.ShloMosaic.Lib.Pipeline.ValueKit
@[expose] public section
/-! Sums cut into sums over equal parts, and a sum of which some terms are zero. -/
namespace Cert.Sums

theorem split4 (f : Fin 4096 → EReal) : ∑ j : Fin 4096, f j
    = (((∑ k : Fin 1024, f ⟨k.val, by omega⟩) + ∑ k : Fin 1024, f ⟨1024 + k.val, by omega⟩) + ∑ k : Fin 1024, f ⟨2048 + k.val, by omega⟩)
      + ∑ k : Fin 1024, f ⟨3072 + k.val, by omega⟩ := by
  rw [← (finProdFinEquiv (m := 4) (n := 1024)).sum_comp f, Fintype.sum_prod_type, Fin.sum_univ_four]
  congr 1

theorem split2 (f : Fin 4608 → EReal) : ∑ j : Fin 4608, f j
    = (∑ k : Fin 2304, f ⟨k.val, by omega⟩) + ∑ k : Fin 2304, f ⟨2304 + k.val, by omega⟩ := by
  rw [← (finProdFinEquiv (m := 2) (n := 2304)).sum_comp f, Fintype.sum_prod_type, Fin.sum_univ_two]
  congr 1

/-- A sum over 1536 columns of which 96, after the first 416, add nothing. -/
theorem padded (f : Fin 1536 → EReal) (h : ∀ j : Fin 1536, 416 ≤ j.val → j.val < 512 → f j = 0) : ∑ j : Fin 1536, f j
    = ∑ k : Fin 1440, f (if k.val < 416 then ⟨k.val, by omega⟩ else ⟨k.val + 96, by omega⟩) := by
  classical
  let e : Fin 1440 → Fin 1536 := fun k => if k.val < 416 then ⟨k.val, by omega⟩ else ⟨k.val + 96, by omega⟩
  have hv : ∀ k : Fin 1440, (e k).val = if k.val < 416 then k.val else k.val + 96 := fun k => by
    dsimp only [e]; split <;> rfl
  have hi : Function.Injective e := fun a b hab => by
    have := congrArg Fin.val hab
    rw [hv, hv] at this
    refine Fin.ext ?_
    split at this <;> split at this <;> omega
  have hs : ∑ j ∈ Finset.univ.image e, f j = ∑ k : Fin 1440, f (e k) := Finset.sum_image fun a _ b _ hab => hi hab
  refine Eq.trans (Eq.symm ?_) hs
  refine Finset.sum_subset (Finset.subset_univ _) fun j _ hj => h j ?_ ?_
  · by_contra hlt
    refine hj (Finset.mem_image.mpr ⟨⟨j.val, by omega⟩, Finset.mem_univ _, Fin.ext ?_⟩)
    rw [hv, if_pos (by dsimp only; omega)]
  · by_contra hlt
    refine hj (Finset.mem_image.mpr ⟨⟨j.val - 96, by omega⟩, Finset.mem_univ _, Fin.ext ?_⟩)
    rw [hv, if_neg (by dsimp only; omega)]
    dsimp only; omega

/-- 1440 numbers with 96 zeros after the first 416. -/
noncomputable def spread (f : Fin 1440 → EReal) (e : Fin 1536) : EReal :=
  if h : e.val < 416 then f ⟨e.val, by omega⟩ else if h' : e.val < 512 then 0 else f ⟨e.val - 96, by omega⟩

/-- The same, told by what lies after the first 416. -/
theorem spread_eq (f : Fin 1440 → EReal) (e : Fin 1536) (z : Prop) [Decidable z] (hz : z ↔ e.val - 416 < 96) (p : e.val < 416 → Fin 1440)
    (hp : ∀ h, (p h).val = e.val) (q : ¬e.val < 416 → ¬z → Fin 1440) (hq : ∀ h h', (q h h').val = e.val - 96) :
    (if h : e.val < 416 then f (p h) else if h' : z then 0 else f (q h h')) = spread f e := by
  unfold spread
  by_cases h : e.val < 416
  · rw [dif_pos h, dif_pos h]; exact congrArg f (Fin.ext (hp h))
  · rw [dif_neg h, dif_neg h]
    by_cases h' : z
    · rw [dif_pos h', dif_pos (by have := hz.mp h'; omega)]
    · rw [dif_neg h', dif_neg (fun c => h' (hz.mpr (by omega)))]; exact congrArg f (Fin.ext (hq h h'))

/-- The zeros add nothing. -/
theorem spread_sum (f g : Fin 1440 → EReal) : ∑ e : Fin 1536, spread f e * spread g e = ∑ k : Fin 1440, f k * g k := by
  rw [padded _ fun j h h' => by unfold spread; rw [dif_neg (by omega), dif_pos h', zero_mul]]
  refine Finset.sum_congr rfl fun k _ => ?_
  unfold spread
  by_cases h : k.val < 416
  · simp only [if_pos h, dif_pos h]
  · simp only [if_neg h]
    rw [dif_neg (by omega), dif_neg (by omega), dif_neg (by omega), dif_neg (by omega)]
    exact congrArg₂ (· * ·) (congrArg f (Fin.ext (by dsimp only; omega))) (congrArg g (Fin.ext (by dsimp only; omega)))

/-- A sum of products of which one factor is spread. -/
theorem sum_spread {ι : Type} [Fintype ι] (a : ι → EReal) (g : ι → Fin 1440 → EReal) (e : Fin 1536) :
    ∑ j : ι, a j * spread (g j) e = spread (fun k => ∑ j : ι, a j * g j k) e := by
  unfold spread
  split
  · rfl
  · split
    · simp only [mul_zero, Finset.sum_const_zero]
    · rfl

theorem ix2_eq {n0 n1 : ℕ} {a a' : Fin n0} {b b' : Fin n1} (h : a.val = a'.val) (h' : b.val = b'.val) :
    Idealize.ShloMosaic.ix2 a b = Idealize.ShloMosaic.ix2 a' b' := by
  rw [Fin.ext h, Fin.ext h']

end Cert.Sums
end
-- ==== Proof.Mlp3.lean ====
module
public import proofs.«01_k».proof.Proof.Sums
public import proofs.«01_k».proof.Proof.Pieces
public import proofs.«01_k».proof.Proof.Gen.Kernel3Ideal.Value
public import proofs.«01_k».proof.Proof.Gen.Reference3Ideal.Run
@[expose] public section
/-! The gradient of the MLP's input: four partial products are the one product. -/
set_option maxRecDepth 16384
noncomputable section
open Idealize.ShloMosaic Idealize.ShloMosaic.TcCoe Idealize.SL.Sem
open Idealize.ShloMosaic.Pipeline (Dat)
namespace Cert.Kernel3Ideal.Hand
open Cert.Kernel3Ideal Cert.Kernel3Ideal.Gen
variable (m : (ℓ : Loc nD τ sig) → Buf (Elt Ideal) ℓ) (c : Dev nD)

/-- What the reference leaves. -/
def res (w : FVec Ideal Cert.Reference3Ideal.S1024x4096 .f32) (x : FVec Ideal Cert.Reference3Ideal.S4608x4096 .bf16) : FVec Ideal Cert.Reference3Ideal.S4608x1024 .bf16 :=
  truncf .bf16 (Host.dotGeneral Cert.Reference3Ideal.dot_S4608x4096_S1024x4096_S4608x1024_1_1_0_0_n_n none (extf .f32 x bitsLt_bf16_f32) w) bitsLt_bf16_f32

theorem res_at (w : FVec Ideal Cert.Reference3Ideal.S1024x4096 .f32) (x : FVec Ideal Cert.Reference3Ideal.S4608x4096 .bf16) (r : Fin 4608) (e : Fin 1024) :
    res w x (ix2 r e) = ∑ j : Fin 4096, x (ix2 r j) * w (ix2 e j) := by
  pointwise [res]

/-- The weights' shards as the call gets them. -/
def shards (w : FVec Ideal S1024x4096 .f32) : FVec Ideal S4x1024x1024 .bf16 :=
  transpose S4x1024x1024 [1, 0, 2] (shapeCast S1024x4x1024 (truncf .bf16 w bitsLt_bf16_f32) shapeCasts_S1024x4096_S1024x4x1024) transposes_S1024x4x1024_S4x1024x1024_1_0_2

theorem shards_at (w : FVec Ideal S1024x4096 .f32) (s : Fin 4) (e k : Fin 1024) :
    shards w (ix3 s e k) = w (ix2 e (⟨1024 * s.val + k.val, by omega⟩ : Fin 4096)) := by
  pointwise [shards]
  blk_point []

abbrev A0 : FVec Ideal S1024x4096 .f32 := m ((c.tc : Thread nD τ).loc main_arg0)
abbrev A1 : FVec Ideal S4608x4096 .bf16 := m ((c.tc : Thread nD τ).loc main_arg1)

theorem shards_eq : (V m c main_v2 : FVec Ideal S4x1024x1024 .bf16) = shards (A0 m c) := by
  entry_read
  rfl

theorem N_eq : cfg0.N = 9 := by decide +kernel
theorem idx : ∀ t : Fin cfg0.N, win0_0.index t = ![t.val, 0] ∧ win0_1.index t = ![0, 0, 0] ∧ win0_2.index t = ![t.val, 0] :=
  (by decide +kernel : ∀ t : Fin grid0.N, _)

theorem blk_x (t : Fin cfg0.N) (r : Fin 512) (j : Fin 4096) :
    iblk m c 0 t (ix2 r j) = A1 m c (ix2 (⟨512 * t.val + r.val, by have := lt_of_lt_of_eq t.isLt N_eq; omega⟩ : Fin 4608) j) := by
  have := lt_of_lt_of_eq t.isLt N_eq
  blk_ext [iblk, V, idx t]

theorem blk_w (t : Fin cfg0.N) (s : Fin 4) (e k : Fin 1024) :
    iblk m c 1 t (ix3 s e k) = A0 m c (ix2 e (⟨1024 * s.val + k.val, by omega⟩ : Fin 4096)) := by
  rw [← shards_at (A0 m c), ← shards_eq m c]
  unfold iblk
  blk_simp [idx t]
  refine congrArg (V m c main_v2) ?_
  blk_ext [idx t]

theorem point (x0 : Vec Ideal S512x4096 .bf16) (x1 : Vec Ideal S4x1024x1024 .bf16) (r : Fin 512) (e : Fin 1024) :
    out0_2 x0 x1 (ix2 r e) = (((∑ k : Fin 1024, x0 (ix2 r (⟨k.val, by omega⟩ : Fin 4096)) * x1 (ix3 0 e k)) + ∑ k : Fin 1024, x0 (ix2 r (⟨1024 + k.val, by omega⟩ : Fin 4096)) * x1 (ix3 1 e k))
      + ∑ k : Fin 1024, x0 (ix2 r (⟨2048 + k.val, by omega⟩ : Fin 4096)) * x1 (ix3 2 e k)) + ∑ k : Fin 1024, x0 (ix2 r (⟨3072 + k.val, by omega⟩ : Fin 4096)) * x1 (ix3 3 e k) := by
  unfold out0_2
  refine (Pieces.here _ _ _ (ix2 r e) (fun a => ?_)).trans ?_
  · fin_cases a <;> simp
  pointwise [k0_pay1]

theorem final : (dats m 0 c).arrAt 2 cfg0.N = res (A0 m c) (A1 m c) := by
  refine (dats m 0 c).arrAt_eq_of_covers 2 _ (by decide +kernel) fun t hf y => ?_
  blk_simp
  rw [after0_2]
  have := lt_of_lt_of_eq t.isLt N_eq
  obtain ⟨r, e, rfl⟩ : ∃ (r : Fin 512) (e : Fin 1024), y = ix2 r e := ⟨y 0, y 1, by funext a; fin_cases a <;> rfl⟩
  refine ((point _ _ r e).trans ?_).trans (congrArg (res (A0 m c) (A1 m c)) (?_ : ix2 (⟨512 * t.val + r.val, by omega⟩ : Fin 4608) e = _))
  · rw [res_at, Sums.split4]
    simp only [blk_x, blk_w]
    rfl
  · blk_ext [idx t]

end Cert.Kernel3Ideal.Hand
end
-- ==== Proof.Tables4.lean ====
module
public import proofs.«01_k».proof.Proof.Gen.Kernel4.Frame
public import proofs.«01_k».proof.Proof.Gen.Kernel4Ideal.Frame
public import Idealize.ShloMosaic.Lib.Pipeline.ValueKit
@[expose] public section
/-! The tables that the weight gradient's call is handed, and that its blocks are inside the arrays. -/
set_option maxRecDepth 16384
noncomputable section
open Idealize.ShloMosaic Idealize.ShloMosaic.TcCoe Idealize.SL.Sem
open Idealize.ShloMosaic.Pipeline (Dat)
namespace Cert.Kernel4Ideal.Hand
open Cert.Kernel4Ideal Cert.Kernel4Ideal.Gen
variable {F : FTy → Type} [FloatOps F] (m : (ℓ : Loc nD τ sig) → Buf (Elt F) ℓ)

/-- The two tables, which the program names. -/
def lits : pre0.Contents (Elt F) := fun | 0 => fun i => lit0 (S8.rowMajor i) | 1 => fun i => lit1 (S8.rowMajor i)

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![0, (i 0).val / 4] := by
  decide +kernel
theorem tr1_i : ∀ i : grid0.Coords, cc0_transform_1 k0_off1_inb numel1_S1 (lits (F := Ideal)) i = ![0, (i 0).val % 4] := by
  decide +kernel
theorem tr0 (i : grid0.Coords) : cc0_transform_0 k0_off1_inb numel1_S1 (lits (F := F)) i = ![0, (i 0).val / 4] :=
  (show _ = cc0_transform_0 k0_off1_inb numel1_S1 (lits (F := Ideal)) i from rfl).trans (tr0_i i)
theorem tr1 (i : grid0.Coords) : cc0_transform_1 k0_off1_inb numel1_S1 (lits (F := F)) i = ![0, (i 0).val % 4] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel4Ideal.Hand
namespace Cert.Kernel4.Hand
open Cert.Kernel4 Cert.Kernel4.Gen
variable {F : FTy → Type} [FloatOps F] (m : (ℓ : Loc nD τ sig) → Buf (Elt F) ℓ)

/-- The two tables, which the program names. -/
def lits : pre0.Contents (Elt F) := fun | 0 => fun i => lit0 (S8.rowMajor i) | 1 => fun i => lit1 (S8.rowMajor i)

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![0, (i 0).val / 4] := by
  decide +kernel
theorem tr1_i : ∀ i : grid0.Coords, cc0_transform_1 k0_off1_inb numel1_S1 (lits (F := Ideal)) i = ![0, (i 0).val % 4] := by
  decide +kernel
theorem tr0 (i : grid0.Coords) : cc0_transform_0 k0_off1_inb numel1_S1 (lits (F := F)) i = ![0, (i 0).val / 4] :=
  (show _ = cc0_transform_0 k0_off1_inb numel1_S1 (lits (F := Ideal)) i from rfl).trans (tr0_i i)
theorem tr1 (i : grid0.Coords) : cc0_transform_1 k0_off1_inb numel1_S1 (lits (F := F)) i = ![0, (i 0).val % 4] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel4.Hand
end
-- ==== Proof.Mlp4.lean ====
module
public import proofs.«01_k».proof.Proof.Tables4
public import proofs.«01_k».proof.Proof.Pieces
public import proofs.«01_k».proof.Proof.Gen.Reference4Ideal.Run
public import Idealize.ShloMosaic.Lib.Pipeline.ReadBack
@[expose] public section
/-! The gradient of the MLP's first weights, tile by tile. -/
set_option maxRecDepth 16384
noncomputable section
open Idealize.ShloMosaic Idealize.ShloMosaic.TcCoe Idealize.SL.Sem
open Idealize.ShloMosaic.Pipeline (Dat)
namespace Cert.Kernel4Ideal.Hand
open Cert.Kernel4Ideal Cert.Kernel4Ideal.Gen
variable (m : (ℓ : Loc nD τ sig) → Buf (Elt Ideal) ℓ) (c : Dev nD)

section
variable (h : FVec Ideal Cert.Reference4Ideal.S4608x1024 .bf16) (d : FVec Ideal Cert.Reference4Ideal.S4608x4096 .bf16)
/-- The gradient, transposed. -/
def gT : FVec Ideal Cert.Reference4Ideal.S4096x1024 .f32 :=
  Host.dotGeneral Cert.Reference4Ideal.dot_S4608x4096_S4608x1024_S4096x1024_0_0_1_1_n_n none (extf .f32 d bitsLt_bf16_f32) (extf .f32 h bitsLt_bf16_f32)
/-- The gradient. -/
def gW : FVec Ideal Cert.Reference4Ideal.S1024x4096 .f32 :=
  transpose Cert.Reference4Ideal.S1024x4096 [1, 0] (gT h d) Cert.Reference4Ideal.Gen.transposes_S4096x1024_S1024x4096_1_0
/-- The gradient cut in tiles. -/
def gC : FVec Ideal Cert.Reference4Ideal.S2x512x4x1024 .f32 :=
  shapeCast _ (gW h d) Cert.Reference4Ideal.Gen.shapeCasts_S1024x4096_S2x512x4x1024
/-- The tiles in front. -/
def gP : FVec Ideal Cert.Reference4Ideal.S2x4x512x1024 .f32 :=
  transpose Cert.Reference4Ideal.S2x4x512x1024 [0, 2, 1, 3] (gC h d) Cert.Reference4Ideal.Gen.transposes_S2x512x4x1024_S2x4x512x1024_0_2_1_3
/-- What the reference leaves. -/
def res : FVec Ideal Cert.Reference4Ideal.S8x512x1024 .bf16 :=
  truncf .bf16 (shapeCast _ (gP h d) Cert.Reference4Ideal.Gen.shapeCasts_S2x4x512x1024_S8x512x1024) bitsLt_bf16_f32

theorem gT_at (j : Fin 4096) (e : Fin 1024) : gT h d (ix2 j e) = ∑ p : Fin 4608, d (ix2 p j) * h (ix2 p e) := by
  pointwise [gT]
theorem gW_at (e : Fin 1024) (j : Fin 4096) : gW h d (ix2 e j) = ∑ p : Fin 4608, d (ix2 p j) * h (ix2 p e) := by
  rw [← gT_at]
  pointwise [gW]
theorem gC_at (a : Fin 2) (r : Fin 512) (b : Fin 4) (k : Fin 1024) :
    gC h d (ix4 a r b k) = gW h d (ix2 (⟨512 * a.val + r.val, by omega⟩ : Fin 1024) (⟨1024 * b.val + k.val, by omega⟩ : Fin 4096)) := by
  pointwise [gC]
  blk_point []
theorem gP_at (a : Fin 2) (r : Fin 512) (b : Fin 4) (k : Fin 1024) : gP h d (ix4 a b r k) = gC h d (ix4 a r b k) := by
  pointwise [gP]
theorem res_cut (t : Fin 8) (r : Fin 512) (k : Fin 1024) :
    res h d (ix3 t r k) = gP h d (ix4 (⟨t.val / 4, by omega⟩ : Fin 2) (⟨t.val % 4, by omega⟩ : Fin 4) r k) := by
  pointwise [res]
theorem res_at (t : Fin 8) (r : Fin 512) (k : Fin 1024) :
    res h d (ix3 t r k) = ∑ p : Fin 4608, h (ix2 p (⟨512 * (t.val / 4) + r.val, by omega⟩ : Fin 1024)) * d (ix2 p (⟨1024 * (t.val % 4) + k.val, by omega⟩ : Fin 4096)) := by
  rw [res_cut, gP_at, gC_at, gW_at]
  exact Finset.sum_congr rfl fun p _ => mul_comm _ _
end

abbrev A0 : FVec Ideal S4608x1024 .bf16 := m ((c.tc : Thread nD τ).loc main_arg0)
abbrev A1 : FVec Ideal S4608x4096 .bf16 := m ((c.tc : Thread nD τ).loc main_arg1)

theorem N_eq : (cfgM m (ok m)).N = 8 := (by decide +kernel : grid0.N = 8)

theorem coord (t : Fin grid0.N) : (grid0.coords t 0).val = t.val :=
  (by decide +kernel : ∀ t : Fin grid0.N, (grid0.coords t 0).val = t.val) t
theorem idx0 (t : Fin (cfgM m (ok m)).N) : ((cfgM m (ok m)).win 0).index t = ![0, t.val / 4] := by
  show cc0_transform_0 k0_off1_inb numel1_S1 (tbl m) (grid0.coords t) = _
  rw [tbl_eq, tr0, coord]
theorem idx1 (t : Fin (cfgM m (ok m)).N) : ((cfgM m (ok m)).win 1).index t = ![0, t.val % 4] := by
  show cc0_transform_1 k0_off1_inb numel1_S1 (tbl m) (grid0.coords t) = _
  rw [tbl_eq, tr1, coord]
theorem idx2 (t : Fin (cfgM m (ok m)).N) : ((cfgM m (ok m)).win 2).index t = ![t.val, 0, 0] :=
  (by decide +kernel : ∀ t : Fin grid0.N, cc0_transform_2 (grid0.coords t) = ![t.val, 0, 0]) t

theorem blk_h (t : Fin (cfgM m (ok m)).N) (p : Fin 4608) (r : Fin 512) :
    iblk m (ok m) c 0 t (ix2 p r) = A0 m c (ix2 p (⟨512 * (t.val / 4) + r.val, by have := lt_of_lt_of_eq t.isLt (N_eq m); omega⟩ : Fin 1024)) := by
  have := lt_of_lt_of_eq t.isLt (N_eq m)
  blk_ext [iblk, V, idx0 m t]

theorem blk_d (t : Fin (cfgM m (ok m)).N) (p : Fin 4608) (k : Fin 1024) :
    iblk m (ok m) c 1 t (ix2 p k) = A1 m c (ix2 p (⟨1024 * (t.val % 4) + k.val, by omega⟩ : Fin 4096)) := by
  have := lt_of_lt_of_eq t.isLt (N_eq m)
  blk_ext [iblk, V, idx1 m t]

theorem out_at (i : grid0.Coords) (arg4 : Memref sig .tc .vmem S4608x512 .bf16) (harg4 : arg4.IsWhole) (arg5 : Memref sig .tc .vmem S4608x1024 .bf16) (harg5 : arg5.IsWhole) (arg6 : Memref sig .tc .vmem S1x512x1024 .bf16) (harg6 : arg6.IsWhole) (arg7 : Memref sig .tc .vmem S512x1024 .f32) (harg7 : arg7.IsWhole) (hc0 : cond0_0 i) (hc1 : cond0_1 i)
    (x0 : Vec Ideal S4608x512 .bf16) (x1 : Vec Ideal S4608x1024 .bf16) (xt0 : TbBuf0 (F := Ideal) c tbM0_0) (xt1 : TbBuf0 (F := Ideal) c tbM0_1) (r : Fin 512) (k : Fin 1024) :
    out0_A_2 c i arg4 harg4 arg5 harg5 arg6 harg6 arg7 harg7 hc0 hc1 x0 x1 xt0 xt1 (ix3 0 r k) = ∑ p : Fin 4608, x0 (ix2 p r) * x1 (ix2 p k) := by
  frame_open
  simp (disch := decide) only [↓ View.readCov_skip, ↓ View.readCov_cons_toLoadRect, ↓ View.readCov_fill]
  frame_out
  pointwise [k0_pay3, k0_pay2, k0_pay1]

theorem point (t : Fin (cfgM m (ok m)).N) (r : Fin 512) (k : Fin 1024) :
    outsAt0 m (ok m) c t (ix3 0 r k) = ∑ p : Fin 4608, A0 m c (ix2 p (⟨512 * (t.val / 4) + r.val, by have := lt_of_lt_of_eq t.isLt (N_eq m); omega⟩ : Fin 1024)) * A1 m c (ix2 p (⟨1024 * (t.val % 4) + k.val, by omega⟩ : Fin 4096)) :=
  (out_at c _ _ _ _ _ _ _ _ _ _ _ _ _ _ _ r k).trans (Finset.sum_congr rfl fun p _ => congrArg₂ (· * ·) (blk_h m c t p r) (blk_d m c t p k))

theorem covers : ((cfgM m (ok m)).win 2).Covers := of_decide_eq_true (by sl_kernel_rfl)

theorem cells (y : S1x512x1024.Idx) : ∃ (r : Fin 512) (k : Fin 1024), y = ix3 (0 : Fin 1) r k :=
  ⟨y 1, y 2, by funext a; fin_cases a <;> first | rfl | exact Subsingleton.elim (α := Fin 1) _ _⟩

theorem final : (dats m (ok m) 0 c).arrAt 2 (cfgM m (ok m)).N = res (A0 m c) (A1 m c) := by
  refine (dats m (ok m) 0 c).arrAt_eq_of_covers 2 _ (covers m) fun t hf y => ?_
  blk_simp
  rw [after0_2]
  have := lt_of_lt_of_eq t.isLt (N_eq m)
  obtain ⟨r, k, rfl⟩ := cells y
  refine ((point _ _ _ r k).trans ?_).trans (congrArg (res (A0 m c) (A1 m c)) (?_ : ix3 (⟨t.val, by omega⟩ : Fin 8) r k = _))
  · rw [res_at]
  · blk_ext [idx2 m t]

theorem run (ρ : Dev nD → PrngReg) : θ_run defs (onTc (τ := τ) (main (F := Ideal))) ⟨m, fun _ => 0, ρ⟩ fun r => ∀ c : Dev nD,
      r.2.mem ((c : Thread nD τ).loc main_v0) = res (A0 m c) (A1 m c) :=
  (θ_run defs _ _).mono (fun r h c => ((h c).1 2).trans (final m c)) (run_main m ρ (ok m))

end Cert.Kernel4Ideal.Hand
end
-- ==== Proof.Tables5.lean ====
module
public import proofs.«01_k».proof.Proof.Gen.Kernel5.Frame
public import proofs.«01_k».proof.Proof.Gen.Kernel5Ideal.Frame
public import Idealize.ShloMosaic.Lib.Pipeline.ValueKit
@[expose] public section
/-! The tables that the weight gradient's call is handed, and that its blocks are inside the arrays. -/
set_option maxRecDepth 16384
noncomputable section
open Idealize.ShloMosaic Idealize.ShloMosaic.TcCoe Idealize.SL.Sem
open Idealize.ShloMosaic.Pipeline (Dat)
namespace Cert.Kernel5Ideal.Hand
open Cert.Kernel5Ideal Cert.Kernel5Ideal.Gen
variable {F : FTy → Type} [FloatOps F] (m : (ℓ : Loc nD τ sig) → Buf (Elt F) ℓ)

/-- The two tables, which the program names. -/
def lits : pre0.Contents (Elt F) := fun | 0 => fun i => lit0 (S8.rowMajor i) | 1 => constantI S8 32 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![0, 2 * ((i 0).val % 4) + (i 0).val / 4] := by
  decide +kernel
theorem tr1_i : ∀ i : grid0.Coords, cc0_transform_1 k0_off1_inb numel1_S1 (lits (F := Ideal)) i = ![0, 0] := by
  decide +kernel
theorem tr0 (i : grid0.Coords) : cc0_transform_0 k0_off1_inb numel1_S1 (lits (F := F)) i = ![0, 2 * ((i 0).val % 4) + (i 0).val / 4] :=
  (show _ = cc0_transform_0 k0_off1_inb numel1_S1 (lits (F := Ideal)) i from rfl).trans (tr0_i i)
theorem tr1 (i : grid0.Coords) : cc0_transform_1 k0_off1_inb numel1_S1 (lits (F := F)) i = ![0, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel5Ideal.Hand
namespace Cert.Kernel5.Hand
open Cert.Kernel5 Cert.Kernel5.Gen
variable {F : FTy → Type} [FloatOps F] (m : (ℓ : Loc nD τ sig) → Buf (Elt F) ℓ)

/-- The two tables, which the program names. -/
def lits : pre0.Contents (Elt F) := fun | 0 => fun i => lit0 (S8.rowMajor i) | 1 => constantI S8 32 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![0, 2 * ((i 0).val % 4) + (i 0).val / 4] := by
  decide +kernel
theorem tr1_i : ∀ i : grid0.Coords, cc0_transform_1 k0_off1_inb numel1_S1 (lits (F := Ideal)) i = ![0, 0] := by
  decide +kernel
theorem tr0 (i : grid0.Coords) : cc0_transform_0 k0_off1_inb numel1_S1 (lits (F := F)) i = ![0, 2 * ((i 0).val % 4) + (i 0).val / 4] :=
  (show _ = cc0_transform_0 k0_off1_inb numel1_S1 (lits (F := Ideal)) i from rfl).trans (tr0_i i)
theorem tr1 (i : grid0.Coords) : cc0_transform_1 k0_off1_inb numel1_S1 (lits (F := F)) i = ![0, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel5.Hand
end
-- ==== Proof.Mlp5.lean ====
module
public import proofs.«01_k».proof.Proof.Tables5
public import proofs.«01_k».proof.Proof.Pieces
public import proofs.«01_k».proof.Proof.Gen.Reference5Ideal.Run
public import Idealize.ShloMosaic.Lib.Pipeline.ReadBack
@[expose] public section
/-! The gradient of the MLP's second weights, tile by tile. -/
set_option maxRecDepth 16384
noncomputable section
open Idealize.ShloMosaic Idealize.ShloMosaic.TcCoe Idealize.SL.Sem
open Idealize.ShloMosaic.Pipeline (Dat)
namespace Cert.Kernel5Ideal.Hand
open Cert.Kernel5Ideal Cert.Kernel5Ideal.Gen
variable (m : (ℓ : Loc nD τ sig) → Buf (Elt Ideal) ℓ) (c : Dev nD)

section
variable (h : FVec Ideal Cert.Reference5Ideal.S4608x1024 .bf16) (w : FVec Ideal Cert.Reference5Ideal.S1024x4096 .f32) (g : FVec Ideal Cert.Reference5Ideal.S4608x1024 .bf16)
/-- Zeros. -/
def zer : FVec Ideal Cert.Reference5Ideal.S4608x4096 .f32 :=
  broadcastInDim Cert.Reference5Ideal.S4608x4096 ![] Cert.Reference5Ideal.Gen.bcast_S_S4608x4096 (constant Cert.Reference5Ideal.S_ .f32 0x00000000#32)
/-- The activation. -/
def act : FVec Ideal Cert.Reference5Ideal.S4608x4096 .f32 :=
  Host.dotGeneral Cert.Reference5Ideal.dot_S4608x1024_S1024x4096_S4608x4096_1_0_0_1_n_n none (extf .f32 h bitsLt_bf16_f32) w
/-- Its relu, squared. -/
def sqr : FVec Ideal Cert.Reference5Ideal.S4608x4096 .f32 := mulf (maximumf (act h w) zer) (maximumf (act h w) zer)
/-- The gradient, transposed. -/
def gT : FVec Ideal Cert.Reference5Ideal.S1024x4096 .f32 :=
  Host.dotGeneral Cert.Reference5Ideal.dot_S4608x1024_S4608x4096_S1024x4096_0_0_1_1_n_n none (extf .f32 g bitsLt_bf16_f32) (sqr h w)
/-- The gradient. -/
def gW : FVec Ideal Cert.Reference5Ideal.S4096x1024 .f32 :=
  transpose Cert.Reference5Ideal.S4096x1024 [1, 0] (gT h w g) Cert.Reference5Ideal.Gen.transposes_S1024x4096_S4096x1024_1_0
/-- The gradient cut in tiles. -/
def gC : FVec Ideal Cert.Reference5Ideal.S4x2x512x1024 .f32 :=
  shapeCast _ (gW h w g) Cert.Reference5Ideal.Gen.shapeCasts_S4096x1024_S4x2x512x1024
/-- The tiles in front. -/
def gP : FVec Ideal Cert.Reference5Ideal.S2x4x512x1024 .f32 :=
  transpose Cert.Reference5Ideal.S2x4x512x1024 [1, 0, 2, 3] (gC h w g) Cert.Reference5Ideal.Gen.transposes_S4x2x512x1024_S2x4x512x1024_1_0_2_3
/-- What the reference leaves. -/
def res : FVec Ideal Cert.Reference5Ideal.S8x512x1024 .bf16 :=
  truncf .bf16 (shapeCast _ (gP h w g) Cert.Reference5Ideal.Gen.shapeCasts_S2x4x512x1024_S8x512x1024) bitsLt_bf16_f32

theorem gT_at (e : Fin 1024) (j : Fin 4096) : gT h w g (ix2 e j) = ∑ p : Fin 4608, g (ix2 p e) * sqr h w (ix2 p j) := by
  pointwise [gT]
theorem gW_at (j : Fin 4096) (e : Fin 1024) : gW h w g (ix2 j e) = ∑ p : Fin 4608, g (ix2 p e) * sqr h w (ix2 p j) := by
  rw [← gT_at]
  pointwise [gW]
theorem gC_at (b : Fin 4) (a : Fin 2) (r : Fin 512) (k : Fin 1024) :
    gC h w g (ix4 b a r k) = gW h w g (ix2 (⟨512 * (2 * b.val + a.val) + r.val, by omega⟩ : Fin 4096) k) := by
  pointwise [gC]
  blk_point []
theorem gP_at (a : Fin 2) (r : Fin 512) (b : Fin 4) (k : Fin 1024) : gP h w g (ix4 a b r k) = gC h w g (ix4 b a r k) := by
  pointwise [gP]
theorem res_cut (t : Fin 8) (r : Fin 512) (k : Fin 1024) :
    res h w g (ix3 t r k) = gP h w g (ix4 (⟨t.val / 4, by omega⟩ : Fin 2) (⟨t.val % 4, by omega⟩ : Fin 4) r k) := by
  pointwise [res]
theorem res_at (t : Fin 8) (r : Fin 512) (k : Fin 1024) :
    res h w g (ix3 t r k) = ∑ p : Fin 4608, sqr h w (ix2 p (⟨512 * (2 * (t.val % 4) + t.val / 4) + r.val, by omega⟩ : Fin 4096)) * g (ix2 p k) := by
  rw [res_cut, gP_at, gC_at, gW_at]
  exact Finset.sum_congr rfl fun p _ => mul_comm _ _

theorem sqr_at (r : Fin 4608) (j : Fin 4096) : sqr h w (ix2 r j)
    = max (∑ e : Fin 1024, h (ix2 r e) * w (ix2 e j)) (0 : EReal) * max (∑ e : Fin 1024, h (ix2 r e) * w (ix2 e j)) (0 : EReal) := by
  have ha : act h w (ix2 r j) = ∑ e : Fin 1024, h (ix2 r e) * w (ix2 e j) := by pointwise [act]
  have hz : zer (ix2 r j) = (0 : EReal) := by pointwise [zer]
  unfold sqr
  rw [Idealize.ShloMosaic.mulf_apply, Idealize.ShloMosaic.maximumf_apply, ha, hz, Ideal.mulf_def, Ideal.maximumf_def]
end

/-- The activation on the kernel's side. -/
def actK (h : FVec Ideal S4608x1024 .bf16) (w : FVec Ideal S1024x4096 .f32) : FVec Ideal S4608x4096 .f32 :=
  Host.dotGeneral dot_S4608x1024_S1024x4096_S4608x4096_1_0_0_1_n_n none (extf .f32 h bitsLt_bf16_f32) w
/-- Zeros on the kernel's side. -/
def zerK : FVec Ideal S4608x4096 .f32 := broadcastInDim S4608x4096 ![] bcast_S_S4608x4096 (constant S_ .f32 0x00000000#32)
/-- The squared relu as the call gets it. -/
def sqrB (h : FVec Ideal S4608x1024 .bf16) (w : FVec Ideal S1024x4096 .f32) : FVec Ideal S4608x4096 .bf16 :=
  truncf .bf16 (mulf (maximumf (actK h w) zerK) (maximumf (actK h w) zerK)) bitsLt_bf16_f32

theorem sqrB_at (h : FVec Ideal S4608x1024 .bf16) (w : FVec Ideal S1024x4096 .f32) (r : Fin 4608) (j : Fin 4096) :
    sqrB h w (ix2 r j) = sqr h w (ix2 r j) := by
  have ha : actK h w (ix2 r j) = ∑ e : Fin 1024, h (ix2 r e) * w (ix2 e j) := by pointwise [actK]
  have hz : zerK (ix2 r j) = (0 : EReal) := by pointwise [zerK]
  rw [sqr_at]
  show mulf (maximumf (actK h w) zerK) (maximumf (actK h w) zerK) (ix2 r j) = _
  rw [Idealize.ShloMosaic.mulf_apply, Idealize.ShloMosaic.maximumf_apply, ha, hz, Ideal.mulf_def, Ideal.maximumf_def]

abbrev A0 : FVec Ideal S4608x1024 .bf16 := m ((c.tc : Thread nD τ).loc main_arg0)
abbrev A1 : FVec Ideal S1024x4096 .f32 := m ((c.tc : Thread nD τ).loc main_arg1)
abbrev A2 : FVec Ideal S4608x1024 .bf16 := m ((c.tc : Thread nD τ).loc main_arg2)

theorem sqr_eq : (V m c main_v4 : FVec Ideal S4608x4096 .bf16) = sqrB (A0 m c) (A1 m c) := by
  entry_read
  rfl

theorem N_eq : (cfgM m (ok m)).N = 8 := (by decide +kernel : grid0.N = 8)

theorem coord (t : Fin grid0.N) : (grid0.coords t 0).val = t.val :=
  (by decide +kernel : ∀ t : Fin grid0.N, (grid0.coords t 0).val = t.val) t
theorem idx0 (t : Fin (cfgM m (ok m)).N) : ((cfgM m (ok m)).win 0).index t = ![0, 2 * (t.val % 4) + t.val / 4] := by
  show cc0_transform_0 k0_off1_inb numel1_S1 (tbl m) (grid0.coords t) = _
  rw [tbl_eq, tr0, coord]
theorem idx1 (t : Fin (cfgM m (ok m)).N) : ((cfgM m (ok m)).win 1).index t = ![0, 0] := by
  show cc0_transform_1 k0_off1_inb numel1_S1 (tbl m) (grid0.coords t) = _
  rw [tbl_eq, tr1]
theorem idx2 (t : Fin (cfgM m (ok m)).N) : ((cfgM m (ok m)).win 2).index t = ![t.val, 0, 0] :=
  (by decide +kernel : ∀ t : Fin grid0.N, cc0_transform_2 (grid0.coords t) = ![t.val, 0, 0]) t

theorem blk_f (t : Fin (cfgM m (ok m)).N) (p : Fin 4608) (r : Fin 512) :
    iblk m (ok m) c 0 t (ix2 p r) = sqr (A0 m c) (A1 m c) (ix2 p (⟨512 * (2 * (t.val % 4) + t.val / 4) + r.val, by have := lt_of_lt_of_eq t.isLt (N_eq m); omega⟩ : Fin 4096)) := by
  have := lt_of_lt_of_eq t.isLt (N_eq m)
  rw [← sqrB_at, ← sqr_eq m c]
  unfold iblk
  blk_simp [idx0 m t]
  refine congrArg (V m c main_v4) ?_
  blk_ext [idx0 m t]

theorem blk_g (t : Fin (cfgM m (ok m)).N) (p : Fin 4608) (k : Fin 1024) : iblk m (ok m) c 1 t (ix2 p k) = A2 m c (ix2 p k) := by
  blk_ext [iblk, V, idx1 m t]

theorem out_at (i : grid0.Coords) (arg4 : Memref sig .tc .vmem S4608x512 .bf16) (harg4 : arg4.IsWhole) (arg5 : Memref sig .tc .vmem S4608x1024 .bf16) (harg5 : arg5.IsWhole) (arg6 : Memref sig .tc .vmem S1x512x1024 .bf16) (harg6 : arg6.IsWhole) (arg7 : Memref sig .tc .vmem S512x1024 .f32) (harg7 : arg7.IsWhole) (hc0 : cond0_0 i) (hc1 : cond0_1 i)
    (x0 : Vec Ideal S4608x512 .bf16) (x1 : Vec Ideal S4608x1024 .bf16) (xt0 : TbBuf0 (F := Ideal) c tbM0_0) (xt1 : TbBuf0 (F := Ideal) c tbM0_1) (r : Fin 512) (k : Fin 1024) :
    out0_A_2 c i arg4 harg4 arg5 harg5 arg6 harg6 arg7 harg7 hc0 hc1 x0 x1 xt0 xt1 (ix3 0 r k) = ∑ p : Fin 4608, x0 (ix2 p r) * x1 (ix2 p k) := by
  frame_open
  simp (disch := decide) only [↓ View.readCov_skip, ↓ View.readCov_cons_toLoadRect, ↓ View.readCov_fill]
  frame_out
  pointwise [k0_pay3, k0_pay2, k0_pay1]

theorem point (t : Fin (cfgM m (ok m)).N) (r : Fin 512) (k : Fin 1024) :
    outsAt0 m (ok m) c t (ix3 0 r k) = ∑ p : Fin 4608, sqr (A0 m c) (A1 m c) (ix2 p (⟨512 * (2 * (t.val % 4) + t.val / 4) + r.val, by have := lt_of_lt_of_eq t.isLt (N_eq m); omega⟩ : Fin 4096)) * A2 m c (ix2 p k) :=
  (out_at c _ _ _ _ _ _ _ _ _ _ _ _ _ _ _ r k).trans (Finset.sum_congr rfl fun p _ => congrArg₂ (· * ·) (blk_f m c t p r) (blk_g m c t p k))

theorem covers : ((cfgM m (ok m)).win 2).Covers := of_decide_eq_true (by sl_kernel_rfl)

theorem cells (y : S1x512x1024.Idx) : ∃ (r : Fin 512) (k : Fin 1024), y = ix3 (0 : Fin 1) r k :=
  ⟨y 1, y 2, by funext a; fin_cases a <;> first | rfl | exact Subsingleton.elim (α := Fin 1) _ _⟩

theorem final : (dats m (ok m) 0 c).arrAt 2 (cfgM m (ok m)).N = res (A0 m c) (A1 m c) (A2 m c) := by
  refine (dats m (ok m) 0 c).arrAt_eq_of_covers 2 _ (covers m) fun t hf y => ?_
  blk_simp
  rw [after0_2]
  have := lt_of_lt_of_eq t.isLt (N_eq m)
  obtain ⟨r, k, rfl⟩ := cells y
  refine ((point _ _ _ r k).trans ?_).trans (congrArg (res (A0 m c) (A1 m c) (A2 m c)) (?_ : ix3 (⟨t.val, by omega⟩ : Fin 8) r k = _))
  · rw [res_at]
  · blk_ext [idx2 m t]

theorem run (ρ : Dev nD → PrngReg) : θ_run defs (onTc (τ := τ) (main (F := Ideal))) ⟨m, fun _ => 0, ρ⟩ fun r => ∀ c : Dev nD,
      r.2.mem ((c : Thread nD τ).loc main_v5) = res (A0 m c) (A1 m c) (A2 m c) :=
  (θ_run defs _ _).mono (fun r h c => ((h c).1 2).trans (final m c)) (run_main m ρ (ok m))

end Cert.Kernel5Ideal.Hand
end
-- ==== Proof.Mlp6.lean ====
module
public import proofs.«01_k».proof.Proof.Pieces
public import proofs.«01_k».proof.Proof.Gen.Kernel6Ideal.Value
public import proofs.«01_k».proof.Proof.Gen.Reference6Ideal.Run
@[expose] public section
/-! The MLP's first layer: the activation and its squared relu, shard by shard. -/
set_option maxRecDepth 16384
noncomputable section
open Idealize.ShloMosaic Idealize.ShloMosaic.TcCoe Idealize.SL.Sem
open Idealize.ShloMosaic.Pipeline (Dat)
namespace Cert.Kernel6Ideal.Hand
open Cert.Kernel6Ideal Cert.Kernel6Ideal.Gen
variable (m : (ℓ : Loc nD τ sig) → Buf (Elt Ideal) ℓ) (c : Dev nD)

section
open Cert.Reference6Ideal
variable (h : FVec Ideal Cert.Reference6Ideal.S4608x1024 .bf16) (w : FVec Ideal Cert.Reference6Ideal.S1024x4096 .f32)
/-- The reference's activation. -/
def act : FVec Ideal Cert.Reference6Ideal.S4608x4096 .f32 :=
  Host.dotGeneral Cert.Reference6Ideal.dot_S4608x1024_S1024x4096_S4608x4096_1_0_0_1_n_n none (extf .f32 h bitsLt_bf16_f32) w
/-- The relu of the reference's activation. -/
def relu : FVec Ideal Cert.Reference6Ideal.S4608x4096 .f32 :=
  maximumf (act h w) (broadcastInDim Cert.Reference6Ideal.S4608x4096 ![] Cert.Reference6Ideal.Gen.bcast_S_S4608x4096 (constant Cert.Reference6Ideal.S_ .f32 0x00000000#32))
/-- The reference's first result. -/
def resA : FVec Ideal Cert.Reference6Ideal.S4608x4096 .bf16 := truncf .bf16 (act h w) bitsLt_bf16_f32
/-- The reference's second result. -/
def resF : FVec Ideal Cert.Reference6Ideal.S4608x4096 .bf16 := truncf .bf16 (mulf (relu h w) (relu h w)) bitsLt_bf16_f32

theorem act_at (r : Fin 4608) (j : Fin 4096) : act h w (ix2 r j) = ∑ e : Fin 1024, h (ix2 r e) * w (ix2 e j) := by
  pointwise [act]

theorem zero_at (r : Fin 4608) (j : Fin 4096) :
    (broadcastInDim Cert.Reference6Ideal.S4608x4096 ![] Cert.Reference6Ideal.Gen.bcast_S_S4608x4096 (constant (F := Ideal) Cert.Reference6Ideal.S_ .f32 0x00000000#32) : FVec Ideal Cert.Reference6Ideal.S4608x4096 .f32) (ix2 r j) = (0 : EReal) := by
  pointwise []

theorem relu_at (r : Fin 4608) (j : Fin 4096) : relu h w (ix2 r j) = max (∑ e : Fin 1024, h (ix2 r e) * w (ix2 e j)) (0 : EReal) := by
  unfold relu
  rw [Idealize.ShloMosaic.maximumf_apply, act_at, zero_at, Ideal.maximumf_def]

theorem resA_at (r : Fin 4608) (j : Fin 4096) : resA h w (ix2 r j) = ∑ e : Fin 1024, h (ix2 r e) * w (ix2 e j) := by
  rw [← act_at]
  pointwise [resA]

theorem resF_at (r : Fin 4608) (j : Fin 4096) : resF h w (ix2 r j)
    = max (∑ e : Fin 1024, h (ix2 r e) * w (ix2 e j)) (0 : EReal) * max (∑ e : Fin 1024, h (ix2 r e) * w (ix2 e j)) (0 : EReal) := by
  rw [← relu_at]
  pointwise [resF]
end

/-- The weights' shards as the call gets them. -/
def shards (w : FVec Ideal S1024x4096 .f32) : FVec Ideal S4x1024x1024 .bf16 :=
  transpose S4x1024x1024 [1, 0, 2] (shapeCast S1024x4x1024 (truncf .bf16 w bitsLt_bf16_f32) shapeCasts_S1024x4096_S1024x4x1024) transposes_S1024x4x1024_S4x1024x1024_1_0_2

/-- Column `k` of shard `s`. -/
abbrev col (s : Fin 4) (k : Fin 1024) : Fin 4096 := ⟨1024 * s.val + k.val, by omega⟩

theorem shards_at (w : FVec Ideal S1024x4096 .f32) (s : Fin 4) (e k : Fin 1024) : shards w (ix3 s e k) = w (ix2 e (col s k)) := by
  pointwise [shards]
  blk_point []

abbrev A0 : FVec Ideal S4608x1024 .bf16 := m ((c.tc : Thread nD τ).loc main_arg0)
abbrev A1 : FVec Ideal S1024x4096 .f32 := m ((c.tc : Thread nD τ).loc main_arg1)

theorem shards_eq : (V m c main_v2 : FVec Ideal S4x1024x1024 .bf16) = shards (A1 m c) := by
  entry_read
  rfl

theorem N_eq : cfg0.N = 9 := by decide +kernel
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

theorem blk_x (t : Fin cfg0.N) (r : Fin 512) (j : Fin 1024) :
    iblk m c 0 t (ix2 r j) = A0 m c (ix2 (⟨512 * t.val + r.val, by have := lt_of_lt_of_eq t.isLt N_eq; omega⟩ : Fin 4608) j) := by
  have := lt_of_lt_of_eq t.isLt N_eq
  blk_ext [iblk, V, idx t]

theorem blk_w (t : Fin cfg0.N) (s : Fin 4) (e k : Fin 1024) : iblk m c 1 t (ix3 s e k) = A1 m c (ix2 e (col s k)) := by
  rw [← shards_at (A1 m c), ← shards_eq m c]
  unfold iblk
  blk_simp [idx t]
  refine congrArg (V m c main_v2) ?_
  blk_ext [idx t]

section
variable (x0 : Vec Ideal S512x1024 .bf16) (x1 : Vec Ideal S4x1024x1024 .bf16)
theorem pointA (r : Fin 512) (s : Fin 4) (k : Fin 1024) : out0_2 x0 x1 (ix2 r (col s k)) = ∑ e : Fin 1024, x0 (ix2 r e) * x1 (ix3 s e k) := by
  unfold out0_2
  match s with
  | ⟨0, _⟩ =>
    refine (Pieces.skip _ _ _ 1 (by left; simp; try omega)).trans ?_
    refine (Pieces.skip _ _ _ 1 (by left; simp; try omega)).trans ?_
    refine (Pieces.skip _ _ _ 1 (by left; simp; try omega)).trans ?_
    refine (Pieces.here _ _ _ (ix2 r k) (fun a => ?_)).trans ?_
    · fin_cases a <;> simp
    pointwise [k0_pay6, k0_pay5]
  | ⟨1, _⟩ =>
    refine (Pieces.skip _ _ _ 1 (by left; simp; try omega)).trans ?_
    refine (Pieces.skip _ _ _ 1 (by left; simp; try omega)).trans ?_
    refine (Pieces.here _ _ _ (ix2 r k) (fun a => ?_)).trans ?_
    · fin_cases a <;> simp
    pointwise [k0_pay9, k0_pay8]
  | ⟨2, _⟩ =>
    refine (Pieces.skip _ _ _ 1 (by left; simp; try omega)).trans ?_
    refine (Pieces.here _ _ _ (ix2 r k) (fun a => ?_)).trans ?_
    · fin_cases a <;> simp
    pointwise [k0_pay12, k0_pay11]
  | ⟨3, _⟩ =>
    refine (Pieces.here _ _ _ (ix2 r k) (fun a => ?_)).trans ?_
    · fin_cases a <;> simp
    pointwise [k0_pay3, k0_pay2]

theorem pointF (r : Fin 512) (s : Fin 4) (k : Fin 1024) : out0_3 x0 x1 (ix2 r (col s k))
    = max (∑ e : Fin 1024, x0 (ix2 r e) * x1 (ix3 s e k)) (0 : EReal) * max (∑ e : Fin 1024, x0 (ix2 r e) * x1 (ix3 s e k)) (0 : EReal) := by
  unfold out0_3
  match s with
  | ⟨0, _⟩ =>
    refine (Pieces.skip _ _ _ 1 (by left; simp; try omega)).trans ?_
    refine (Pieces.skip _ _ _ 1 (by left; simp; try omega)).trans ?_
    refine (Pieces.skip _ _ _ 1 (by left; simp; try omega)).trans ?_
    refine (Pieces.here _ _ _ (ix2 r k) (fun a => ?_)).trans ?_
    · fin_cases a <;> simp
    pointwise [k0_pay7, k0_pay5]
  | ⟨1, _⟩ =>
    refine (Pieces.skip _ _ _ 1 (by left; simp; try omega)).trans ?_
    refine (Pieces.skip _ _ _ 1 (by left; simp; try omega)).trans ?_
    refine (Pieces.here _ _ _ (ix2 r k) (fun a => ?_)).trans ?_
    · fin_cases a <;> simp
    pointwise [k0_pay10, k0_pay8]
  | ⟨2, _⟩ =>
    refine (Pieces.skip _ _ _ 1 (by left; simp; try omega)).trans ?_
    refine (Pieces.here _ _ _ (ix2 r k) (fun a => ?_)).trans ?_
    · fin_cases a <;> simp
    pointwise [k0_pay1, k0_pay11, k0_pay13]
  | ⟨3, _⟩ =>
    refine (Pieces.here _ _ _ (ix2 r k) (fun a => ?_)).trans ?_
    · fin_cases a <;> simp
    pointwise [k0_pay4, k0_pay2]
end

/-- Every column is a column of a shard. -/
theorem col_cases (j : Fin 4096) : ∃ (s : Fin 4) (k : Fin 1024), j = col s k :=
  ⟨⟨j.val / 1024, by omega⟩, ⟨j.val % 1024, by omega⟩, Fin.ext (by show j.val = 1024 * (j.val / 1024) + j.val % 1024; omega)⟩

theorem finalA : (dats m 0 c).arrAt 2 cfg0.N = resA (A0 m c) (A1 m c) := by
  refine (dats m 0 c).arrAt_eq_of_covers 2 _ (by decide +kernel) fun t hf y => ?_
  blk_simp
  rw [after0_2]
  have := lt_of_lt_of_eq t.isLt N_eq
  obtain ⟨r, j, rfl⟩ : ∃ (r : Fin 512) (j : Fin 4096), y = ix2 r j := ⟨y 0, y 1, by funext a; fin_cases a <;> rfl⟩
  obtain ⟨s, k, rfl⟩ := col_cases j
  refine ((pointA _ _ r s k).trans ?_).trans (congrArg (resA (A0 m c) (A1 m c)) (?_ : ix2 (⟨512 * t.val + r.val, by omega⟩ : Fin 4608) (col s k) = _))
  · rw [resA_at]
    simp only [blk_x, blk_w]
  · blk_ext [idx t]

theorem finalF : (dats m 0 c).arrAt 3 cfg0.N = resF (A0 m c) (A1 m c) := by
  refine (dats m 0 c).arrAt_eq_of_covers 3 _ (by decide +kernel) fun t hf y => ?_
  blk_simp
  rw [after0_3]
  have := lt_of_lt_of_eq t.isLt N_eq
  obtain ⟨r, j, rfl⟩ : ∃ (r : Fin 512) (j : Fin 4096), y = ix2 r j := ⟨y 0, y 1, by funext a; fin_cases a <;> rfl⟩
  obtain ⟨s, k, rfl⟩ := col_cases j
  refine ((pointF _ _ r s k).trans ?_).trans (congrArg (resF (A0 m c) (A1 m c)) (?_ : ix2 (⟨512 * t.val + r.val, by omega⟩ : Fin 4608) (col s k) = _))
  · rw [resF_at]
    simp only [blk_x, blk_w]
  · blk_ext [idx t]

end Cert.Kernel6Ideal.Hand
end
-- ==== Proof.Mlp7.lean ====
module
public import proofs.«01_k».proof.Proof.Pieces
public import proofs.«01_k».proof.Proof.Gen.Kernel7Ideal.Value
public import proofs.«01_k».proof.Proof.Gen.Reference7Ideal.Run
@[expose] public section
/-! The even layer's input projection, row block by row block. -/
set_option maxRecDepth 16384
noncomputable section
open Idealize.ShloMosaic Idealize.ShloMosaic.TcCoe Idealize.SL.Sem
open Idealize.ShloMosaic.Pipeline (Dat)
namespace Cert.Kernel7Ideal.Hand
open Cert.Kernel7Ideal Cert.Kernel7Ideal.Gen
variable (m : (ℓ : Loc nD τ sig) → Buf (Elt Ideal) ℓ) (c : Dev nD)

/-- What the reference leaves. -/
def res (w : FVec Ideal Cert.Reference7Ideal.S1024x1792 .f32) (x : FVec Ideal Cert.Reference7Ideal.S4608x1024 .bf16) : FVec Ideal Cert.Reference7Ideal.S4608x1792 .bf16 :=
  truncf .bf16 (Host.dotGeneral Cert.Reference7Ideal.dot_S4608x1024_S1024x1792_S4608x1792_1_0_0_1_n_n none (extf .f32 x bitsLt_bf16_f32) w) bitsLt_bf16_f32

theorem res_at (w : FVec Ideal Cert.Reference7Ideal.S1024x1792 .f32) (x : FVec Ideal Cert.Reference7Ideal.S4608x1024 .bf16) (r : Fin 4608) (e : Fin 1792) :
    res w x (ix2 r e) = ∑ j : Fin 1024, x (ix2 r j) * w (ix2 j e) := by
  pointwise [res]

abbrev A0 : FVec Ideal S4608x1024 .bf16 := m ((c.tc : Thread nD τ).loc main_arg0)
abbrev A1 : FVec Ideal S1024x1792 .f32 := m ((c.tc : Thread nD τ).loc main_arg1)

theorem weights_eq : (V m c main_v0 : FVec Ideal S1024x1792 .bf16) = truncf .bf16 (A1 m c) bitsLt_bf16_f32 := by
  entry_read
  rfl

theorem N_eq : cfg0.N = 9 := by decide +kernel
theorem idx : ∀ t : Fin cfg0.N, win0_0.index t = ![t.val, 0] ∧ win0_1.index t = ![0, 0] ∧ win0_2.index t = ![t.val, 0] :=
  (by decide +kernel : ∀ t : Fin grid0.N, _)

theorem blk_x (t : Fin cfg0.N) (r : Fin 512) (j : Fin 1024) :
    iblk m c 0 t (ix2 r j) = A0 m c (ix2 (⟨512 * t.val + r.val, by have := lt_of_lt_of_eq t.isLt N_eq; omega⟩ : Fin 4608) j) := by
  have := lt_of_lt_of_eq t.isLt N_eq
  blk_ext [iblk, V, idx t]

theorem blk_w (t : Fin cfg0.N) (j : Fin 1024) (e : Fin 1792) : iblk m c 1 t (ix2 j e) = A1 m c (ix2 j e) := by
  refine Eq.trans ?_ (congrFun (weights_eq m c) (ix2 j e))
  unfold iblk
  blk_simp [idx t]
  refine congrArg (V m c main_v0) ?_
  blk_ext [idx t]

theorem point (x0 : Vec Ideal S512x1024 .bf16) (x1 : Vec Ideal S1024x1792 .bf16) (r : Fin 512) (e : Fin 1792) :
    out0_2 x0 x1 (ix2 r e) = ∑ j : Fin 1024, x0 (ix2 r j) * x1 (ix2 j e) := by
  unfold out0_2
  refine (Pieces.here _ _ _ (ix2 r e) (fun a => ?_)).trans ?_
  · fin_cases a <;> simp
  pointwise [k0_pay1]

theorem final : (dats m 0 c).arrAt 2 cfg0.N = res (A1 m c) (A0 m c) := by
  refine (dats m 0 c).arrAt_eq_of_covers 2 _ (by decide +kernel) fun t hf y => ?_
  blk_simp
  rw [after0_2]
  have := lt_of_lt_of_eq t.isLt N_eq
  obtain ⟨r, e, rfl⟩ : ∃ (r : Fin 512) (e : Fin 1792), y = ix2 r e := ⟨y 0, y 1, by funext a; fin_cases a <;> rfl⟩
  refine ((point _ _ r e).trans ?_).trans (congrArg (res (A1 m c) (A0 m c)) (?_ : ix2 (⟨512 * t.val + r.val, by omega⟩ : Fin 4608) e = _))
  · rw [res_at]
    simp only [blk_x, blk_w]
  · blk_ext [idx t]

end Cert.Kernel7Ideal.Hand
end
-- ==== Proof.Mlp8.lean ====
module
public import proofs.«01_k».proof.Proof.Pieces
public import proofs.«01_k».proof.Proof.Sums
public import proofs.«01_k».proof.Proof.Gen.Kernel8Ideal.Value
public import proofs.«01_k».proof.Proof.Gen.Reference8Ideal.Run
@[expose] public section
/-! The odd layer's input projection, row block by row block. -/
set_option maxRecDepth 16384
noncomputable section
open Idealize.ShloMosaic Idealize.ShloMosaic.TcCoe Idealize.SL.Sem
open Idealize.ShloMosaic.Pipeline (Dat)
namespace Cert.Kernel8Ideal.Hand
open Cert.Kernel8Ideal Cert.Kernel8Ideal.Gen
variable (m : (ℓ : Loc nD τ sig) → Buf (Elt Ideal) ℓ) (c : Dev nD)

/-- The reference's product. -/
def prod (w : FVec Ideal Cert.Reference8Ideal.S1024x1440 .f32) (x : FVec Ideal Cert.Reference8Ideal.S4608x1024 .bf16) : FVec Ideal Cert.Reference8Ideal.S4608x1440 .f32 :=
  Host.dotGeneral Cert.Reference8Ideal.dot_S4608x1024_S1024x1440_S4608x1440_1_0_0_1_n_n none (extf .f32 x bitsLt_bf16_f32) w

theorem prod_at (w : FVec Ideal Cert.Reference8Ideal.S1024x1440 .f32) (x : FVec Ideal Cert.Reference8Ideal.S4608x1024 .bf16) (r : Fin 4608) (e : Fin 1440) :
    prod w x (ix2 r e) = ∑ j : Fin 1024, x (ix2 r j) * w (ix2 j e) := by
  pointwise [prod]

/-- What the reference leaves. -/
def res (w : FVec Ideal Cert.Reference8Ideal.S1024x1440 .f32) (x : FVec Ideal Cert.Reference8Ideal.S4608x1024 .bf16) : FVec Ideal Cert.Reference8Ideal.S4608x1536 .bf16 :=
  truncf .bf16 (concatenate Cert.Reference8Ideal.S4608x1536 1 [⟨Cert.Reference8Ideal.S4608x416, extractStridedSlice Cert.Reference8Ideal.S4608x416 ![0, 0] (prod w x) Cert.Reference8Ideal.Gen.slices_S4608x1440_S4608x416_0_0⟩,
    ⟨Cert.Reference8Ideal.S4608x96, broadcastInDim Cert.Reference8Ideal.S4608x96 ![] Cert.Reference8Ideal.Gen.bcast_S_S4608x96 (constant Cert.Reference8Ideal.S_ .f32 0x00000000#32)⟩,
    ⟨Cert.Reference8Ideal.S4608x1024, extractStridedSlice Cert.Reference8Ideal.S4608x1024 ![0, 416] (prod w x) Cert.Reference8Ideal.Gen.slices_S4608x1440_S4608x1024_0_416⟩] Cert.Reference8Ideal.Gen.concatenates_S4608x416_S4608x96_S4608x1024_S4608x1536_d1) bitsLt_bf16_f32

theorem res_at (w : FVec Ideal Cert.Reference8Ideal.S1024x1440 .f32) (x : FVec Ideal Cert.Reference8Ideal.S4608x1024 .bf16) (r : Fin 4608) (e : Fin 1536) :
    res w x (ix2 r e) = Sums.spread (fun k => ∑ j : Fin 1024, x (ix2 r j) * w (ix2 j k)) e := by
  refine Eq.trans ?_ (congrArg (Sums.spread · e) (funext fun k => prod_at w x r k))
  pointwise [res]
  exact Sums.spread_eq (fun k => prod w x (ix2 r k)) e _ Iff.rfl _ (fun _ => rfl) _ (fun _ _ => by dsimp only; omega)

/-- The weights as the call gets them. -/
def pad (w : FVec Ideal S1024x1440 .f32) : FVec Ideal S1024x1536 .bf16 :=
  concatenate S1024x1536 1 [⟨S1024x416, extractStridedSlice S1024x416 ![0, 0] (truncf .bf16 w bitsLt_bf16_f32 : FVec Ideal S1024x1440 .bf16) slices_S1024x1440_S1024x416_0_0⟩,
    ⟨S1024x96, broadcastInDim S1024x96 ![] bcast_S_S1024x96 (constant S_ .bf16 0x0000#16)⟩,
    ⟨S1024x1024, extractStridedSlice S1024x1024 ![0, 416] (truncf .bf16 w bitsLt_bf16_f32 : FVec Ideal S1024x1440 .bf16) slices_S1024x1440_S1024x1024_0_416⟩] concatenates_S1024x416_S1024x96_S1024x1024_S1024x1536_d1

theorem pad_at (w : FVec Ideal S1024x1440 .f32) (j : Fin 1024) (e : Fin 1536) : pad w (ix2 j e) = Sums.spread (fun k => w (ix2 j k)) e := by
  pointwise [pad]
  exact Sums.spread_eq (fun k => w (ix2 j k)) e _ Iff.rfl _ (fun _ => rfl) _ (fun _ _ => by dsimp only; omega)

abbrev A0 : FVec Ideal S4608x1024 .bf16 := m ((c.tc : Thread nD τ).loc main_arg0)
abbrev A1 : FVec Ideal S1024x1440 .f32 := m ((c.tc : Thread nD τ).loc main_arg1)

theorem weights_eq : (V m c main_v4 : FVec Ideal S1024x1536 .bf16) = pad (A1 m c) := by
  show Idealize.ShloMosaic.StableHlo.after hostOps0 (fun b => m (c, b)) (Proc.devRef .tc main_v4) = _
  unfold hostOps0
  after_results <;> rfl

theorem N_eq : cfg0.N = 9 := by decide +kernel
theorem idx : ∀ t : Fin cfg0.N, win0_0.index t = ![t.val, 0] ∧ win0_1.index t = ![0, 0] ∧ win0_2.index t = ![t.val, 0] :=
  (by decide +kernel : ∀ t : Fin grid0.N, _)

theorem blk_x (t : Fin cfg0.N) (r : Fin 512) (j : Fin 1024) :
    iblk m c 0 t (ix2 r j) = A0 m c (ix2 (⟨512 * t.val + r.val, by have := lt_of_lt_of_eq t.isLt N_eq; omega⟩ : Fin 4608) j) := by
  have := lt_of_lt_of_eq t.isLt N_eq
  blk_ext [iblk, V, idx t]

theorem blk_w (t : Fin cfg0.N) (j : Fin 1024) (e : Fin 1536) : iblk m c 1 t (ix2 j e) = Sums.spread (fun k => A1 m c (ix2 j k)) e := by
  refine Eq.trans ?_ ((congrFun (weights_eq m c) (ix2 j e)).trans (pad_at (A1 m c) j e))
  unfold iblk
  blk_simp [idx t]
  refine congrArg (V m c main_v4) ?_
  blk_ext [idx t]

theorem point (x0 : Vec Ideal S512x1024 .bf16) (x1 : Vec Ideal S1024x1536 .bf16) (r : Fin 512) (e : Fin 1536) :
    out0_2 x0 x1 (ix2 r e) = ∑ j : Fin 1024, x0 (ix2 r j) * x1 (ix2 j e) := by
  unfold out0_2
  refine (Pieces.here _ _ _ (ix2 r e) (fun a => ?_)).trans ?_
  · fin_cases a <;> simp
  pointwise [k0_pay1]

theorem final : (dats m 0 c).arrAt 2 cfg0.N = res (A1 m c) (A0 m c) := by
  refine (dats m 0 c).arrAt_eq_of_covers 2 _ (by decide +kernel) fun t hf y => ?_
  blk_simp
  rw [after0_2]
  have := lt_of_lt_of_eq t.isLt N_eq
  obtain ⟨r, e, rfl⟩ : ∃ (r : Fin 512) (e : Fin 1536), y = ix2 r e := ⟨y 0, y 1, by funext a; fin_cases a <;> rfl⟩
  refine ((point _ _ r e).trans ?_).trans (congrArg (res (A1 m c) (A0 m c)) (?_ : ix2 (⟨512 * t.val + r.val, by omega⟩ : Fin 4608) e = _))
  · rw [res_at]
    simp only [blk_x, blk_w]
    exact Sums.sum_spread _ _ e
  · blk_ext [idx t]

end Cert.Kernel8Ideal.Hand
end
-- ==== Proof.Mlp9.lean ====
module
public import proofs.«01_k».proof.Proof.Pieces
public import proofs.«01_k».proof.Proof.Gen.Kernel9Ideal.Value
public import proofs.«01_k».proof.Proof.Gen.Reference9Ideal.Run
@[expose] public section
/-! The gradient of the attention's output projection with respect to what it is given. -/
set_option maxRecDepth 16384
noncomputable section
open Idealize.ShloMosaic Idealize.ShloMosaic.TcCoe Idealize.SL.Sem
open Idealize.ShloMosaic.Pipeline (Dat)
namespace Cert.Kernel9Ideal.Hand
open Cert.Kernel9Ideal Cert.Kernel9Ideal.Gen
variable (m : (ℓ : Loc nD τ sig) → Buf (Elt Ideal) ℓ) (c : Dev nD)

/-- What the reference leaves. -/
def res (w : FVec Ideal Cert.Reference9Ideal.S1024x1024 .f32) (x : FVec Ideal Cert.Reference9Ideal.S4608x1024 .bf16) : FVec Ideal Cert.Reference9Ideal.S4608x1024 .bf16 :=
  truncf .bf16 (Host.dotGeneral Cert.Reference9Ideal.dot_S4608x1024_S1024x1024_S4608x1024_1_1_0_0_n_n none (extf .f32 x bitsLt_bf16_f32) w) bitsLt_bf16_f32

theorem res_at (w : FVec Ideal Cert.Reference9Ideal.S1024x1024 .f32) (x : FVec Ideal Cert.Reference9Ideal.S4608x1024 .bf16) (r : Fin 4608) (e : Fin 1024) :
    res w x (ix2 r e) = ∑ j : Fin 1024, x (ix2 r j) * w (ix2 e j) := by
  pointwise [res]

abbrev A0 : FVec Ideal S1024x1024 .f32 := m ((c.tc : Thread nD τ).loc main_arg0)
abbrev A1 : FVec Ideal S4608x1024 .bf16 := m ((c.tc : Thread nD τ).loc main_arg1)

theorem weights_eq : (V m c main_v0 : FVec Ideal S1024x1024 .bf16) = truncf .bf16 (A0 m c) bitsLt_bf16_f32 := by
  entry_read
  rfl

theorem N_eq : cfg0.N = 9 := by decide +kernel
theorem idx : ∀ t : Fin cfg0.N, win0_0.index t = ![t.val, 0] ∧ win0_1.index t = ![0, 0] ∧ win0_2.index t = ![t.val, 0] :=
  (by decide +kernel : ∀ t : Fin grid0.N, _)

theorem blk_x (t : Fin cfg0.N) (r : Fin 512) (j : Fin 1024) :
    iblk m c 0 t (ix2 r j) = A1 m c (ix2 (⟨512 * t.val + r.val, by have := lt_of_lt_of_eq t.isLt N_eq; omega⟩ : Fin 4608) j) := by
  have := lt_of_lt_of_eq t.isLt N_eq
  blk_ext [iblk, V, idx t]

theorem blk_w (t : Fin cfg0.N) (e : Fin 1024) (j : Fin 1024) : iblk m c 1 t (ix2 e j) = A0 m c (ix2 e j) := by
  refine Eq.trans ?_ (congrFun (weights_eq m c) (ix2 e j))
  unfold iblk
  blk_simp [idx t]
  refine congrArg (V m c main_v0) ?_
  blk_ext [idx t]

theorem point (x0 : Vec Ideal S512x1024 .bf16) (x1 : Vec Ideal S1024x1024 .bf16) (r : Fin 512) (e : Fin 1024) :
    out0_2 x0 x1 (ix2 r e) = ∑ j : Fin 1024, x0 (ix2 r j) * x1 (ix2 e j) := by
  unfold out0_2
  refine (Pieces.here _ _ _ (ix2 r e) (fun a => ?_)).trans ?_
  · fin_cases a <;> simp
  pointwise [k0_pay1]

theorem final : (dats m 0 c).arrAt 2 cfg0.N = res (A0 m c) (A1 m c) := by
  refine (dats m 0 c).arrAt_eq_of_covers 2 _ (by decide +kernel) fun t hf y => ?_
  blk_simp
  rw [after0_2]
  have := lt_of_lt_of_eq t.isLt N_eq
  obtain ⟨r, e, rfl⟩ : ∃ (r : Fin 512) (e : Fin 1024), y = ix2 r e := ⟨y 0, y 1, by funext a; fin_cases a <;> rfl⟩
  refine ((point _ _ r e).trans ?_).trans (congrArg (res (A0 m c) (A1 m c)) (?_ : ix2 (⟨512 * t.val + r.val, by omega⟩ : Fin 4608) e = _))
  · rw [res_at]
    simp only [blk_x, blk_w]
  · blk_ext [idx t]

end Cert.Kernel9Ideal.Hand
end
-- ==== Proof.Mlp10.lean ====
module
public import proofs.«01_k».proof.Proof.Pieces
public import proofs.«01_k».proof.Proof.Gen.Kernel10Ideal.Value
public import proofs.«01_k».proof.Proof.Gen.Reference10Ideal.Run
@[expose] public section
/-! The gradient of the even layer's input projection with respect to what it is given. -/
set_option maxRecDepth 16384
noncomputable section
open Idealize.ShloMosaic Idealize.ShloMosaic.TcCoe Idealize.SL.Sem
open Idealize.ShloMosaic.Pipeline (Dat)
namespace Cert.Kernel10Ideal.Hand
open Cert.Kernel10Ideal Cert.Kernel10Ideal.Gen
variable (m : (ℓ : Loc nD τ sig) → Buf (Elt Ideal) ℓ) (c : Dev nD)

/-- What the reference leaves. -/
def res (w : FVec Ideal Cert.Reference10Ideal.S1024x1792 .f32) (x : FVec Ideal Cert.Reference10Ideal.S4608x1792 .bf16) : FVec Ideal Cert.Reference10Ideal.S4608x1024 .bf16 :=
  truncf .bf16 (Host.dotGeneral Cert.Reference10Ideal.dot_S4608x1792_S1024x1792_S4608x1024_1_1_0_0_n_n none (extf .f32 x bitsLt_bf16_f32) w) bitsLt_bf16_f32

theorem res_at (w : FVec Ideal Cert.Reference10Ideal.S1024x1792 .f32) (x : FVec Ideal Cert.Reference10Ideal.S4608x1792 .bf16) (r : Fin 4608) (e : Fin 1024) :
    res w x (ix2 r e) = ∑ j : Fin 1792, x (ix2 r j) * w (ix2 e j) := by
  pointwise [res]

abbrev A0 : FVec Ideal S1024x1792 .f32 := m ((c.tc : Thread nD τ).loc main_arg0)
abbrev A1 : FVec Ideal S4608x1792 .bf16 := m ((c.tc : Thread nD τ).loc main_arg1)

theorem weights_eq : (V m c main_v0 : FVec Ideal S1024x1792 .bf16) = truncf .bf16 (A0 m c) bitsLt_bf16_f32 := by
  entry_read
  rfl

theorem N_eq : cfg0.N = 9 := by decide +kernel
theorem idx : ∀ t : Fin cfg0.N, win0_0.index t = ![t.val, 0] ∧ win0_1.index t = ![0, 0] ∧ win0_2.index t = ![t.val, 0] :=
  (by decide +kernel : ∀ t : Fin grid0.N, _)

theorem blk_x (t : Fin cfg0.N) (r : Fin 512) (j : Fin 1792) :
    iblk m c 0 t (ix2 r j) = A1 m c (ix2 (⟨512 * t.val + r.val, by have := lt_of_lt_of_eq t.isLt N_eq; omega⟩ : Fin 4608) j) := by
  have := lt_of_lt_of_eq t.isLt N_eq
  blk_ext [iblk, V, idx t]

theorem blk_w (t : Fin cfg0.N) (e : Fin 1024) (j : Fin 1792) : iblk m c 1 t (ix2 e j) = A0 m c (ix2 e j) := by
  refine Eq.trans ?_ (congrFun (weights_eq m c) (ix2 e j))
  unfold iblk
  blk_simp [idx t]
  refine congrArg (V m c main_v0) ?_
  blk_ext [idx t]

theorem point (x0 : Vec Ideal S512x1792 .bf16) (x1 : Vec Ideal S1024x1792 .bf16) (r : Fin 512) (e : Fin 1024) :
    out0_2 x0 x1 (ix2 r e) = ∑ j : Fin 1792, x0 (ix2 r j) * x1 (ix2 e j) := by
  unfold out0_2
  refine (Pieces.here _ _ _ (ix2 r e) (fun a => ?_)).trans ?_
  · fin_cases a <;> simp
  pointwise [k0_pay1]

theorem final : (dats m 0 c).arrAt 2 cfg0.N = res (A0 m c) (A1 m c) := by
  refine (dats m 0 c).arrAt_eq_of_covers 2 _ (by decide +kernel) fun t hf y => ?_
  blk_simp
  rw [after0_2]
  have := lt_of_lt_of_eq t.isLt N_eq
  obtain ⟨r, e, rfl⟩ : ∃ (r : Fin 512) (e : Fin 1024), y = ix2 r e := ⟨y 0, y 1, by funext a; fin_cases a <;> rfl⟩
  refine ((point _ _ r e).trans ?_).trans (congrArg (res (A0 m c) (A1 m c)) (?_ : ix2 (⟨512 * t.val + r.val, by omega⟩ : Fin 4608) e = _))
  · rw [res_at]
    simp only [blk_x, blk_w]
  · blk_ext [idx t]

end Cert.Kernel10Ideal.Hand
end
-- ==== Proof.Mlp11.lean ====
module
public import proofs.«01_k».proof.Proof.Pieces
public import proofs.«01_k».proof.Proof.Sums
public import proofs.«01_k».proof.Proof.Gen.Kernel11Ideal.Value
public import proofs.«01_k».proof.Proof.Gen.Reference11Ideal.Run
@[expose] public section
/-! The gradient of the odd layer's input projection with respect to the rows it is given. -/
set_option maxRecDepth 16384
noncomputable section
open Idealize.ShloMosaic Idealize.ShloMosaic.TcCoe Idealize.SL.Sem
open Idealize.ShloMosaic.Pipeline (Dat)
namespace Cert.Kernel11Ideal.Hand
open Cert.Kernel11Ideal Cert.Kernel11Ideal.Gen
variable (m : (ℓ : Loc nD τ sig) → Buf (Elt Ideal) ℓ) (c : Dev nD)

/-- What the reference leaves. -/
def res (w : FVec Ideal Cert.Reference11Ideal.S1024x1440 .f32) (x : FVec Ideal Cert.Reference11Ideal.S4608x1440 .bf16) : FVec Ideal Cert.Reference11Ideal.S4608x1024 .bf16 :=
  truncf .bf16 (Host.dotGeneral Cert.Reference11Ideal.dot_S4608x1440_S1024x1440_S4608x1024_1_1_0_0_n_n none (extf .f32 x bitsLt_bf16_f32) w) bitsLt_bf16_f32

theorem res_at (w : FVec Ideal Cert.Reference11Ideal.S1024x1440 .f32) (x : FVec Ideal Cert.Reference11Ideal.S4608x1440 .bf16) (r : Fin 4608) (e : Fin 1024) :
    res w x (ix2 r e) = ∑ j : Fin 1440, x (ix2 r j) * w (ix2 e j) := by
  pointwise [res]

/-- The rows as the call gets them. -/
def padX (x : FVec Ideal S4608x1440 .bf16) : FVec Ideal S4608x1536 .bf16 :=
  concatenate S4608x1536 1 [⟨S4608x416, extractStridedSlice S4608x416 ![0, 0] x slices_S4608x1440_S4608x416_0_0⟩,
    ⟨S4608x96, broadcastInDim S4608x96 ![] bcast_S_S4608x96 (constant S_ .bf16 0x0000#16)⟩,
    ⟨S4608x1024, extractStridedSlice S4608x1024 ![0, 416] x slices_S4608x1440_S4608x1024_0_416⟩] concatenates_S4608x416_S4608x96_S4608x1024_S4608x1536_d1

theorem padX_at (x : FVec Ideal S4608x1440 .bf16) (j : Fin 4608) (e : Fin 1536) : padX x (ix2 j e) = Sums.spread (fun k => x (ix2 j k)) e := by
  pointwise [padX]
  exact Sums.spread_eq (fun k => x (ix2 j k)) e _ Iff.rfl _ (fun _ => rfl) _ (fun _ _ => by dsimp only; omega)

/-- The weights as the call gets them. -/
def padW (w : FVec Ideal S1024x1440 .f32) : FVec Ideal S1024x1536 .bf16 :=
  concatenate S1024x1536 1 [⟨S1024x416, extractStridedSlice S1024x416 ![0, 0] (truncf .bf16 w bitsLt_bf16_f32 : FVec Ideal S1024x1440 .bf16) slices_S1024x1440_S1024x416_0_0⟩,
    ⟨S1024x96, broadcastInDim S1024x96 ![] bcast_S_S1024x96 (constant S_ .bf16 0x0000#16)⟩,
    ⟨S1024x1024, extractStridedSlice S1024x1024 ![0, 416] (truncf .bf16 w bitsLt_bf16_f32 : FVec Ideal S1024x1440 .bf16) slices_S1024x1440_S1024x1024_0_416⟩] concatenates_S1024x416_S1024x96_S1024x1024_S1024x1536_d1

theorem padW_at (w : FVec Ideal S1024x1440 .f32) (j : Fin 1024) (e : Fin 1536) : padW w (ix2 j e) = Sums.spread (fun k => w (ix2 j k)) e := by
  pointwise [padW]
  exact Sums.spread_eq (fun k => w (ix2 j k)) e _ Iff.rfl _ (fun _ => rfl) _ (fun _ _ => by dsimp only; omega)

abbrev A0 : FVec Ideal S1024x1440 .f32 := m ((c.tc : Thread nD τ).loc main_arg0)
abbrev A1 : FVec Ideal S4608x1440 .bf16 := m ((c.tc : Thread nD τ).loc main_arg1)

theorem rows_eq : (V m c main_v3 : FVec Ideal S4608x1536 .bf16) = padX (A1 m c) := by
  show Idealize.ShloMosaic.StableHlo.after hostOps0 (fun b => m (c, b)) (Proc.devRef .tc main_v3) = _
  unfold hostOps0
  after_results <;> rfl

theorem weights_eq : (V m c main_v8 : FVec Ideal S1024x1536 .bf16) = padW (A0 m c) := by
  show Idealize.ShloMosaic.StableHlo.after hostOps0 (fun b => m (c, b)) (Proc.devRef .tc main_v8) = _
  unfold hostOps0
  after_results <;> rfl

theorem N_eq : cfg0.N = 9 := by decide +kernel
theorem idx : ∀ t : Fin cfg0.N, win0_0.index t = ![t.val, 0] ∧ win0_1.index t = ![0, 0] ∧ win0_2.index t = ![t.val, 0] :=
  (by decide +kernel : ∀ t : Fin grid0.N, _)

theorem blk_x (t : Fin cfg0.N) (r : Fin 512) (j : Fin 1536) :
    iblk m c 0 t (ix2 r j) = Sums.spread (fun k => A1 m c (ix2 (⟨512 * t.val + r.val, by have := lt_of_lt_of_eq t.isLt N_eq; omega⟩ : Fin 4608) k)) j := by
  have := lt_of_lt_of_eq t.isLt N_eq
  refine Eq.trans ?_ ((congrFun (rows_eq m c) (ix2 (⟨512 * t.val + r.val, by omega⟩ : Fin 4608) j)).trans (padX_at (A1 m c) _ j))
  unfold iblk
  blk_simp [idx t]
  refine congrArg (V m c main_v3) ?_
  blk_ext [idx t]

theorem blk_w (t : Fin cfg0.N) (e : Fin 1024) (j : Fin 1536) : iblk m c 1 t (ix2 e j) = Sums.spread (fun k => A0 m c (ix2 e k)) j := by
  refine Eq.trans ?_ ((congrFun (weights_eq m c) (ix2 e j)).trans (padW_at (A0 m c) e j))
  unfold iblk
  blk_simp [idx t]
  refine congrArg (V m c main_v8) ?_
  blk_ext [idx t]

theorem point (x0 : Vec Ideal S512x1536 .bf16) (x1 : Vec Ideal S1024x1536 .bf16) (r : Fin 512) (e : Fin 1024) :
    out0_2 x0 x1 (ix2 r e) = ∑ j : Fin 1536, x0 (ix2 r j) * x1 (ix2 e j) := by
  unfold out0_2
  refine (Pieces.here _ _ _ (ix2 r e) (fun a => ?_)).trans ?_
  · fin_cases a <;> simp
  pointwise [k0_pay1]

theorem final : (dats m 0 c).arrAt 2 cfg0.N = res (A0 m c) (A1 m c) := by
  refine (dats m 0 c).arrAt_eq_of_covers 2 _ (by decide +kernel) fun t hf y => ?_
  blk_simp
  rw [after0_2]
  have := lt_of_lt_of_eq t.isLt N_eq
  obtain ⟨r, e, rfl⟩ : ∃ (r : Fin 512) (e : Fin 1024), y = ix2 r e := ⟨y 0, y 1, by funext a; fin_cases a <;> rfl⟩
  refine ((point _ _ r e).trans ?_).trans (congrArg (res (A0 m c) (A1 m c)) (?_ : ix2 (⟨512 * t.val + r.val, by omega⟩ : Fin 4608) e = _))
  · rw [res_at]
    simp only [blk_x, blk_w]
    exact Sums.spread_sum _ _
  · blk_ext [idx t]

end Cert.Kernel11Ideal.Hand
end
-- ==== Proof.Tables12.lean ====
module
public import proofs.«01_k».proof.Proof.Gen.Kernel12.Frame
public import proofs.«01_k».proof.Proof.Gen.Kernel12Ideal.Frame
public import Idealize.ShloMosaic.Lib.Pipeline.ValueKit
@[expose] public section
/-! The tables that the weight gradient's call is handed, and that its blocks are inside the arrays. -/
set_option maxRecDepth 16384
noncomputable section
open Idealize.ShloMosaic Idealize.ShloMosaic.TcCoe Idealize.SL.Sem
open Idealize.ShloMosaic.Pipeline (Dat)
namespace Cert.Kernel12Ideal.Hand
open Cert.Kernel12Ideal Cert.Kernel12Ideal.Gen
variable {F : FTy → Type} [FloatOps F] (m : (ℓ : Loc nD τ sig) → Buf (Elt F) ℓ)

/-- The two tables, which the program names. -/
def lits : pre0.Contents (Elt F) := fun | 0 => fun i => lit0 (S2.rowMajor i) | 1 => fun _ => 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![(i 1).val, (i 0).val] := by
  decide +kernel
theorem tr1_i : ∀ i : grid0.Coords, cc0_transform_1 k0_off1_inb numel1_S1 (lits (F := Ideal)) i = ![(i 1).val, 0] := by
  decide +kernel
theorem tr0 (i : grid0.Coords) : cc0_transform_0 k0_off1_inb numel1_S1 (lits (F := F)) i = ![(i 1).val, (i 0).val] :=
  (show _ = cc0_transform_0 k0_off1_inb numel1_S1 (lits (F := Ideal)) i from rfl).trans (tr0_i i)
theorem tr1 (i : grid0.Coords) : cc0_transform_1 k0_off1_inb numel1_S1 (lits (F := F)) i = ![(i 1).val, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel12Ideal.Hand
namespace Cert.Kernel12.Hand
open Cert.Kernel12 Cert.Kernel12.Gen
variable {F : FTy → Type} [FloatOps F] (m : (ℓ : Loc nD τ sig) → Buf (Elt F) ℓ)

/-- The two tables, which the program names. -/
def lits : pre0.Contents (Elt F) := fun | 0 => fun i => lit0 (S2.rowMajor i) | 1 => fun _ => 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![(i 1).val, (i 0).val] := by
  decide +kernel
theorem tr1_i : ∀ i : grid0.Coords, cc0_transform_1 k0_off1_inb numel1_S1 (lits (F := Ideal)) i = ![(i 1).val, 0] := by
  decide +kernel
theorem tr0 (i : grid0.Coords) : cc0_transform_0 k0_off1_inb numel1_S1 (lits (F := F)) i = ![(i 1).val, (i 0).val] :=
  (show _ = cc0_transform_0 k0_off1_inb numel1_S1 (lits (F := Ideal)) i from rfl).trans (tr0_i i)
theorem tr1 (i : grid0.Coords) : cc0_transform_1 k0_off1_inb numel1_S1 (lits (F := F)) i = ![(i 1).val, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel12.Hand
end
-- ==== Proof.Mlp12.lean ====
module
public import proofs.«01_k».proof.Proof.Tables12
public import proofs.«01_k».proof.Proof.Sums
public import proofs.«01_k».proof.Proof.Gen.Reference12Ideal.Run
public import Idealize.ShloMosaic.Lib.Pipeline.ReadBack
@[expose] public section
/-! The gradient of the even layer's input projection's weights, tile by tile. The rows are added up in two halves. -/
set_option maxRecDepth 16384
noncomputable section
open Idealize.ShloMosaic Idealize.ShloMosaic.TcCoe Idealize.SL.Sem
open Idealize.ShloMosaic.Pipeline (Dat)
namespace Cert.Kernel12Ideal.Hand
open Cert.Kernel12Ideal Cert.Kernel12Ideal.Gen
variable (m : (ℓ : Loc nD τ sig) → Buf (Elt Ideal) ℓ) (c : Dev nD)

section
variable (h : FVec Ideal Cert.Reference12Ideal.S4608x1024 .bf16) (d : FVec Ideal Cert.Reference12Ideal.S4608x1792 .bf16)
/-- The gradient, transposed. -/
def gT : FVec Ideal Cert.Reference12Ideal.S1792x1024 .f32 :=
  Host.dotGeneral Cert.Reference12Ideal.dot_S4608x1792_S4608x1024_S1792x1024_0_0_1_1_n_n none (extf .f32 d bitsLt_bf16_f32) (extf .f32 h bitsLt_bf16_f32)
/-- The gradient. -/
def gW : FVec Ideal Cert.Reference12Ideal.S1024x1792 .f32 :=
  transpose Cert.Reference12Ideal.S1024x1792 [1, 0] (gT h d) Cert.Reference12Ideal.Gen.transposes_S1792x1024_S1024x1792_1_0
/-- What the reference leaves. -/
def res : FVec Ideal Cert.Reference12Ideal.S2x512x1792 .bf16 :=
  truncf .bf16 (shapeCast _ (gW h d) Cert.Reference12Ideal.Gen.shapeCasts_S1024x1792_S2x512x1792) bitsLt_bf16_f32

theorem gT_at (j : Fin 1792) (e : Fin 1024) : gT h d (ix2 j e) = ∑ p : Fin 4608, d (ix2 p j) * h (ix2 p e) := by
  pointwise [gT]
theorem gW_at (e : Fin 1024) (j : Fin 1792) : gW h d (ix2 e j) = ∑ p : Fin 4608, h (ix2 p e) * d (ix2 p j) := by
  refine Eq.trans ?_ ((gT_at h d j e).trans (Finset.sum_congr rfl fun p _ => mul_comm _ _))
  pointwise [gW]
theorem res_at (a : Fin 2) (r : Fin 512) (k : Fin 1792) :
    res h d (ix3 a r k) = ∑ p : Fin 4608, h (ix2 p (⟨512 * a.val + r.val, by omega⟩ : Fin 1024)) * d (ix2 p k) := by
  rw [← gW_at]
  pointwise [res]
  blk_point []
end

abbrev A0 : FVec Ideal S4608x1024 .bf16 := m ((c.tc : Thread nD τ).loc main_arg0)
abbrev A1 : FVec Ideal S4608x1792 .bf16 := m ((c.tc : Thread nD τ).loc main_arg1)

theorem N_eq : (cfgM m (ok m)).N = 4 := (by decide +kernel : grid0.N = 4)

theorem coord0 (t : Fin grid0.N) : (grid0.coords t 0).val = t.val / 2 :=
  (by decide +kernel : ∀ t : Fin grid0.N, (grid0.coords t 0).val = t.val / 2) t
theorem coord1 (t : Fin grid0.N) : (grid0.coords t 1).val = t.val % 2 :=
  (by decide +kernel : ∀ t : Fin grid0.N, (grid0.coords t 1).val = t.val % 2) t
theorem idx0 (t : Fin (cfgM m (ok m)).N) : ((cfgM m (ok m)).win 0).index t = ![t.val % 2, t.val / 2] := by
  show cc0_transform_0 k0_off1_inb numel1_S1 (tbl m) (grid0.coords t) = _
  rw [tbl_eq, tr0, coord0, coord1]
theorem idx1 (t : Fin (cfgM m (ok m)).N) : ((cfgM m (ok m)).win 1).index t = ![t.val % 2, 0] := by
  show cc0_transform_1 k0_off1_inb numel1_S1 (tbl m) (grid0.coords t) = _
  rw [tbl_eq, tr1, coord1]
theorem idx2 (t : Fin (cfgM m (ok m)).N) : ((cfgM m (ok m)).win 2).index t = ![t.val / 2, 0, 0] :=
  (by decide +kernel : ∀ t : Fin grid0.N, cc0_transform_2 (grid0.coords t) = ![t.val / 2, 0, 0]) t

theorem blk_h (t : Fin (cfgM m (ok m)).N) (p : Fin 2304) (r : Fin 512) :
    iblk m (ok m) c 0 t (ix2 p r) = A0 m c (ix2 (⟨2304 * (t.val % 2) + p.val, by omega⟩ : Fin 4608) (⟨512 * (t.val / 2) + r.val, by have := lt_of_lt_of_eq t.isLt (N_eq m); omega⟩ : Fin 1024)) := by
  have := lt_of_lt_of_eq t.isLt (N_eq m)
  blk_ext [iblk, V, idx0 m t]

theorem blk_d (t : Fin (cfgM m (ok m)).N) (p : Fin 2304) (k : Fin 1792) :
    iblk m (ok m) c 1 t (ix2 p k) = A1 m c (ix2 (⟨2304 * (t.val % 2) + p.val, by omega⟩ : Fin 4608) k) := by
  have := lt_of_lt_of_eq t.isLt (N_eq m)
  blk_ext [iblk, V, idx1 m t]

section
variable (i : grid0.Coords) (arg4 : Memref sig .tc .vmem S2304x512 .bf16) (harg4 : arg4.IsWhole) (arg5 : Memref sig .tc .vmem S2304x1792 .bf16) (harg5 : arg5.IsWhole) (arg6 : Memref sig .tc .vmem S1x512x1792 .bf16) (harg6 : arg6.IsWhole) (arg7 : Memref sig .tc .vmem S512x1792 .f32) (harg7 : arg7.IsWhole)
    (x0 : Vec Ideal S2304x512 .bf16) (x1 : Vec Ideal S2304x1792 .bf16) (xt0 : TbBuf0 (F := Ideal) c tbM0_0) (xt1 : TbBuf0 (F := Ideal) c tbM0_1) (r : Fin 512) (k : Fin 1792)

theorem first_at (hc0 : cond0_0 i) (hc1 : ¬cond0_1 i) :
    sout0_A_0 c i arg4 harg4 arg5 harg5 arg6 harg6 arg7 harg7 hc0 hc1 x0 x1 xt0 xt1 (ix2 r k) = ∑ p : Fin 2304, x0 (ix2 p r) * x1 (ix2 p k) := by
  frame_open
  simp (disch := decide) only [↓ View.readCov_skip, ↓ View.readCov_cons_toLoadRect, ↓ View.readCov_fill]
  frame_out
  pointwise [k0_pay2, k0_pay1]

theorem second_at (hc0 : ¬cond0_0 i) (hc1 : cond0_1 i) (xs : Vec Ideal S512x1792 .f32) :
    out0_B_2 c i arg4 harg4 arg5 harg5 arg6 harg6 arg7 harg7 hc0 hc1 x0 x1 xt0 xt1 xs (ix3 0 r k) = xs (ix2 r k) + ∑ p : Fin 2304, x0 (ix2 p r) * x1 (ix2 p k) := by
  frame_open
  simp (disch := decide) only [↓ View.readCov_skip, ↓ View.readCov_cons_toLoadRect, ↓ View.readCov_fill]
  frame_out
  pointwise [k0_pay3, k0_pay2]
end

theorem acc (t : Fin (cfgM m (ok m)).N) (ht : t.val % 2 = 0) (r : Fin 512) (k : Fin 1792) :
    (outsAt0 m (ok m) c t.val t.isLt).2 (ix2 r k) = ∑ p : Fin 2304, A0 m c (ix2 (⟨2304 * (t.val % 2) + p.val, by omega⟩ : Fin 4608) (⟨512 * (t.val / 2) + r.val, by have := lt_of_lt_of_eq t.isLt (N_eq m); omega⟩ : Fin 1024)) * A1 m c (ix2 (⟨2304 * (t.val % 2) + p.val, by omega⟩ : Fin 4608) k) := by
  refine (congrArg (fun z => z.2 (ix2 r k)) (outsAt0_A m (ok m) c t ht (by omega))).trans ?_
  dsimp only
  exact (first_at c _ _ _ _ _ _ _ _ _ _ _ _ _ r k _ _).trans (Finset.sum_congr rfl fun p _ => congrArg₂ (· * ·) (blk_h m c t p r) (blk_d m c t p k))

theorem point (t : Fin (cfgM m (ok m)).N) (ht : t.val % 2 = 1) (r : Fin 512) (k : Fin 1792) :
    (outsAt0 m (ok m) c t.val t.isLt).1 (ix3 0 r k) = ∑ p : Fin 4608, A0 m c (ix2 p (⟨512 * (t.val / 2) + r.val, by have := lt_of_lt_of_eq t.isLt (N_eq m); omega⟩ : Fin 1024)) * A1 m c (ix2 p k) := by
  have hN := lt_of_lt_of_eq t.isLt (N_eq m)
  refine (congrArg (fun z => z.1 (ix3 0 r k)) (outsAt0_B m (ok m) c t (by omega) ht)).trans ?_
  dsimp only
  refine (second_at c _ _ _ _ _ _ _ _ _ _ _ _ _ r k _ _ _).trans (Eq.trans ?_ (Sums.split2 _).symm)
  refine congrArg₂ (· + ·) ?_ ?_
  · refine (acc m c ⟨t.val - 1, by omega⟩ (by dsimp only; omega) r k).trans (Finset.sum_congr rfl fun p _ => congrArg₂ (fun u v => A0 m c u * A1 m c v) ?_ ?_)
    · exact Sums.ix2_eq (by dsimp only; omega) (by first | rfl | (dsimp only; omega))
    · exact Sums.ix2_eq (by dsimp only; omega) rfl
  · refine Finset.sum_congr rfl fun p _ => congrArg₂ (fun u v : EReal => u * v) ((blk_h m c t p r).trans (congrArg (A0 m c) ?_)) ((blk_d m c t p k).trans (congrArg (A1 m c) ?_))
    · exact Sums.ix2_eq (by dsimp only; omega) rfl
    · exact Sums.ix2_eq (by dsimp only; omega) rfl

theorem covers : ((cfgM m (ok m)).win 2).Covers := of_decide_eq_true (by sl_kernel_rfl)

theorem cells (y : S1x512x1792.Idx) : ∃ (r : Fin 512) (k : Fin 1792), y = ix3 (0 : Fin 1) r k :=
  ⟨y 1, y 2, by funext a; fin_cases a <;> first | rfl | exact Subsingleton.elim (α := Fin 1) _ _⟩

theorem final : (dats m (ok m) 0 c).arrAt 2 (cfgM m (ok m)).N = res (A0 m c) (A1 m c) := by
  refine (dats m (ok m) 0 c).arrAt_eq_of_covers 2 _ (covers m) fun t hf y => ?_
  blk_simp
  rw [after0_2]
  have := lt_of_lt_of_eq t.isLt (N_eq m)
  obtain ⟨r, k, rfl⟩ := cells y
  refine ((point _ _ _ ((flush0_2 _ t).mp hf) r k).trans ?_).trans (congrArg (res (A0 m c) (A1 m c)) (?_ : ix3 (⟨t.val / 2, by omega⟩ : Fin 2) r k = _))
  · rw [res_at]
  · blk_ext [idx2 m t]

theorem run (ρ : Dev nD → PrngReg) : θ_run defs (onTc (τ := τ) (main (F := Ideal))) ⟨m, fun _ => 0, ρ⟩ fun r => ∀ c : Dev nD,
      r.2.mem ((c : Thread nD τ).loc main_v0) = res (A0 m c) (A1 m c) :=
  (θ_run defs _ _).mono (fun r h c => ((h c).1 2).trans (final m c)) (run_main m ρ (ok m))

end Cert.Kernel12Ideal.Hand
end
-- ==== Proof.Tables13.lean ====
module
public import proofs.«01_k».proof.Proof.Gen.Kernel13.Frame
public import proofs.«01_k».proof.Proof.Gen.Kernel13Ideal.Frame
public import Idealize.ShloMosaic.Lib.Pipeline.ValueKit
@[expose] public section
/-! The tables that the weight gradient's call is handed, and that its blocks are inside the arrays. -/
set_option maxRecDepth 16384
noncomputable section
open Idealize.ShloMosaic Idealize.ShloMosaic.TcCoe Idealize.SL.Sem
open Idealize.ShloMosaic.Pipeline (Dat)
namespace Cert.Kernel13Ideal.Hand
open Cert.Kernel13Ideal Cert.Kernel13Ideal.Gen
variable {F : FTy → Type} [FloatOps F] (m : (ℓ : Loc nD τ sig) → Buf (Elt F) ℓ)

/-- The two tables, which the program names. -/
def lits : pre0.Contents (Elt F) := fun | 0 => fun i => lit0 (S2.rowMajor i) | 1 => fun _ => 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![(i 1).val, (i 0).val] := by
  decide +kernel
theorem tr1_i : ∀ i : grid0.Coords, cc0_transform_1 k0_off1_inb numel1_S1 (lits (F := Ideal)) i = ![(i 1).val, 0] := by
  decide +kernel
theorem tr0 (i : grid0.Coords) : cc0_transform_0 k0_off1_inb numel1_S1 (lits (F := F)) i = ![(i 1).val, (i 0).val] :=
  (show _ = cc0_transform_0 k0_off1_inb numel1_S1 (lits (F := Ideal)) i from rfl).trans (tr0_i i)
theorem tr1 (i : grid0.Coords) : cc0_transform_1 k0_off1_inb numel1_S1 (lits (F := F)) i = ![(i 1).val, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel13Ideal.Hand
namespace Cert.Kernel13.Hand
open Cert.Kernel13 Cert.Kernel13.Gen
variable {F : FTy → Type} [FloatOps F] (m : (ℓ : Loc nD τ sig) → Buf (Elt F) ℓ)

/-- The two tables, which the program names. -/
def lits : pre0.Contents (Elt F) := fun | 0 => fun i => lit0 (S2.rowMajor i) | 1 => fun _ => 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![(i 1).val, (i 0).val] := by
  decide +kernel
theorem tr1_i : ∀ i : grid0.Coords, cc0_transform_1 k0_off1_inb numel1_S1 (lits (F := Ideal)) i = ![(i 1).val, 0] := by
  decide +kernel
theorem tr0 (i : grid0.Coords) : cc0_transform_0 k0_off1_inb numel1_S1 (lits (F := F)) i = ![(i 1).val, (i 0).val] :=
  (show _ = cc0_transform_0 k0_off1_inb numel1_S1 (lits (F := Ideal)) i from rfl).trans (tr0_i i)
theorem tr1 (i : grid0.Coords) : cc0_transform_1 k0_off1_inb numel1_S1 (lits (F := F)) i = ![(i 1).val, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel13.Hand
end
-- ==== Proof.Mlp13.lean ====
module
public import proofs.«01_k».proof.Proof.Tables13
public import proofs.«01_k».proof.Proof.Sums
public import proofs.«01_k».proof.Proof.Gen.Reference13Ideal.Run
public import Idealize.ShloMosaic.Lib.Pipeline.ReadBack
@[expose] public section
/-! The gradient of the odd layer's input projection's weights, tile by tile. The rows are added up in two halves. -/
set_option maxRecDepth 16384
noncomputable section
open Idealize.ShloMosaic Idealize.ShloMosaic.TcCoe Idealize.SL.Sem
open Idealize.ShloMosaic.Pipeline (Dat)
namespace Cert.Kernel13Ideal.Hand
open Cert.Kernel13Ideal Cert.Kernel13Ideal.Gen
variable (m : (ℓ : Loc nD τ sig) → Buf (Elt Ideal) ℓ) (c : Dev nD)

section
variable (h : FVec Ideal Cert.Reference13Ideal.S4608x1024 .bf16) (d : FVec Ideal Cert.Reference13Ideal.S4608x1440 .bf16)
/-- The gradient, transposed. -/
def gT : FVec Ideal Cert.Reference13Ideal.S1440x1024 .f32 :=
  Host.dotGeneral Cert.Reference13Ideal.dot_S4608x1440_S4608x1024_S1440x1024_0_0_1_1_n_n none (extf .f32 d bitsLt_bf16_f32) (extf .f32 h bitsLt_bf16_f32)
/-- The gradient. -/
def gW : FVec Ideal Cert.Reference13Ideal.S1024x1440 .f32 :=
  transpose Cert.Reference13Ideal.S1024x1440 [1, 0] (gT h d) Cert.Reference13Ideal.Gen.transposes_S1440x1024_S1024x1440_1_0
/-- The gradient with its columns moved apart. -/
def gP : FVec Ideal Cert.Reference13Ideal.S1024x1536 .f32 :=
  concatenate Cert.Reference13Ideal.S1024x1536 1 [⟨Cert.Reference13Ideal.S1024x416, extractStridedSlice Cert.Reference13Ideal.S1024x416 ![0, 0] (gW h d) Cert.Reference13Ideal.Gen.slices_S1024x1440_S1024x416_0_0⟩,
    ⟨Cert.Reference13Ideal.S1024x96, broadcastInDim Cert.Reference13Ideal.S1024x96 ![] Cert.Reference13Ideal.Gen.bcast_S_S1024x96 (constant Cert.Reference13Ideal.S_ .f32 0x00000000#32)⟩,
    ⟨Cert.Reference13Ideal.S1024x1024, extractStridedSlice Cert.Reference13Ideal.S1024x1024 ![0, 416] (gW h d) Cert.Reference13Ideal.Gen.slices_S1024x1440_S1024x1024_0_416⟩] Cert.Reference13Ideal.Gen.concatenates_S1024x416_S1024x96_S1024x1024_S1024x1536_d1
/-- What the reference leaves. -/
def res : FVec Ideal Cert.Reference13Ideal.S2x512x1536 .bf16 :=
  truncf .bf16 (shapeCast _ (gP h d) Cert.Reference13Ideal.Gen.shapeCasts_S1024x1536_S2x512x1536) bitsLt_bf16_f32

theorem gT_at (j : Fin 1440) (e : Fin 1024) : gT h d (ix2 j e) = ∑ p : Fin 4608, d (ix2 p j) * h (ix2 p e) := by
  pointwise [gT]
theorem gW_at (e : Fin 1024) (j : Fin 1440) : gW h d (ix2 e j) = ∑ p : Fin 4608, h (ix2 p e) * d (ix2 p j) := by
  refine Eq.trans ?_ ((gT_at h d j e).trans (Finset.sum_congr rfl fun p _ => mul_comm _ _))
  pointwise [gW]
theorem gP_at (e : Fin 1024) (k : Fin 1536) : gP h d (ix2 e k) = Sums.spread (fun j => ∑ p : Fin 4608, h (ix2 p e) * d (ix2 p j)) k := by
  refine Eq.trans ?_ (congrArg (Sums.spread · k) (funext fun j => gW_at h d e j))
  pointwise [gP]
  exact Sums.spread_eq (fun j => gW h d (ix2 e j)) k _ Iff.rfl _ (fun _ => rfl) _ (fun _ _ => by dsimp only; omega)
theorem tiles_at (g : FVec Ideal Cert.Reference13Ideal.S1024x1536 .f32) (a : Fin 2) (r : Fin 512) (k : Fin 1536) :
    (truncf .bf16 (shapeCast Cert.Reference13Ideal.S2x512x1536 g Cert.Reference13Ideal.Gen.shapeCasts_S1024x1536_S2x512x1536) bitsLt_bf16_f32 : FVec Ideal _ .bf16) (ix3 a r k) = g (ix2 (⟨512 * a.val + r.val, by omega⟩ : Fin 1024) k) := by
  pointwise []
  blk_point []
theorem res_at (a : Fin 2) (r : Fin 512) (k : Fin 1536) :
    res h d (ix3 a r k) = ∑ p : Fin 4608, h (ix2 p (⟨512 * a.val + r.val, by omega⟩ : Fin 1024)) * Sums.spread (fun j => d (ix2 p j)) k := by
  rw [Sums.sum_spread, ← gP_at]
  exact tiles_at (gP h d) a r k
end

/-- The rows as the call gets them. -/
def padX (x : FVec Ideal S4608x1440 .bf16) : FVec Ideal S4608x1536 .bf16 :=
  concatenate S4608x1536 1 [⟨S4608x416, extractStridedSlice S4608x416 ![0, 0] x slices_S4608x1440_S4608x416_0_0⟩,
    ⟨S4608x96, broadcastInDim S4608x96 ![] bcast_S_S4608x96 (constant S_ .bf16 0x0000#16)⟩,
    ⟨S4608x1024, extractStridedSlice S4608x1024 ![0, 416] x slices_S4608x1440_S4608x1024_0_416⟩] concatenates_S4608x416_S4608x96_S4608x1024_S4608x1536_d1

theorem padX_at (x : FVec Ideal S4608x1440 .bf16) (j : Fin 4608) (e : Fin 1536) : padX x (ix2 j e) = Sums.spread (fun k => x (ix2 j k)) e := by
  pointwise [padX]
  exact Sums.spread_eq (fun k => x (ix2 j k)) e _ Iff.rfl _ (fun _ => rfl) _ (fun _ _ => by dsimp only; omega)

abbrev A0 : FVec Ideal S4608x1024 .bf16 := m ((c.tc : Thread nD τ).loc main_arg0)
abbrev A1 : FVec Ideal S4608x1440 .bf16 := m ((c.tc : Thread nD τ).loc main_arg1)
/-- The rows' gradients with their columns moved apart. -/
abbrev AP : FVec Ideal S4608x1536 .bf16 := padX (A1 m c)

theorem rows_eq : (V m c main_v3 : FVec Ideal S4608x1536 .bf16) = AP m c := by
  show Idealize.ShloMosaic.StableHlo.after hostOps0 (fun b => m (c, b)) (Proc.devRef .tc main_v3) = _
  unfold hostOps0
  after_results <;> rfl

theorem N_eq : (cfgM m (ok m)).N = 4 := (by decide +kernel : grid0.N = 4)

theorem coord0 (t : Fin grid0.N) : (grid0.coords t 0).val = t.val / 2 :=
  (by decide +kernel : ∀ t : Fin grid0.N, (grid0.coords t 0).val = t.val / 2) t
theorem coord1 (t : Fin grid0.N) : (grid0.coords t 1).val = t.val % 2 :=
  (by decide +kernel : ∀ t : Fin grid0.N, (grid0.coords t 1).val = t.val % 2) t
theorem idx0 (t : Fin (cfgM m (ok m)).N) : ((cfgM m (ok m)).win 0).index t = ![t.val % 2, t.val / 2] := by
  show cc0_transform_0 k0_off1_inb numel1_S1 (tbl m) (grid0.coords t) = _
  rw [tbl_eq, tr0, coord0, coord1]
theorem idx1 (t : Fin (cfgM m (ok m)).N) : ((cfgM m (ok m)).win 1).index t = ![t.val % 2, 0] := by
  show cc0_transform_1 k0_off1_inb numel1_S1 (tbl m) (grid0.coords t) = _
  rw [tbl_eq, tr1, coord1]
theorem idx2 (t : Fin (cfgM m (ok m)).N) : ((cfgM m (ok m)).win 2).index t = ![t.val / 2, 0, 0] :=
  (by decide +kernel : ∀ t : Fin grid0.N, cc0_transform_2 (grid0.coords t) = ![t.val / 2, 0, 0]) t

theorem blk_h (t : Fin (cfgM m (ok m)).N) (p : Fin 2304) (r : Fin 512) :
    iblk m (ok m) c 0 t (ix2 p r) = A0 m c (ix2 (⟨2304 * (t.val % 2) + p.val, by omega⟩ : Fin 4608) (⟨512 * (t.val / 2) + r.val, by have := lt_of_lt_of_eq t.isLt (N_eq m); omega⟩ : Fin 1024)) := by
  have := lt_of_lt_of_eq t.isLt (N_eq m)
  blk_ext [iblk, V, idx0 m t]

theorem blk_d (t : Fin (cfgM m (ok m)).N) (p : Fin 2304) (k : Fin 1536) :
    iblk m (ok m) c 1 t (ix2 p k) = AP m c (ix2 (⟨2304 * (t.val % 2) + p.val, by omega⟩ : Fin 4608) k) := by
  have := lt_of_lt_of_eq t.isLt (N_eq m)
  refine Eq.trans ?_ (congrFun (rows_eq m c) (ix2 (⟨2304 * (t.val % 2) + p.val, by omega⟩ : Fin 4608) k))
  unfold iblk
  blk_simp [idx1 m t]
  refine congrArg (V m c main_v3) ?_
  blk_ext [idx1 m t]

section
variable (i : grid0.Coords) (arg4 : Memref sig .tc .vmem S2304x512 .bf16) (harg4 : arg4.IsWhole) (arg5 : Memref sig .tc .vmem S2304x1536 .bf16) (harg5 : arg5.IsWhole) (arg6 : Memref sig .tc .vmem S1x512x1536 .bf16) (harg6 : arg6.IsWhole) (arg7 : Memref sig .tc .vmem S512x1536 .f32) (harg7 : arg7.IsWhole)
    (x0 : Vec Ideal S2304x512 .bf16) (x1 : Vec Ideal S2304x1536 .bf16) (xt0 : TbBuf0 (F := Ideal) c tbM0_0) (xt1 : TbBuf0 (F := Ideal) c tbM0_1) (r : Fin 512) (k : Fin 1536)

theorem first_at (hc0 : cond0_0 i) (hc1 : ¬cond0_1 i) :
    sout0_A_0 c i arg4 harg4 arg5 harg5 arg6 harg6 arg7 harg7 hc0 hc1 x0 x1 xt0 xt1 (ix2 r k) = ∑ p : Fin 2304, x0 (ix2 p r) * x1 (ix2 p k) := by
  frame_open
  simp (disch := decide) only [↓ View.readCov_skip, ↓ View.readCov_cons_toLoadRect, ↓ View.readCov_fill]
  frame_out
  pointwise [k0_pay2, k0_pay1]

theorem second_at (hc0 : ¬cond0_0 i) (hc1 : cond0_1 i) (xs : Vec Ideal S512x1536 .f32) :
    out0_B_2 c i arg4 harg4 arg5 harg5 arg6 harg6 arg7 harg7 hc0 hc1 x0 x1 xt0 xt1 xs (ix3 0 r k) = xs (ix2 r k) + ∑ p : Fin 2304, x0 (ix2 p r) * x1 (ix2 p k) := by
  frame_open
  simp (disch := decide) only [↓ View.readCov_skip, ↓ View.readCov_cons_toLoadRect, ↓ View.readCov_fill]
  frame_out
  pointwise [k0_pay3, k0_pay2]
end

theorem acc (t : Fin (cfgM m (ok m)).N) (ht : t.val % 2 = 0) (r : Fin 512) (k : Fin 1536) :
    (outsAt0 m (ok m) c t.val t.isLt).2 (ix2 r k) = ∑ p : Fin 2304, A0 m c (ix2 (⟨2304 * (t.val % 2) + p.val, by omega⟩ : Fin 4608) (⟨512 * (t.val / 2) + r.val, by have := lt_of_lt_of_eq t.isLt (N_eq m); omega⟩ : Fin 1024)) * AP m c (ix2 (⟨2304 * (t.val % 2) + p.val, by omega⟩ : Fin 4608) k) := by
  refine (congrArg (fun z => z.2 (ix2 r k)) (outsAt0_A m (ok m) c t ht (by omega))).trans ?_
  dsimp only
  exact (first_at c _ _ _ _ _ _ _ _ _ _ _ _ _ r k _ _).trans (Finset.sum_congr rfl fun p _ => congrArg₂ (· * ·) (blk_h m c t p r) (blk_d m c t p k))

theorem point (t : Fin (cfgM m (ok m)).N) (ht : t.val % 2 = 1) (r : Fin 512) (k : Fin 1536) :
    (outsAt0 m (ok m) c t.val t.isLt).1 (ix3 0 r k) = ∑ p : Fin 4608, A0 m c (ix2 p (⟨512 * (t.val / 2) + r.val, by have := lt_of_lt_of_eq t.isLt (N_eq m); omega⟩ : Fin 1024)) * AP m c (ix2 p k) := by
  have hN := lt_of_lt_of_eq t.isLt (N_eq m)
  refine (congrArg (fun z => z.1 (ix3 0 r k)) (outsAt0_B m (ok m) c t (by omega) ht)).trans ?_
  dsimp only
  refine (second_at c _ _ _ _ _ _ _ _ _ _ _ _ _ r k _ _ _).trans (Eq.trans ?_ (Sums.split2 _).symm)
  refine congrArg₂ (· + ·) ?_ ?_
  · refine (acc m c ⟨t.val - 1, by omega⟩ (by dsimp only; omega) r k).trans (Finset.sum_congr rfl fun p _ => congrArg₂ (fun u v => A0 m c u * AP m c v) ?_ ?_)
    · exact Sums.ix2_eq (by dsimp only; omega) (by first | rfl | (dsimp only; omega))
    · exact Sums.ix2_eq (by dsimp only; omega) rfl
  · refine Finset.sum_congr rfl fun p _ => congrArg₂ (fun u v : EReal => u * v) ((blk_h m c t p r).trans (congrArg (A0 m c) ?_)) ((blk_d m c t p k).trans (congrArg (AP m c) ?_))
    · exact Sums.ix2_eq (by dsimp only; omega) rfl
    · exact Sums.ix2_eq (by dsimp only; omega) rfl

theorem covers : ((cfgM m (ok m)).win 2).Covers := of_decide_eq_true (by sl_kernel_rfl)

theorem cells (y : S1x512x1536.Idx) : ∃ (r : Fin 512) (k : Fin 1536), y = ix3 (0 : Fin 1) r k :=
  ⟨y 1, y 2, by funext a; fin_cases a <;> first | rfl | exact Subsingleton.elim (α := Fin 1) _ _⟩

theorem final : (dats m (ok m) 0 c).arrAt 2 (cfgM m (ok m)).N = res (A0 m c) (A1 m c) := by
  refine (dats m (ok m) 0 c).arrAt_eq_of_covers 2 _ (covers m) fun t hf y => ?_
  blk_simp
  rw [after0_2]
  have := lt_of_lt_of_eq t.isLt (N_eq m)
  obtain ⟨r, k, rfl⟩ := cells y
  refine ((point _ _ _ ((flush0_2 _ t).mp hf) r k).trans ?_).trans (congrArg (res (A0 m c) (A1 m c)) (?_ : ix3 (⟨t.val / 2, by omega⟩ : Fin 2) r k = _))
  · rw [res_at]
    exact Finset.sum_congr rfl fun p _ => congrArg (A0 m c _ * ·) (padX_at (A1 m c) p k)
  · blk_ext [idx2 m t]

theorem run (ρ : Dev nD → PrngReg) : θ_run defs (onTc (τ := τ) (main (F := Ideal))) ⟨m, fun _ => 0, ρ⟩ fun r => ∀ c : Dev nD,
      r.2.mem ((c : Thread nD τ).loc main_v4) = res (A0 m c) (A1 m c) :=
  (θ_run defs _ _).mono (fun r h c => ((h c).1 2).trans (final m c)) (run_main m ρ (ok m))

end Cert.Kernel13Ideal.Hand
end
-- ==== Proof.Tables14.lean ====
module
public import proofs.«01_k».proof.Proof.Gen.Kernel14.Frame
public import proofs.«01_k».proof.Proof.Gen.Kernel14Ideal.Frame
public import Idealize.ShloMosaic.Lib.Pipeline.ValueKit
@[expose] public section
/-! The tables that the weight gradient's call is handed, and that its blocks are inside the arrays. -/
set_option maxRecDepth 16384
noncomputable section
open Idealize.ShloMosaic Idealize.ShloMosaic.TcCoe Idealize.SL.Sem
open Idealize.ShloMosaic.Pipeline (Dat)
namespace Cert.Kernel14Ideal.Hand
open Cert.Kernel14Ideal Cert.Kernel14Ideal.Gen
variable {F : FTy → Type} [FloatOps F] (m : (ℓ : Loc nD τ sig) → Buf (Elt F) ℓ)

/-- The two tables, which the program names. -/
def lits : pre0.Contents (Elt F) := fun | 0 => fun _ => 0#32 | 1 => fun _ => 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![(i 1).val, 0] := by
  decide +kernel
theorem tr1_i : ∀ i : grid0.Coords, cc0_transform_1 k0_off1_inb numel1_S1 (lits (F := Ideal)) i = ![(i 1).val, 0] := by
  decide +kernel
theorem tr0 (i : grid0.Coords) : cc0_transform_0 k0_off1_inb numel1_S1 (lits (F := F)) i = ![(i 1).val, 0] :=
  (show _ = cc0_transform_0 k0_off1_inb numel1_S1 (lits (F := Ideal)) i from rfl).trans (tr0_i i)
theorem tr1 (i : grid0.Coords) : cc0_transform_1 k0_off1_inb numel1_S1 (lits (F := F)) i = ![(i 1).val, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel14Ideal.Hand
namespace Cert.Kernel14.Hand
open Cert.Kernel14 Cert.Kernel14.Gen
variable {F : FTy → Type} [FloatOps F] (m : (ℓ : Loc nD τ sig) → Buf (Elt F) ℓ)

/-- The two tables, which the program names. -/
def lits : pre0.Contents (Elt F) := fun | 0 => fun _ => 0#32 | 1 => fun _ => 0#32

theorem tbl_eq : tbl m = lits := by
  funext j
  fin_cases j
  · show V m 0 main_c = _
    entry_read
    rfl
  · show V m 0 main_c_0 = _
    entry_read
    rfl

theorem tr0_i : ∀ i : grid0.Coords, cc0_transform_0 k0_off1_inb numel1_S1 (lits (F := Ideal)) i = ![(i 1).val, 0] := by
  decide +kernel
theorem tr1_i : ∀ i : grid0.Coords, cc0_transform_1 k0_off1_inb numel1_S1 (lits (F := Ideal)) i = ![(i 1).val, 0] := by
  decide +kernel
theorem tr0 (i : grid0.Coords) : cc0_transform_0 k0_off1_inb numel1_S1 (lits (F := F)) i = ![(i 1).val, 0] :=
  (show _ = cc0_transform_0 k0_off1_inb numel1_S1 (lits (F := Ideal)) i from rfl).trans (tr0_i i)
theorem tr1 (i : grid0.Coords) : cc0_transform_1 k0_off1_inb numel1_S1 (lits (F := F)) i = ![(i 1).val, 0] :=
  (show _ = cc0_transform_1 k0_off1_inb numel1_S1 (lits (F := Ideal)) i from rfl).trans (tr1_i i)

theorem ok : Ok m := by
  show ok0 (tbl m)
  rw [tbl_eq]
  refine ⟨fun i => ⟨?_, .inr (Affine.block_words_dvd (of_decide_eq_true rfl) (by decide))⟩, fun i => ⟨?_, .inr (Affine.block_words_dvd (of_decide_eq_true rfl) (by decide))⟩⟩
  · rw [tr0]; revert i; decide +kernel
  · rw [tr1]; revert i; decide +kernel
end Cert.Kernel14.Hand
end
-- ==== Proof.Mlp14.lean ====
module
public import proofs.«01_k».proof.Proof.Tables14
public import proofs.«01_k».proof.Proof.Sums
public import proofs.«01_k».proof.Proof.Gen.Reference14Ideal.Run
public import Idealize.ShloMosaic.Lib.Pipeline.ReadBack
@[expose] public section
/-! The gradient of one half of the output projection's weights. The rows are added up in two halves. -/
set_option maxRecDepth 16384
noncomputable section
open Idealize.ShloMosaic Idealize.ShloMosaic.TcCoe Idealize.SL.Sem
open Idealize.ShloMosaic.Pipeline (Dat)
namespace Cert.Kernel14Ideal.Hand
open Cert.Kernel14Ideal Cert.Kernel14Ideal.Gen
variable (m : (ℓ : Loc nD τ sig) → Buf (Elt Ideal) ℓ) (c : Dev nD)

section
variable (h : FVec Ideal Cert.Reference14Ideal.S4608x512 .bf16) (d : FVec Ideal Cert.Reference14Ideal.S4608x1024 .bf16)
/-- The gradient, transposed. -/
def gT : FVec Ideal Cert.Reference14Ideal.S1024x512 .f32 :=
  Host.dotGeneral Cert.Reference14Ideal.dot_S4608x1024_S4608x512_S1024x512_0_0_1_1_n_n none (extf .f32 d bitsLt_bf16_f32) (extf .f32 h bitsLt_bf16_f32)
/-- The gradient. -/
def gW : FVec Ideal Cert.Reference14Ideal.S512x1024 .f32 :=
  transpose Cert.Reference14Ideal.S512x1024 [1, 0] (gT h d) Cert.Reference14Ideal.Gen.transposes_S1024x512_S512x1024_1_0
/-- What the reference leaves. -/
def res : FVec Ideal Cert.Reference14Ideal.S1x512x1024 .bf16 :=
  truncf .bf16 (shapeCast _ (gW h d) Cert.Reference14Ideal.Gen.shapeCasts_S512x1024_S1x512x1024) bitsLt_bf16_f32

theorem gT_at (j : Fin 1024) (e : Fin 512) : gT h d (ix2 j e) = ∑ p : Fin 4608, d (ix2 p j) * h (ix2 p e) := by
  pointwise [gT]
theorem gW_at (e : Fin 512) (j : Fin 1024) : gW h d (ix2 e j) = ∑ p : Fin 4608, h (ix2 p e) * d (ix2 p j) := by
  refine Eq.trans ?_ ((gT_at h d j e).trans (Finset.sum_congr rfl fun p _ => mul_comm _ _))
  pointwise [gW]
theorem res_at (a : Fin 1) (r : Fin 512) (k : Fin 1024) :
    res h d (ix3 a r k) = ∑ p : Fin 4608, h (ix2 p r) * d (ix2 p k) := by
  rw [← gW_at]
  pointwise [res]
end

abbrev A0 : FVec Ideal S4608x512 .bf16 := m ((c.tc : Thread nD τ).loc main_arg0)
abbrev A1 : FVec Ideal S4608x1024 .bf16 := m ((c.tc : Thread nD τ).loc main_arg1)

theorem N_eq : (cfgM m (ok m)).N = 2 := (by decide +kernel : grid0.N = 2)

theorem coord0 (t : Fin grid0.N) : (grid0.coords t 0).val = 0 :=
  (by decide +kernel : ∀ t : Fin grid0.N, (grid0.coords t 0).val = 0) t
theorem coord1 (t : Fin grid0.N) : (grid0.coords t 1).val = t.val % 2 :=
  (by decide +kernel : ∀ t : Fin grid0.N, (grid0.coords t 1).val = t.val % 2) t
theorem idx0 (t : Fin (cfgM m (ok m)).N) : ((cfgM m (ok m)).win 0).index t = ![t.val % 2, 0] := by
  show cc0_transform_0 k0_off1_inb numel1_S1 (tbl m) (grid0.coords t) = _
  rw [tbl_eq, tr0, coord1]
theorem idx1 (t : Fin (cfgM m (ok m)).N) : ((cfgM m (ok m)).win 1).index t = ![t.val % 2, 0] := by
  show cc0_transform_1 k0_off1_inb numel1_S1 (tbl m) (grid0.coords t) = _
  rw [tbl_eq, tr1, coord1]
theorem idx2 (t : Fin (cfgM m (ok m)).N) : ((cfgM m (ok m)).win 2).index t = ![0, 0, 0] :=
  (by decide +kernel : ∀ t : Fin grid0.N, cc0_transform_2 (grid0.coords t) = ![0, 0, 0]) t

theorem blk_h (t : Fin (cfgM m (ok m)).N) (p : Fin 2304) (r : Fin 512) :
    iblk m (ok m) c 0 t (ix2 p r) = A0 m c (ix2 (⟨2304 * (t.val % 2) + p.val, by omega⟩ : Fin 4608) r) := by
  have := lt_of_lt_of_eq t.isLt (N_eq m)
  blk_ext [iblk, V, idx0 m t]

theorem blk_d (t : Fin (cfgM m (ok m)).N) (p : Fin 2304) (k : Fin 1024) :
    iblk m (ok m) c 1 t (ix2 p k) = A1 m c (ix2 (⟨2304 * (t.val % 2) + p.val, by omega⟩ : Fin 4608) k) := by
  have := lt_of_lt_of_eq t.isLt (N_eq m)
  blk_ext [iblk, V, idx1 m t]

section
variable (i : grid0.Coords) (arg4 : Memref sig .tc .vmem S2304x512 .bf16) (harg4 : arg4.IsWhole) (arg5 : Memref sig .tc .vmem S2304x1024 .bf16) (harg5 : arg5.IsWhole) (arg6 : Memref sig .tc .vmem S1x512x1024 .bf16) (harg6 : arg6.IsWhole) (arg7 : Memref sig .tc .vmem S512x1024 .f32) (harg7 : arg7.IsWhole)
    (x0 : Vec Ideal S2304x512 .bf16) (x1 : Vec Ideal S2304x1024 .bf16) (xt0 : TbBuf0 (F := Ideal) c tbM0_0) (xt1 : TbBuf0 (F := Ideal) c tbM0_1) (r : Fin 512) (k : Fin 1024)

theorem first_at (hc0 : cond0_0 i) (hc1 : ¬cond0_1 i) :
    sout0_A_0 c i arg4 harg4 arg5 harg5 arg6 harg6 arg7 harg7 hc0 hc1 x0 x1 xt0 xt1 (ix2 r k) = ∑ p : Fin 2304, x0 (ix2 p r) * x1 (ix2 p k) := by
  frame_open
  simp (disch := decide) only [↓ View.readCov_skip, ↓ View.readCov_cons_toLoadRect, ↓ View.readCov_fill]
  frame_out
  pointwise [k0_pay2, k0_pay1]

theorem second_at (hc0 : ¬cond0_0 i) (hc1 : cond0_1 i) (xs : Vec Ideal S512x1024 .f32) :
    out0_B_2 c i arg4 harg4 arg5 harg5 arg6 harg6 arg7 harg7 hc0 hc1 x0 x1 xt0 xt1 xs (ix3 0 r k) = xs (ix2 r k) + ∑ p : Fin 2304, x0 (ix2 p r) * x1 (ix2 p k) := by
  frame_open
  simp (disch := decide) only [↓ View.readCov_skip, ↓ View.readCov_cons_toLoadRect, ↓ View.readCov_fill]
  frame_out
  pointwise [k0_pay3, k0_pay2]
end

theorem acc (t : Fin (cfgM m (ok m)).N) (ht : t.val % 2 = 0) (r : Fin 512) (k : Fin 1024) :
    (outsAt0 m (ok m) c t.val t.isLt).2 (ix2 r k) = ∑ p : Fin 2304, A0 m c (ix2 (⟨2304 * (t.val % 2) + p.val, by omega⟩ : Fin 4608) r) * A1 m c (ix2 (⟨2304 * (t.val % 2) + p.val, by omega⟩ : Fin 4608) k) := by
  refine (congrArg (fun z => z.2 (ix2 r k)) (outsAt0_A m (ok m) c t ht (by omega))).trans ?_
  dsimp only
  exact (first_at c _ _ _ _ _ _ _ _ _ _ _ _ _ r k _ _).trans (Finset.sum_congr rfl fun p _ => congrArg₂ (· * ·) (blk_h m c t p r) (blk_d m c t p k))

theorem point (t : Fin (cfgM m (ok m)).N) (ht : t.val % 2 = 1) (r : Fin 512) (k : Fin 1024) :
    (outsAt0 m (ok m) c t.val t.isLt).1 (ix3 0 r k) = ∑ p : Fin 4608, A0 m c (ix2 p r) * A1 m c (ix2 p k) := by
  have hN := lt_of_lt_of_eq t.isLt (N_eq m)
  refine (congrArg (fun z => z.1 (ix3 0 r k)) (outsAt0_B m (ok m) c t (by omega) ht)).trans ?_
  dsimp only
  refine (second_at c _ _ _ _ _ _ _ _ _ _ _ _ _ r k _ _ _).trans (Eq.trans ?_ (Sums.split2 _).symm)
  refine congrArg₂ (· + ·) ?_ ?_
  · refine (acc m c ⟨t.val - 1, by omega⟩ (by dsimp only; omega) r k).trans (Finset.sum_congr rfl fun p _ => congrArg₂ (fun u v => A0 m c u * A1 m c v) ?_ ?_)
    · exact Sums.ix2_eq (by dsimp only; omega) (by first | rfl | (dsimp only; omega))
    · exact Sums.ix2_eq (by dsimp only; omega) rfl
  · refine Finset.sum_congr rfl fun p _ => congrArg₂ (fun u v : EReal => u * v) ((blk_h m c t p r).trans (congrArg (A0 m c) ?_)) ((blk_d m c t p k).trans (congrArg (A1 m c) ?_))
    · exact Sums.ix2_eq (by dsimp only; omega) rfl
    · exact Sums.ix2_eq (by dsimp only; omega) rfl

theorem covers : ((cfgM m (ok m)).win 2).Covers := of_decide_eq_true (by sl_kernel_rfl)

theorem cells (y : S1x512x1024.Idx) : ∃ (r : Fin 512) (k : Fin 1024), y = ix3 (0 : Fin 1) r k :=
  ⟨y 1, y 2, by funext a; fin_cases a <;> first | rfl | exact Subsingleton.elim (α := Fin 1) _ _⟩

theorem final : (dats m (ok m) 0 c).arrAt 2 (cfgM m (ok m)).N = res (A0 m c) (A1 m c) := by
  refine (dats m (ok m) 0 c).arrAt_eq_of_covers 2 _ (covers m) fun t hf y => ?_
  blk_simp
  rw [after0_2]
  have := lt_of_lt_of_eq t.isLt (N_eq m)
  obtain ⟨r, k, rfl⟩ := cells y
  refine ((point _ _ _ ((flush0_2 _ t).mp hf) r k).trans ?_).trans (congrArg (res (A0 m c) (A1 m c)) (?_ : ix3 (0 : Fin 1) r k = _))
  · rw [res_at]
  · blk_ext [idx2 m t]

theorem run (ρ : Dev nD → PrngReg) : θ_run defs (onTc (τ := τ) (main (F := Ideal))) ⟨m, fun _ => 0, ρ⟩ fun r => ∀ c : Dev nD,
      r.2.mem ((c : Thread nD τ).loc main_v0) = res (A0 m c) (A1 m c) :=
  (θ_run defs _ _).mono (fun r h c => ((h c).1 2).trans (final m c)) (run_main m ρ (ok m))

end Cert.Kernel14Ideal.Hand
end
-- ==== Proof.Mlp15.lean ====
module
public import proofs.«01_k».proof.Proof.Sums
public import proofs.«01_k».proof.Proof.Pieces
public import proofs.«01_k».proof.Proof.Gen.Kernel15Ideal.Value
public import proofs.«01_k».proof.Proof.Gen.Reference15Ideal.Run
@[expose] public section
/-! The odd layer's second product of the MLP with the residual: the context's rows pass through. -/
set_option maxRecDepth 16384
noncomputable section
open Idealize.ShloMosaic Idealize.ShloMosaic.TcCoe Idealize.SL.Sem
open Idealize.ShloMosaic.Pipeline (Dat)
namespace Cert.Reference15Ideal.Hand
open Cert.Reference15Ideal Cert.Reference15Ideal.Gen

/-- The product. -/
def prod (f : FVec Ideal S4608x4096 .bf16) (w : FVec Ideal S4096x1024 .f32) : FVec Ideal S4608x1024 .f32 :=
  Host.dotGeneral dot_S4608x4096_S4096x1024_S4608x1024_1_0_0_1_n_n none (extf .f32 f bitsLt_bf16_f32) w
theorem prod_at (f : FVec Ideal S4608x4096 .bf16) (w : FVec Ideal S4096x1024 .f32) (r : Fin 4608) (e : Fin 1024) :
    prod f w (ix2 r e) = ∑ j : Fin 4096, f (ix2 r j) * w (ix2 j e) := by
  pointwise [prod]

/-- The latent rows with a gated array added; the context's rows as they are. -/
def added (x p : FVec Ideal S4608x1024 .f32) (a : FVec Ideal S4x6x1024 .f32) : FVec Ideal S4608x1024 .f32 :=
  shapeCast _ (concatenate S2x2304x1024 1 [⟨S2x256x1024, extractStridedSlice S2x256x1024 ![0, 0, 0] (shapeCast _ x shapeCasts_S4608x1024_S2x2304x1024) slices_S2x2304x1024_S2x256x1024_0_0_0⟩,
    ⟨S2x2048x1024, addf (extractStridedSlice S2x2048x1024 ![0, 256, 0] (shapeCast _ x shapeCasts_S4608x1024_S2x2304x1024) slices_S2x2304x1024_S2x2048x1024_0_256_0) (mulf (broadcastInDim S2x2048x1024 ![0, 1, 2] bcast_S2x1x1024_S2x2048x1024_0_1_2 (broadcastInDim S2x1x1024 ![0, 2] bcast_S2x1024_S2x1x1024_0_2 (shapeCast _ (extractStridedSlice S2x1x1x1024 ![0, 1, 5, 0] (shapeCast _ a shapeCasts_S4x6x1024_S2x2x6x1024) slices_S2x2x6x1024_S2x1x1x1024_0_1_5_0) shapeCasts_S2x1x1x1024_S2x1024)))
      (extractStridedSlice S2x2048x1024 ![0, 256, 0] (shapeCast _ p shapeCasts_S4608x1024_S2x2304x1024) slices_S2x2304x1024_S2x2048x1024_0_256_0))⟩] concatenates_S2x256x1024_S2x2048x1024_S2x2304x1024_d1) shapeCasts_S2x2304x1024_S4608x1024
/-- The latent rows of an array; zeros at the context's rows. -/
def latent (p : FVec Ideal S4608x1024 .f32) : FVec Ideal S4608x1024 .f32 :=
  shapeCast _ (concatenate S2x2304x1024 1 [⟨S2x256x1024, broadcastInDim S2x256x1024 ![] bcast_S_S2x256x1024 (constant S_ .f32 0x00000000#32)⟩,
    ⟨S2x2048x1024, extractStridedSlice S2x2048x1024 ![0, 256, 0] (shapeCast _ p shapeCasts_S4608x1024_S2x2304x1024) slices_S2x2304x1024_S2x2048x1024_0_256_0⟩] concatenates_S2x256x1024_S2x2048x1024_S2x2304x1024_d1) shapeCasts_S2x2304x1024_S4608x1024

theorem added_at (x p : FVec Ideal S4608x1024 .f32) (a : FVec Ideal S4x6x1024 .f32) (b : Fin 2) (q : Fin 2304) (e : Fin 1024) :
    added x p a (ix2 (⟨2304 * b.val + q.val, by omega⟩ : Fin 4608) e) = if q.val < 256 then x (ix2 (⟨2304 * b.val + q.val, by omega⟩ : Fin 4608) e)
      else x (ix2 (⟨2304 * b.val + q.val, by omega⟩ : Fin 4608) e) + a (ix3 (⟨2 * b.val + 1, by omega⟩ : Fin 4) (5 : Fin 6) e) * p (ix2 (⟨2304 * b.val + q.val, by omega⟩ : Fin 4608) e) := by
  pointwise [added]
  blk_point []
  all_goals omega
theorem latent_at (p : FVec Ideal S4608x1024 .f32) (b : Fin 2) (q : Fin 2304) (e : Fin 1024) :
    latent p (ix2 (⟨2304 * b.val + q.val, by omega⟩ : Fin 4608) e) = if q.val < 256 then 0 else p (ix2 (⟨2304 * b.val + q.val, by omega⟩ : Fin 4608) e) := by
  pointwise [latent]
  blk_point []
  all_goals omega

theorem tile_eq (k : Fin 18) (r : Fin 256) (e : Fin 1024) : ix2 (⟨256 * k.val + r.val, by omega⟩ : Fin 4608) e
    = ix2 (⟨2304 * (⟨k.val / 9, by omega⟩ : Fin 2).val + (⟨256 * (k.val % 9) + r.val, by omega⟩ : Fin 2304).val, by dsimp only; omega⟩ : Fin 4608) e :=
  Sums.ix2_eq (by dsimp only; omega) rfl

/-- The rows after the call. -/
def resX (x : FVec Ideal S4608x1024 .f32) (f : FVec Ideal S4608x4096 .bf16) (w : FVec Ideal S4096x1024 .f32) (a : FVec Ideal S4x6x1024 .f32) : FVec Ideal S4608x1024 .f32 :=
  added x (prod f w) a
/-- The product as it is saved. -/
def resY (f : FVec Ideal S4608x4096 .bf16) (w : FVec Ideal S4096x1024 .f32) : FVec Ideal S4608x1024 .bf16 :=
  truncf .bf16 (latent (prod f w)) bitsLt_bf16_f32

theorem resX_context (x : FVec Ideal S4608x1024 .f32) (f : FVec Ideal S4608x4096 .bf16) (w : FVec Ideal S4096x1024 .f32) (a : FVec Ideal S4x6x1024 .f32) (k : Fin 18) (h : k.val % 9 = 0) (r : Fin 256) (e : Fin 1024) :
    resX x f w a (ix2 (⟨256 * k.val + r.val, by omega⟩ : Fin 4608) e) = x (ix2 (⟨256 * k.val + r.val, by omega⟩ : Fin 4608) e) := by
  rw [tile_eq]
  exact (added_at _ _ _ _ _ _).trans (if_pos (by dsimp only; omega))
theorem resX_latent (x : FVec Ideal S4608x1024 .f32) (f : FVec Ideal S4608x4096 .bf16) (w : FVec Ideal S4096x1024 .f32) (a : FVec Ideal S4x6x1024 .f32) (k : Fin 18) (h : ¬k.val % 9 = 0) (r : Fin 256) (e : Fin 1024) :
    resX x f w a (ix2 (⟨256 * k.val + r.val, by omega⟩ : Fin 4608) e) = x (ix2 (⟨256 * k.val + r.val, by omega⟩ : Fin 4608) e)
      + a (ix3 (⟨2 * (k.val / 9) + 1, by omega⟩ : Fin 4) (5 : Fin 6) e) * ∑ j : Fin 4096, f (ix2 (⟨256 * k.val + r.val, by omega⟩ : Fin 4608) j) * w (ix2 j e) := by
  rw [← prod_at, tile_eq]
  exact (added_at _ _ _ _ _ _).trans (if_neg (by dsimp only; omega))
theorem resY_context (f : FVec Ideal S4608x4096 .bf16) (w : FVec Ideal S4096x1024 .f32) (k : Fin 18) (h : k.val % 9 = 0) (r : Fin 256) (e : Fin 1024) :
    resY f w (ix2 (⟨256 * k.val + r.val, by omega⟩ : Fin 4608) e) = (0 : EReal) := by
  rw [tile_eq]
  exact (latent_at _ _ _ _).trans (if_pos (by dsimp only; omega))
theorem resY_latent (f : FVec Ideal S4608x4096 .bf16) (w : FVec Ideal S4096x1024 .f32) (k : Fin 18) (h : ¬k.val % 9 = 0) (r : Fin 256) (e : Fin 1024) :
    resY f w (ix2 (⟨256 * k.val + r.val, by omega⟩ : Fin 4608) e) = ∑ j : Fin 4096, f (ix2 (⟨256 * k.val + r.val, by omega⟩ : Fin 4608) j) * w (ix2 j e) := by
  rw [← prod_at, tile_eq]
  exact (latent_at _ _ _ _).trans (if_neg (by dsimp only; omega))

end Cert.Reference15Ideal.Hand
namespace Cert.Kernel15Ideal.Hand
open Cert.Kernel15Ideal Cert.Kernel15Ideal.Gen
open Cert.Reference15Ideal.Hand (resX resY resX_context resX_latent resY_context resY_latent)
variable (m : (ℓ : Loc nD τ sig) → Buf (Elt Ideal) ℓ) (c : Dev nD)

/-- The weights' shards as the call gets them. -/
def shards (w : FVec Ideal S4096x1024 .f32) : FVec Ideal S4x1024x1024 .bf16 :=
  shapeCast S4x1024x1024 (truncf .bf16 w bitsLt_bf16_f32) shapeCasts_S4096x1024_S4x1024x1024
theorem shards_at (w : FVec Ideal S4096x1024 .f32) (s : Fin 4) (k e : Fin 1024) :
    shards w (ix3 s k e) = w (ix2 (⟨1024 * s.val + k.val, by omega⟩ : Fin 4096) e) := by
  pointwise [shards]
  blk_point []
/-- The modulation table as the call gets it. -/
def table (a : FVec Ideal S4x6x1024 .f32) : FVec Ideal S24x1x1024 .f32 := shapeCast S24x1x1024 a shapeCasts_S4x6x1024_S24x1x1024
theorem table_at (a : FVec Ideal S4x6x1024 .f32) (s : Fin 4) (j : Fin 6) (e : Fin 1024) :
    table a (ix3 (⟨6 * s.val + j.val, by omega⟩ : Fin 24) 0 e) = a (ix3 s j e) := by
  pointwise [table]
abbrev A0 : FVec Ideal S4608x1024 .f32 := m ((c.tc : Thread nD τ).loc main_arg0)
abbrev A1 : FVec Ideal S4608x4096 .bf16 := m ((c.tc : Thread nD τ).loc main_arg1)
abbrev A2 : FVec Ideal S4096x1024 .f32 := m ((c.tc : Thread nD τ).loc main_arg2)
abbrev A3 : FVec Ideal S4x6x1024 .f32 := m ((c.tc : Thread nD τ).loc main_arg3)

theorem shards_eq : (V m c main_v1 : FVec Ideal S4x1024x1024 .bf16) = shards (A2 m c) := by
  entry_read
  rfl
theorem table_eq : (V m c main_v2 : FVec Ideal S24x1x1024 .f32) = table (A3 m c) := by
  entry_read
  rfl
theorem N_eq : cfg0.N = 18 := by decide +kernel
theorem idx : ∀ t : Fin cfg0.N, win0_0.index t = ![t.val, 0] ∧ win0_1.index t = ![t.val, 0] ∧ win0_2.index t = ![(2 * (t.val / 9) + min (t.val % 9) 1) * 6 + 5, 0, 0]
    ∧ win0_3.index t = ![0, 0, 0] ∧ win0_4.index t = ![t.val, 0] ∧ win0_5.index t = ![t.val, 0] :=
  (by decide +kernel : ∀ t : Fin grid0.N, _)

/-- The block of a step. -/
abbrev at18 (t : Fin cfg0.N) : Fin 18 := ⟨t.val, lt_of_lt_of_eq t.isLt N_eq⟩
abbrev row (t : Fin cfg0.N) (r : Fin 256) : Fin 4608 := ⟨256 * (at18 t).val + r.val, by have := (at18 t).isLt; omega⟩
/-- The line of the modulation table for a step: the example's context or latent tokens. -/
abbrev seg (t : Fin cfg0.N) : Fin 4 := ⟨2 * (t.val / 9) + min (t.val % 9) 1, by have := (at18 t).isLt; dsimp only at this; omega⟩

theorem blk_f (t : Fin cfg0.N) (r : Fin 256) (j : Fin 4096) : iblk m c 0 t (ix2 r j) = A1 m c (ix2 (row t r) j) := by
  have := lt_of_lt_of_eq t.isLt N_eq
  blk_ext [iblk, V, idx t]
theorem blk_x (t : Fin cfg0.N) (r : Fin 256) (j : Fin 1024) : iblk m c 1 t (ix2 r j) = A0 m c (ix2 (row t r) j) := by
  have := lt_of_lt_of_eq t.isLt N_eq
  blk_ext [iblk, V, idx t]
theorem blk_gate (t : Fin cfg0.N) (e : Fin 1024) : iblk m c 2 t (ix3 0 0 e) = A3 m c (ix3 (seg t) 5 e) := by
  have := lt_of_lt_of_eq t.isLt N_eq
  rw [← table_at (A3 m c), ← table_eq m c]
  unfold iblk
  blk_simp [idx t]
  refine congrArg (V m c main_v2) ?_
  blk_ext [idx t]
theorem blk_w (t : Fin cfg0.N) (s : Fin 4) (k e : Fin 1024) :
    iblk m c 3 t (ix3 s k e) = A2 m c (ix2 (⟨1024 * s.val + k.val, by omega⟩ : Fin 4096) e) := by
  rw [← shards_at (A2 m c), ← shards_eq m c]
  unfold iblk
  blk_simp [idx t]
  refine congrArg (V m c main_v1) ?_
  blk_ext [idx t]
/-- The four partial products at one place. -/
abbrev parts (x0 : Vec Ideal S256x4096 .bf16) (x3 : Vec Ideal S4x1024x1024 .bf16) (r : Fin 256) (e : Fin 1024) : EReal :=
  (((∑ k : Fin 1024, x0 (ix2 r (⟨k.val, by omega⟩ : Fin 4096)) * x3 (ix3 0 k e)) + ∑ k : Fin 1024, x0 (ix2 r (⟨1024 + k.val, by omega⟩ : Fin 4096)) * x3 (ix3 1 k e))
      + ∑ k : Fin 1024, x0 (ix2 r (⟨2048 + k.val, by omega⟩ : Fin 4096)) * x3 (ix3 2 k e)) + ∑ k : Fin 1024, x0 (ix2 r (⟨3072 + k.val, by omega⟩ : Fin 4096)) * x3 (ix3 3 k e)

/-- A row with its gated product at one place. -/
def whole (x0 : Vec Ideal S256x4096 .bf16) (x1 : Vec Ideal S256x1024 .f32) (x2 : Vec Ideal S1x1x1024 .f32) (x3 : Vec Ideal S4x1024x1024 .bf16) (r : Fin 256) (e : Fin 1024) : EReal :=
  x1 (ix2 r e) + x2 (ix3 0 0 e) * parts x0 x3 r e

theorem parts_at (t : Fin cfg0.N) (r : Fin 256) (e : Fin 1024) :
    parts (iblk m c 0 t) (iblk m c 3 t) r e = ∑ j : Fin 4096, A1 m c (ix2 (row t r) j) * A2 m c (ix2 j e) := by
  rw [Sums.split4]
  simp only [parts, blk_f, blk_w]
  rfl

theorem step_contextX (t : Fin cfg0.N) (h0 : ¬¬(t.val % 9 = 0)) (h1 : t.val % 9 = 0) (r : Fin 256) (e : Fin 1024) :
    (outsAt0 m c t.val t.isLt).1 (ix2 r e) = iblk m c 1 t (ix2 r e) := by
  rw [outsAt0_A m c t h0 h1]
  frame_open
  frame_out
theorem step_contextY (t : Fin cfg0.N) (h0 : ¬¬(t.val % 9 = 0)) (h1 : t.val % 9 = 0) (r : Fin 256) (e : Fin 1024) :
    (outsAt0 m c t.val t.isLt).2 (ix2 r e) = (0 : EReal) := by
  rw [outsAt0_A m c t h0 h1]
  frame_open
  frame_out
  pointwise [k0_pay1]
theorem step_latentX (t : Fin cfg0.N) (h0 : ¬(t.val % 9 = 0)) (h1 : ¬t.val % 9 = 0) (r : Fin 256) (e : Fin 1024) :
    (outsAt0 m c t.val t.isLt).1 (ix2 r e) = whole (iblk m c 0 t) (iblk m c 1 t) (iblk m c 2 t) (iblk m c 3 t) r e := by
  rw [outsAt0_B m c t h0 h1]
  frame_open
  frame_out
  unfold whole
  pointwise [k0_pay3, k0_pay2]
theorem step_latentY (t : Fin cfg0.N) (h0 : ¬(t.val % 9 = 0)) (h1 : ¬t.val % 9 = 0) (r : Fin 256) (e : Fin 1024) :
    (outsAt0 m c t.val t.isLt).2 (ix2 r e) = parts (iblk m c 0 t) (iblk m c 3 t) r e := by
  rw [outsAt0_B m c t h0 h1]
  frame_open
  frame_out
  pointwise [k0_pay4, k0_pay2]

theorem row_at (t : Fin cfg0.N) (h : ¬t.val % 9 = 0) (r : Fin 256) (e : Fin 1024) :
    whole (iblk m c 0 t) (iblk m c 1 t) (iblk m c 2 t) (iblk m c 3 t) r e = resX (A0 m c) (A1 m c) (A2 m c) (A3 m c) (ix2 (row t r) e) := by
  have hs : seg t = (⟨2 * ((at18 t).val / 9) + 1, by have := (at18 t).isLt; omega⟩ : Fin 4) := Fin.ext (by dsimp only; omega)
  unfold whole
  rw [resX_latent _ _ _ _ (at18 t) h, parts_at, blk_x, blk_gate, hs]

theorem finalX : (dats m 0 c).arrAt 4 cfg0.N = resX (A0 m c) (A1 m c) (A2 m c) (A3 m c) := by
  refine (dats m 0 c).arrAt_eq_of_covers 4 _ (by decide +kernel) fun t hf y => ?_
  blk_simp
  rw [after0_4]
  obtain ⟨r, e, rfl⟩ : ∃ (r : Fin 256) (e : Fin 1024), y = ix2 r e := ⟨y 0, y 1, by funext a; fin_cases a <;> rfl⟩
  refine Eq.trans ?_ (congrArg (resX (A0 m c) (A1 m c) (A2 m c) (A3 m c)) (?_ : ix2 (row t r) e = _))
  · by_cases h : t.val % 9 = 0
    · exact (step_contextX m c t (not_not.mpr h) h r e).trans ((blk_x m c t r e).trans (resX_context _ _ _ _ (at18 t) h r e).symm)
    · exact (step_latentX m c t h h r e).trans (row_at m c t h r e)
  · blk_ext [idx t]
theorem finalY : (dats m 0 c).arrAt 5 cfg0.N = resY (A1 m c) (A2 m c) := by
  refine (dats m 0 c).arrAt_eq_of_covers 5 _ (by decide +kernel) fun t hf y => ?_
  blk_simp
  rw [after0_5]
  obtain ⟨r, e, rfl⟩ : ∃ (r : Fin 256) (e : Fin 1024), y = ix2 r e := ⟨y 0, y 1, by funext a; fin_cases a <;> rfl⟩
  refine Eq.trans ?_ (congrArg (resY (A1 m c) (A2 m c)) (?_ : ix2 (row t r) e = _))
  · by_cases h : t.val % 9 = 0
    · exact (step_contextY m c t (not_not.mpr h) h r e).trans (resY_context _ _ (at18 t) h r e).symm
    · exact (step_latentY m c t h h r e).trans ((parts_at m c t r e).trans (resY_latent _ _ (at18 t) h r e).symm)
  · blk_ext [idx t]
end Cert.Kernel15Ideal.Hand
end
-- ==== Proof.Mlp16.lean ====
module
public import proofs.«01_k».proof.Proof.Sums
public import proofs.«01_k».proof.Proof.Pieces
public import proofs.«01_k».proof.Proof.Gen.Kernel16Ideal.Value
public import proofs.«01_k».proof.Proof.Gen.Reference16Ideal.Run
@[expose] public section
/-! The even layer's second product of the MLP, with the residual and the next layer's norm. -/
set_option maxRecDepth 16384
noncomputable section
open Idealize.ShloMosaic Idealize.ShloMosaic.TcCoe Idealize.SL.Sem
open Idealize.ShloMosaic.Pipeline (Dat)
namespace Cert.Reference16Ideal.Hand
open Cert.Reference16Ideal Cert.Reference16Ideal.Gen

/-- The vector of an example's context or of its latent tokens, at every row. -/
def byRow (t : FVec Ideal S2x2x1024 .f32) : FVec Ideal S4608x1024 .f32 :=
  shapeCast _ (concatenate S2x2304x1024 1 [⟨S2x256x1024, broadcastInDim S2x256x1024 ![0, 1, 2] bcast_S2x1x1024_S2x256x1024_0_1_2 (extractStridedSlice S2x1x1024 ![0, 0, 0] t slices_S2x2x1024_S2x1x1024_0_0_0)⟩,
    ⟨S2x2048x1024, broadcastInDim S2x2048x1024 ![0, 1, 2] bcast_S2x1x1024_S2x2048x1024_0_1_2 (extractStridedSlice S2x1x1024 ![0, 1, 0] t slices_S2x2x1024_S2x1x1024_0_1_0)⟩] concatenates_S2x256x1024_S2x2048x1024_S2x2304x1024_d1) shapeCasts_S2x2304x1024_S4608x1024
def gates (a : FVec Ideal S4x6x1024 .f32) : FVec Ideal S2x2x1024 .f32 :=
  shapeCast _ (extractStridedSlice S2x2x1x1024 ![0, 0, 5, 0] (shapeCast _ a shapeCasts_S4x6x1024_S2x2x6x1024) slices_S2x2x6x1024_S2x2x1x1024_0_0_5_0) shapeCasts_S2x2x1x1024_S2x2x1024
def scales (a : FVec Ideal S4x6x1024 .f32) : FVec Ideal S2x2x1024 .f32 :=
  shapeCast _ (extractStridedSlice S2x2x1x1024 ![0, 0, 1, 0] (shapeCast _ a shapeCasts_S4x6x1024_S2x2x6x1024) slices_S2x2x6x1024_S2x2x1x1024_0_0_1_0) shapeCasts_S2x2x1x1024_S2x2x1024
def shifts (a : FVec Ideal S4x6x1024 .f32) : FVec Ideal S2x2x1024 .f32 :=
  shapeCast _ (extractStridedSlice S2x2x1x1024 ![0, 0, 0, 0] (shapeCast _ a shapeCasts_S4x6x1024_S2x2x6x1024) slices_S2x2x6x1024_S2x2x1x1024_0_0_0_0) shapeCasts_S2x2x1x1024_S2x2x1024

theorem byRow_at (t : FVec Ideal S2x2x1024 .f32) (a : Fin 2) (b : Fin 2304) (e : Fin 1024) :
    byRow t (ix2 (⟨2304 * a.val + b.val, by omega⟩ : Fin 4608) e) = t (ix3 a (if b.val < 256 then 0 else 1) e) := by
  pointwise [byRow]
  blk_point []
  · rw [if_pos ‹b.val < 256›]; rfl
  · rw [if_neg ‹¬b.val < 256›]; rfl
/-- The same, at a row of a block of 256. -/
theorem byRow_tile (t : FVec Ideal S2x2x1024 .f32) (k : Fin 18) (r : Fin 256) (e : Fin 1024) :
    byRow t (ix2 (⟨256 * k.val + r.val, by omega⟩ : Fin 4608) e) = t (ix3 (⟨k.val / 9, by omega⟩ : Fin 2) (⟨min (k.val % 9) 1, by omega⟩ : Fin 2) e) := by
  have h : (if 256 * (k.val % 9) + r.val < 256 then 0 else 1 : Fin 2) = ⟨min (k.val % 9) 1, by omega⟩ := by
    split <;> refine Fin.ext ?_ <;> simp <;> omega
  refine (congrArg (byRow t) (Sums.ix2_eq ?_ rfl)).trans ((byRow_at t ⟨k.val / 9, by omega⟩ ⟨256 * (k.val % 9) + r.val, by omega⟩ e).trans (by rw [← h]))
  dsimp only
  omega
theorem gates_at (t : FVec Ideal S4x6x1024 .f32) (a s : Fin 2) (e : Fin 1024) :
    gates t (ix3 a s e) = t (ix3 (⟨2 * a.val + s.val, by omega⟩ : Fin 4) (5 : Fin 6) e) := by
  pointwise [gates]
  blk_point []
theorem scales_at (t : FVec Ideal S4x6x1024 .f32) (a s : Fin 2) (e : Fin 1024) :
    scales t (ix3 a s e) = t (ix3 (⟨2 * a.val + s.val, by omega⟩ : Fin 4) (1 : Fin 6) e) := by
  pointwise [scales]
  blk_point []
theorem shifts_at (t : FVec Ideal S4x6x1024 .f32) (a s : Fin 2) (e : Fin 1024) :
    shifts t (ix3 a s e) = t (ix3 (⟨2 * a.val + s.val, by omega⟩ : Fin 4) (0 : Fin 6) e) := by
  pointwise [shifts]
  blk_point []

/-- The product. -/
def prod (f : FVec Ideal S4608x4096 .bf16) (w : FVec Ideal S4096x1024 .f32) : FVec Ideal S4608x1024 .f32 :=
  Host.dotGeneral dot_S4608x4096_S4096x1024_S4608x1024_1_0_0_1_n_n none (extf .f32 f bitsLt_bf16_f32) w
theorem prod_at (f : FVec Ideal S4608x4096 .bf16) (w : FVec Ideal S4096x1024 .f32) (r : Fin 4608) (e : Fin 1024) :
    prod f w (ix2 r e) = ∑ j : Fin 4096, f (ix2 r j) * w (ix2 j e) := by
  pointwise [prod]
/-- A row's norm and modulation at one place. -/
def normed (x : Fin 1024 → EReal) (g s b : EReal) (e : Fin 1024) : EReal :=
  x e * Ideal.rsqrt (Ideal.div (∑ j : Fin 1024, x j * x j) (Ideal.ofBits FTy.f32 1149239296#32) + Ideal.ofBits FTy.f32 897988541#32) * g * (1 + s) + b

/-- The norm of the rows with the modulation. -/
def norm (x s b : FVec Ideal S4608x1024 .f32) (g : FVec Ideal S1024 .f32) : FVec Ideal S4608x1024 .bf16 :=
  truncf .bf16 (addf (mulf (mulf (mulf x (broadcastInDim S4608x1024 ![0, 1] bcast_S4608x1_S4608x1024_0_1 (Host.rsqrt (addf (Host.divf (broadcastInDim S4608x1 ![0] bcast_S4608_S4608x1_0 (Host.reduceAdd (mulf x x) (constant S_ .f32 0x00000000#32) reducesTo_S4608x1024_S4608_d1 h_S_)) (broadcastInDim S4608x1 ![] bcast_S_S4608x1 (constant S_ .f32 0x44800000#32))) (broadcastInDim S4608x1 ![] bcast_S_S4608x1 (constant S_ .f32 0x358637BD#32))))))
    (broadcastInDim S4608x1024 ![0, 1] bcast_S1x1024_S4608x1024_0_1 (broadcastInDim S1x1024 ![1] bcast_S1024_S1x1024_1 g))) (addf (broadcastInDim S4608x1024 ![] bcast_S_S4608x1024 (constant S_ .f32 0x3F800000#32)) s)) b) bitsLt_bf16_f32
theorem norm_at (x s b : FVec Ideal S4608x1024 .f32) (g : FVec Ideal S1024 .f32) (r : Fin 4608) (e : Fin 1024) :
    norm x s b g (ix2 r e) = normed (fun j => x (ix2 r j)) (g (ix1 e)) (s (ix2 r e)) (b (ix2 r e)) e := by
  unfold normed
  pointwise [norm]

/-- The rows after the call. -/
def resX (x : FVec Ideal S4608x1024 .f32) (f : FVec Ideal S4608x4096 .bf16) (w : FVec Ideal S4096x1024 .f32) (a : FVec Ideal S4x6x1024 .f32) : FVec Ideal S4608x1024 .f32 :=
  addf x (mulf (byRow (gates a)) (prod f w))
/-- The product as it is saved. -/
def resY (f : FVec Ideal S4608x4096 .bf16) (w : FVec Ideal S4096x1024 .f32) : FVec Ideal S4608x1024 .bf16 :=
  truncf .bf16 (prod f w) bitsLt_bf16_f32
/-- The next layer's rows. -/
def resH (x : FVec Ideal S4608x1024 .f32) (f : FVec Ideal S4608x4096 .bf16) (w : FVec Ideal S4096x1024 .f32) (a a' : FVec Ideal S4x6x1024 .f32) (g : FVec Ideal S1024 .f32) : FVec Ideal S4608x1024 .bf16 :=
  norm (resX x f w a) (byRow (scales a')) (byRow (shifts a')) g

theorem resX_at (x : FVec Ideal S4608x1024 .f32) (f : FVec Ideal S4608x4096 .bf16) (w : FVec Ideal S4096x1024 .f32) (a : FVec Ideal S4x6x1024 .f32) (r : Fin 4608) (e : Fin 1024) :
    resX x f w a (ix2 r e) = x (ix2 r e) + byRow (gates a) (ix2 r e) * ∑ j : Fin 4096, f (ix2 r j) * w (ix2 j e) := by
  rw [← prod_at]
  rfl
theorem resY_at (f : FVec Ideal S4608x4096 .bf16) (w : FVec Ideal S4096x1024 .f32) (r : Fin 4608) (e : Fin 1024) :
    resY f w (ix2 r e) = ∑ j : Fin 4096, f (ix2 r j) * w (ix2 j e) := by
  rw [← prod_at]
  rfl

end Cert.Reference16Ideal.Hand
namespace Cert.Kernel16Ideal.Hand
open Cert.Kernel16Ideal Cert.Kernel16Ideal.Gen
open Cert.Reference16Ideal.Hand (normed resX resY resH byRow_tile gates_at scales_at shifts_at resX_at resY_at)
variable (m : (ℓ : Loc nD τ sig) → Buf (Elt Ideal) ℓ) (c : Dev nD)

theorem pay_at (x : FVec Ideal S256x1024 .f32) (g : Vec Ideal S1x1024 .f32) (b s : Vec Ideal S1x1x1024 .f32) (r : Fin 256) (e : Fin 1024) :
    k0_pay1 x g b s (ix2 r e) = normed (fun j => x (ix2 r j)) (g (ix2 0 e)) (s (ix3 0 0 e)) (b (ix3 0 0 e)) e := by
  unfold normed
  pointwise [k0_pay1]

/-- The weights' shards as the call gets them. -/
def shards (w : FVec Ideal S4096x1024 .f32) : FVec Ideal S4x1024x1024 .bf16 :=
  shapeCast S4x1024x1024 (truncf .bf16 w bitsLt_bf16_f32) shapeCasts_S4096x1024_S4x1024x1024
theorem shards_at (w : FVec Ideal S4096x1024 .f32) (s : Fin 4) (k e : Fin 1024) :
    shards w (ix3 s k e) = w (ix2 (⟨1024 * s.val + k.val, by omega⟩ : Fin 4096) e) := by
  pointwise [shards]
  blk_point []
/-- The modulation table as the call gets it. -/
def table (a : FVec Ideal S4x6x1024 .f32) : FVec Ideal S24x1x1024 .f32 := shapeCast S24x1x1024 a shapeCasts_S4x6x1024_S24x1x1024
theorem table_at (a : FVec Ideal S4x6x1024 .f32) (s : Fin 4) (j : Fin 6) (e : Fin 1024) :
    table a (ix3 (⟨6 * s.val + j.val, by omega⟩ : Fin 24) 0 e) = a (ix3 s j e) := by
  pointwise [table]
def line (g : FVec Ideal S1024 .f32) : FVec Ideal S1x1024 .f32 := shapeCast S1x1024 g shapeCasts_S1024_S1x1024
theorem line_at (g : FVec Ideal S1024 .f32) (e : Fin 1024) : line g (ix2 0 e) = g (ix1 e) := by
  pointwise [line]

abbrev A0 : FVec Ideal S4608x1024 .f32 := m ((c.tc : Thread nD τ).loc main_arg0)
abbrev A1 : FVec Ideal S4608x4096 .bf16 := m ((c.tc : Thread nD τ).loc main_arg1)
abbrev A2 : FVec Ideal S4096x1024 .f32 := m ((c.tc : Thread nD τ).loc main_arg2)
abbrev A3 : FVec Ideal S4x6x1024 .f32 := m ((c.tc : Thread nD τ).loc main_arg3)
abbrev A4 : FVec Ideal S4x6x1024 .f32 := m ((c.tc : Thread nD τ).loc main_arg4)
abbrev A5 : FVec Ideal S1024 .f32 := m ((c.tc : Thread nD τ).loc main_arg5)

theorem shards_eq : (V m c main_v1 : FVec Ideal S4x1024x1024 .bf16) = shards (A2 m c) := by
  entry_read
  rfl
theorem table_eq : (V m c main_v2 : FVec Ideal S24x1x1024 .f32) = table (A3 m c) := by
  entry_read
  rfl
theorem next_eq : (V m c main_v3 : FVec Ideal S24x1x1024 .f32) = table (A4 m c) := by
  entry_read
  rfl
theorem line_eq : (V m c main_v4 : FVec Ideal S1x1024 .f32) = line (A5 m c) := by
  entry_read
  rfl

theorem N_eq : cfg0.N = 18 := by decide +kernel
theorem idx : ∀ t : Fin cfg0.N, win0_0.index t = ![t.val, 0] ∧ win0_1.index t = ![t.val, 0] ∧ win0_2.index t = ![(2 * (t.val / 9) + min (t.val % 9) 1) * 6 + 5, 0, 0]
    ∧ win0_3.index t = ![(2 * (t.val / 9) + min (t.val % 9) 1) * 6, 0, 0] ∧ win0_4.index t = ![(2 * (t.val / 9) + min (t.val % 9) 1) * 6 + 1, 0, 0] ∧ win0_5.index t = ![0, 0, 0] ∧ win0_6.index t = ![0, 0]
    ∧ win0_7.index t = ![t.val, 0] ∧ win0_8.index t = ![t.val, 0] ∧ win0_9.index t = ![t.val, 0] :=
  (by decide +kernel : ∀ t : Fin grid0.N, _)

/-- The block of a step. -/
abbrev at18 (t : Fin cfg0.N) : Fin 18 := ⟨t.val, lt_of_lt_of_eq t.isLt N_eq⟩
abbrev row (t : Fin cfg0.N) (r : Fin 256) : Fin 4608 := ⟨256 * (at18 t).val + r.val, by have := (at18 t).isLt; omega⟩
/-- The line of the modulation table for a step: the example's context or latent tokens. -/
abbrev seg (t : Fin cfg0.N) : Fin 4 := ⟨2 * (t.val / 9) + min (t.val % 9) 1, by have := (at18 t).isLt; dsimp only at this; omega⟩

theorem blk_f (t : Fin cfg0.N) (r : Fin 256) (j : Fin 4096) : iblk m c 0 t (ix2 r j) = A1 m c (ix2 (row t r) j) := by
  have := lt_of_lt_of_eq t.isLt N_eq
  blk_ext [iblk, V, idx t]
theorem blk_x (t : Fin cfg0.N) (r : Fin 256) (j : Fin 1024) : iblk m c 1 t (ix2 r j) = A0 m c (ix2 (row t r) j) := by
  have := lt_of_lt_of_eq t.isLt N_eq
  blk_ext [iblk, V, idx t]
theorem blk_gate (t : Fin cfg0.N) (e : Fin 1024) : iblk m c 2 t (ix3 0 0 e) = A3 m c (ix3 (seg t) 5 e) := by
  have := lt_of_lt_of_eq t.isLt N_eq
  rw [← table_at (A3 m c), ← table_eq m c]
  unfold iblk
  blk_simp [idx t]
  refine congrArg (V m c main_v2) ?_
  blk_ext [idx t]
theorem blk_shift (t : Fin cfg0.N) (e : Fin 1024) : iblk m c 3 t (ix3 0 0 e) = A4 m c (ix3 (seg t) 0 e) := by
  have := lt_of_lt_of_eq t.isLt N_eq
  rw [← table_at (A4 m c), ← next_eq m c]
  unfold iblk
  blk_simp [idx t]
  refine congrArg (V m c main_v3) ?_
  blk_ext [idx t]
theorem blk_scale (t : Fin cfg0.N) (e : Fin 1024) : iblk m c 4 t (ix3 0 0 e) = A4 m c (ix3 (seg t) 1 e) := by
  have := lt_of_lt_of_eq t.isLt N_eq
  rw [← table_at (A4 m c), ← next_eq m c]
  unfold iblk
  blk_simp [idx t]
  refine congrArg (V m c main_v3) ?_
  blk_ext [idx t]
theorem blk_w (t : Fin cfg0.N) (s : Fin 4) (k e : Fin 1024) :
    iblk m c 5 t (ix3 s k e) = A2 m c (ix2 (⟨1024 * s.val + k.val, by omega⟩ : Fin 4096) e) := by
  rw [← shards_at (A2 m c), ← shards_eq m c]
  unfold iblk
  blk_simp [idx t]
  refine congrArg (V m c main_v1) ?_
  blk_ext [idx t]
theorem blk_g (t : Fin cfg0.N) (e : Fin 1024) : iblk m c 6 t (ix2 0 e) = A5 m c (ix1 e) := by
  rw [← line_at (A5 m c), ← line_eq m c]
  unfold iblk
  blk_simp [idx t]
  refine congrArg (V m c main_v4) ?_
  blk_ext [idx t]

/-- The four partial products at one place. -/
abbrev parts (x0 : Vec Ideal S256x4096 .bf16) (x5 : Vec Ideal S4x1024x1024 .bf16) (r : Fin 256) (e : Fin 1024) : EReal :=
  (((∑ k : Fin 1024, x0 (ix2 r (⟨k.val, by omega⟩ : Fin 4096)) * x5 (ix3 0 k e)) + ∑ k : Fin 1024, x0 (ix2 r (⟨1024 + k.val, by omega⟩ : Fin 4096)) * x5 (ix3 1 k e))
      + ∑ k : Fin 1024, x0 (ix2 r (⟨2048 + k.val, by omega⟩ : Fin 4096)) * x5 (ix3 2 k e)) + ∑ k : Fin 1024, x0 (ix2 r (⟨3072 + k.val, by omega⟩ : Fin 4096)) * x5 (ix3 3 k e)

/-- A row with its gated product at one place. -/
def whole (x0 : Vec Ideal S256x4096 .bf16) (x1 : Vec Ideal S256x1024 .f32) (x2 : Vec Ideal S1x1x1024 .f32) (x5 : Vec Ideal S4x1024x1024 .bf16) (r : Fin 256) (e : Fin 1024) : EReal :=
  x1 (ix2 r e) + x2 (ix3 0 0 e) * parts x0 x5 r e

variable (x0 : Vec Ideal S256x4096 .bf16) (x1 : Vec Ideal S256x1024 .f32) (x2 x3 x4 : Vec Ideal S1x1x1024 .f32) (x5 : Vec Ideal S4x1024x1024 .bf16) (x6 : Vec Ideal S1x1024 .f32)
theorem sum_at (r : Fin 256) (e : Fin 1024) : k0_pay5 x0 x1 x2 x3 x4 x5 x6 (ix2 r e) = whole x0 x1 x2 x5 r e := by
  unfold whole
  pointwise [k0_pay5, k0_pay3, k0_pay2]
theorem point7 (r : Fin 256) (e : Fin 1024) : out0_7 x0 x1 x2 x3 x4 x5 x6 (ix2 r e) = whole x0 x1 x2 x5 r e := by
  unfold out0_7
  refine (Pieces.here _ _ _ (ix2 r e) (fun a => ?_)).trans ?_
  · fin_cases a <;> simp
  exact sum_at x0 x1 x2 x3 x4 x5 x6 r e
theorem point8 (r : Fin 256) (e : Fin 1024) : out0_8 x0 x1 x2 x3 x4 x5 x6 (ix2 r e) = parts x0 x5 r e := by
  unfold out0_8
  refine (Pieces.here _ _ _ (ix2 r e) (fun a => ?_)).trans ?_
  · fin_cases a <;> simp
  pointwise [k0_pay4, k0_pay2]
theorem point9 (r : Fin 256) (e : Fin 1024) : out0_9 x0 x1 x2 x3 x4 x5 x6 (ix2 r e)
    = normed (fun j => whole x0 x1 x2 x5 r j) (x6 (ix2 0 e)) (x4 (ix3 0 0 e)) (x3 (ix3 0 0 e)) e := by
  unfold out0_9
  refine (Pieces.here _ _ _ (ix2 r e) (fun a => ?_)).trans ?_
  · fin_cases a <;> simp
  refine (pay_at _ _ _ _ r e).trans ?_
  simp only [sum_at]
  pointwise [normed]

theorem parts_at (t : Fin cfg0.N) (r : Fin 256) (e : Fin 1024) :
    parts (iblk m c 0 t) (iblk m c 5 t) r e = ∑ j : Fin 4096, A1 m c (ix2 (row t r) j) * A2 m c (ix2 j e) := by
  rw [Sums.split4]
  simp only [parts, blk_f, blk_w]
  rfl
theorem row_at (t : Fin cfg0.N) (r : Fin 256) (e : Fin 1024) :
    whole (iblk m c 0 t) (iblk m c 1 t) (iblk m c 2 t) (iblk m c 5 t) r e = resX (A0 m c) (A1 m c) (A2 m c) (A3 m c) (ix2 (row t r) e) := by
  unfold whole
  rw [resX_at, parts_at, blk_x, blk_gate, byRow_tile _ (at18 t), gates_at]

theorem finalX : (dats m 0 c).arrAt 7 cfg0.N = resX (A0 m c) (A1 m c) (A2 m c) (A3 m c) := by
  refine (dats m 0 c).arrAt_eq_of_covers 7 _ (by decide +kernel) fun t hf y => ?_
  blk_simp
  rw [after0_7]
  obtain ⟨r, e, rfl⟩ : ∃ (r : Fin 256) (e : Fin 1024), y = ix2 r e := ⟨y 0, y 1, by funext a; fin_cases a <;> rfl⟩
  refine ((point7 _ _ _ _ _ _ _ r e).trans (row_at m c t r e)).trans (congrArg (resX (A0 m c) (A1 m c) (A2 m c) (A3 m c)) (?_ : ix2 (row t r) e = _))
  blk_ext [idx t]
theorem finalY : (dats m 0 c).arrAt 8 cfg0.N = resY (A1 m c) (A2 m c) := by
  refine (dats m 0 c).arrAt_eq_of_covers 8 _ (by decide +kernel) fun t hf y => ?_
  blk_simp
  rw [after0_8]
  obtain ⟨r, e, rfl⟩ : ∃ (r : Fin 256) (e : Fin 1024), y = ix2 r e := ⟨y 0, y 1, by funext a; fin_cases a <;> rfl⟩
  refine ((point8 _ _ _ _ _ _ _ r e).trans ((parts_at m c t r e).trans (resY_at _ _ _ _).symm)).trans (congrArg (resY (A1 m c) (A2 m c)) (?_ : ix2 (row t r) e = _))
  blk_ext [idx t]
theorem finalH : (dats m 0 c).arrAt 9 cfg0.N = resH (A0 m c) (A1 m c) (A2 m c) (A3 m c) (A4 m c) (A5 m c) := by
  refine (dats m 0 c).arrAt_eq_of_covers 9 _ (by decide +kernel) fun t hf y => ?_
  blk_simp
  rw [after0_9]
  obtain ⟨r, e, rfl⟩ : ∃ (r : Fin 256) (e : Fin 1024), y = ix2 r e := ⟨y 0, y 1, by funext a; fin_cases a <;> rfl⟩
  refine ((point9 _ _ _ _ _ _ _ r e).trans ?_).trans (congrArg (resH (A0 m c) (A1 m c) (A2 m c) (A3 m c) (A4 m c) (A5 m c)) (?_ : ix2 (row t r) e = _))
  · refine Eq.trans ?_ (Cert.Reference16Ideal.Hand.norm_at _ _ _ _ _ e).symm
    simp only [row_at, blk_g, blk_scale, blk_shift]
    rw [byRow_tile _ (at18 t), byRow_tile _ (at18 t), scales_at, shifts_at]
  · blk_ext [idx t]
end Cert.Kernel16Ideal.Hand
end
-- ==== Proof.Mlp17.lean ====
module
public import proofs.«01_k».proof.Proof.Mlp16
public import proofs.«01_k».proof.Proof.Gen.Kernel17Ideal.Value
public import proofs.«01_k».proof.Proof.Gen.Reference17Ideal.Run
@[expose] public section
/-! The even layer's output projection of the two mixers, with the residual and the norm before the MLP. -/
set_option maxRecDepth 16384
noncomputable section
open Idealize.ShloMosaic Idealize.ShloMosaic.TcCoe Idealize.SL.Sem
open Idealize.ShloMosaic.Pipeline (Dat)
namespace Cert.Reference17Ideal.Hand
open Cert.Reference17Ideal Cert.Reference17Ideal.Gen
open Cert.Reference16Ideal.Hand (byRow norm)

def gates (a : FVec Ideal S4x6x1024 .f32) : FVec Ideal S2x2x1024 .f32 :=
  shapeCast _ (extractStridedSlice S2x2x1x1024 ![0, 0, 2, 0] (shapeCast _ a shapeCasts_S4x6x1024_S2x2x6x1024) slices_S2x2x6x1024_S2x2x1x1024_0_0_2_0) shapeCasts_S2x2x1x1024_S2x2x1024
def scales (a : FVec Ideal S4x6x1024 .f32) : FVec Ideal S2x2x1024 .f32 :=
  shapeCast _ (extractStridedSlice S2x2x1x1024 ![0, 0, 4, 0] (shapeCast _ a shapeCasts_S4x6x1024_S2x2x6x1024) slices_S2x2x6x1024_S2x2x1x1024_0_0_4_0) shapeCasts_S2x2x1x1024_S2x2x1024
def shifts (a : FVec Ideal S4x6x1024 .f32) : FVec Ideal S2x2x1024 .f32 :=
  shapeCast _ (extractStridedSlice S2x2x1x1024 ![0, 0, 3, 0] (shapeCast _ a shapeCasts_S4x6x1024_S2x2x6x1024) slices_S2x2x6x1024_S2x2x1x1024_0_0_3_0) shapeCasts_S2x2x1x1024_S2x2x1024
theorem gates_at (t : FVec Ideal S4x6x1024 .f32) (a s : Fin 2) (e : Fin 1024) :
    gates t (ix3 a s e) = t (ix3 (⟨2 * a.val + s.val, by omega⟩ : Fin 4) (2 : Fin 6) e) := by
  pointwise [gates]
  blk_point []
theorem scales_at (t : FVec Ideal S4x6x1024 .f32) (a s : Fin 2) (e : Fin 1024) :
    scales t (ix3 a s e) = t (ix3 (⟨2 * a.val + s.val, by omega⟩ : Fin 4) (4 : Fin 6) e) := by
  pointwise [scales]
  blk_point []
theorem shifts_at (t : FVec Ideal S4x6x1024 .f32) (a s : Fin 2) (e : Fin 1024) :
    shifts t (ix3 a s e) = t (ix3 (⟨2 * a.val + s.val, by omega⟩ : Fin 4) (3 : Fin 6) e) := by
  pointwise [shifts]
  blk_point []

/-- The mixers' outputs side by side. -/
def both (p q : FVec Ideal S4608x512 .bf16) : FVec Ideal S4608x1024 .bf16 :=
  concatenate S4608x1024 1 [⟨S4608x512, p⟩, ⟨S4608x512, q⟩] concatenates_S4608x512_S4608x512_S4608x1024_d1
theorem both_first (p q : FVec Ideal S4608x512 .bf16) (r : Fin 4608) (k : Fin 512) : both p q (ix2 r (⟨k.val, by omega⟩ : Fin 1024)) = p (ix2 r k) := by
  pointwise [both]
theorem both_second (p q : FVec Ideal S4608x512 .bf16) (r : Fin 4608) (k : Fin 512) : both p q (ix2 r (⟨512 + k.val, by omega⟩ : Fin 1024)) = q (ix2 r k) := by
  pointwise [both]
/-- The product. -/
def prod (p q : FVec Ideal S4608x512 .bf16) (w : FVec Ideal S1024x1024 .f32) : FVec Ideal S4608x1024 .f32 :=
  Host.dotGeneral dot_S4608x1024_S1024x1024_S4608x1024_1_0_0_1_n_n none (extf .f32 (both p q) bitsLt_bf16_f32) w
theorem whole_at (f : FVec Ideal S4608x1024 .bf16) (w : FVec Ideal S1024x1024 .f32) (r : Fin 4608) (e : Fin 1024) :
    Host.dotGeneral dot_S4608x1024_S1024x1024_S4608x1024_1_0_0_1_n_n none (extf .f32 f bitsLt_bf16_f32) w (ix2 r e) = ∑ j : Fin 1024, f (ix2 r j) * w (ix2 j e) := by
  pointwise []
theorem halves (f : Fin 1024 → EReal) : ∑ j : Fin 1024, f j = (∑ k : Fin 512, f ⟨k.val, by omega⟩) + ∑ k : Fin 512, f ⟨512 + k.val, by omega⟩ := by
  rw [← (finProdFinEquiv (m := 2) (n := 512)).sum_comp f, Fintype.sum_prod_type, Fin.sum_univ_two]
  congr 1
theorem prod_at (p q : FVec Ideal S4608x512 .bf16) (w : FVec Ideal S1024x1024 .f32) (r : Fin 4608) (e : Fin 1024) :
    prod p q w (ix2 r e) = (∑ k : Fin 512, p (ix2 r k) * w (ix2 (⟨k.val, by omega⟩ : Fin 1024) e)) + ∑ k : Fin 512, q (ix2 r k) * w (ix2 (⟨512 + k.val, by omega⟩ : Fin 1024) e) := by
  refine (whole_at (both p q) w r e).trans ?_
  rw [halves]
  simp only [both_first, both_second]

/-- The rows after the call. -/
def resX (x : FVec Ideal S4608x1024 .f32) (p q : FVec Ideal S4608x512 .bf16) (w : FVec Ideal S1024x1024 .f32) (a : FVec Ideal S4x6x1024 .f32) : FVec Ideal S4608x1024 .f32 :=
  addf x (mulf (byRow (gates a)) (prod p q w))
/-- The product as it is saved. -/
def resY (p q : FVec Ideal S4608x512 .bf16) (w : FVec Ideal S1024x1024 .f32) : FVec Ideal S4608x1024 .bf16 :=
  truncf .bf16 (prod p q w) bitsLt_bf16_f32
/-- The MLP's rows. -/
def resH (x : FVec Ideal S4608x1024 .f32) (p q : FVec Ideal S4608x512 .bf16) (w : FVec Ideal S1024x1024 .f32) (a : FVec Ideal S4x6x1024 .f32) (g : FVec Ideal S1024 .f32) : FVec Ideal S4608x1024 .bf16 :=
  norm (resX x p q w a) (byRow (scales a)) (byRow (shifts a)) g

theorem resX_at (x : FVec Ideal S4608x1024 .f32) (p q : FVec Ideal S4608x512 .bf16) (w : FVec Ideal S1024x1024 .f32) (a : FVec Ideal S4x6x1024 .f32) (r : Fin 4608) (e : Fin 1024) :
    resX x p q w a (ix2 r e) = x (ix2 r e) + byRow (gates a) (ix2 r e) * prod p q w (ix2 r e) := rfl
theorem resY_at (p q : FVec Ideal S4608x512 .bf16) (w : FVec Ideal S1024x1024 .f32) (r : Fin 4608) (e : Fin 1024) :
    resY p q w (ix2 r e) = prod p q w (ix2 r e) := rfl

end Cert.Reference17Ideal.Hand
namespace Cert.Kernel17Ideal.Hand
open Cert.Kernel17Ideal Cert.Kernel17Ideal.Gen
open Cert.Reference16Ideal.Hand (normed byRow_tile norm_at)
open Cert.Reference17Ideal.Hand (prod resX resY resH prod_at gates_at scales_at shifts_at resX_at resY_at)
open Cert.Kernel16Ideal.Hand (table table_at line line_at)
variable (m : (ℓ : Loc nD τ sig) → Buf (Elt Ideal) ℓ) (c : Dev nD)

theorem pay_at (x : FVec Ideal S256x1024 .f32) (g : FVec Ideal S1x1024 .f32) (b s : FVec Ideal S1x1024 .f32) (q d : FVec Ideal S256x1 .f32) (r : Fin 256) (e : Fin 1024)
    (hq : q (ix2 r 0) = ∑ j : Fin 1024, x (ix2 r j) * x (ix2 r j)) (hd : d (ix2 r 0) = Ideal.ofBits FTy.f32 1149239296#32) :
    k0_pay1 x g b s q d (ix2 r e) = normed (fun j => x (ix2 r j)) (g (ix2 0 e)) (s (ix2 0 e)) (b (ix2 0 e)) e := by
  unfold normed
  rw [← hq, ← hd]
  pointwise [k0_pay1]

abbrev A0 : FVec Ideal S4608x512 .bf16 := m ((c.tc : Thread nD τ).loc main_arg0)
abbrev A1 : FVec Ideal S4608x512 .bf16 := m ((c.tc : Thread nD τ).loc main_arg1)
abbrev A2 : FVec Ideal S4608x1024 .f32 := m ((c.tc : Thread nD τ).loc main_arg2)
abbrev A3 : FVec Ideal S1024x1024 .f32 := m ((c.tc : Thread nD τ).loc main_arg3)
abbrev A4 : FVec Ideal S4x6x1024 .f32 := m ((c.tc : Thread nD τ).loc main_arg4)
abbrev A5 : FVec Ideal S1024 .f32 := m ((c.tc : Thread nD τ).loc main_arg5)

theorem weights_eq : (V m c main_v0 : FVec Ideal S1024x1024 .bf16) = truncf .bf16 (A3 m c) bitsLt_bf16_f32 := by
  entry_read
  rfl
theorem table_eq : (V m c main_v1 : FVec Ideal S24x1x1024 .f32) = table (A4 m c) := by
  entry_read
  rfl
theorem line_eq : (V m c main_v2 : FVec Ideal S1x1024 .f32) = line (A5 m c) := by
  entry_read
  rfl

theorem N_eq : cfg0.N = 18 := by decide +kernel
theorem idx : ∀ t : Fin cfg0.N, win0_0.index t = ![t.val, 0] ∧ win0_1.index t = ![t.val, 0] ∧ win0_2.index t = ![t.val, 0]
    ∧ win0_3.index t = ![(2 * (t.val / 9) + min (t.val % 9) 1) * 6 + 2, 0, 0]
    ∧ win0_4.index t = ![(2 * (t.val / 9) + min (t.val % 9) 1) * 6 + 3, 0, 0] ∧ win0_5.index t = ![(2 * (t.val / 9) + min (t.val % 9) 1) * 6 + 4, 0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The block of a step. -/
abbrev at18 (t : Fin cfg0.N) : Fin 18 := ⟨t.val, lt_of_lt_of_eq t.isLt N_eq⟩
abbrev row (t : Fin cfg0.N) (r : Fin 256) : Fin 4608 := ⟨256 * (at18 t).val + r.val, by have := (at18 t).isLt; omega⟩
/-- The line of the modulation table for a step: the example's context or latent tokens. -/
abbrev seg (t : Fin cfg0.N) : Fin 4 := ⟨2 * (t.val / 9) + min (t.val % 9) 1, by have := (at18 t).isLt; dsimp only at this; omega⟩

theorem blk_p (t : Fin cfg0.N) (r : Fin 256) (j : Fin 512) : iblk m c 0 t (ix2 r j) = A0 m c (ix2 (row t r) j) := by
  have := lt_of_lt_of_eq t.isLt N_eq
  blk_ext [iblk, V, idx t]
theorem blk_q (t : Fin cfg0.N) (r : Fin 256) (j : Fin 512) : iblk m c 1 t (ix2 r j) = A1 m c (ix2 (row t r) j) := by
  have := lt_of_lt_of_eq t.isLt N_eq
  blk_ext [iblk, V, idx t]
theorem blk_x (t : Fin cfg0.N) (r : Fin 256) (j : Fin 1024) : iblk m c 2 t (ix2 r j) = A2 m c (ix2 (row t r) j) := by
  have := lt_of_lt_of_eq t.isLt N_eq
  blk_ext [iblk, V, idx t]
theorem blk_gate (t : Fin cfg0.N) (e : Fin 1024) : iblk m c 3 t (ix3 0 0 e) = A4 m c (ix3 (seg t) 2 e) := by
  have := lt_of_lt_of_eq t.isLt N_eq
  rw [← table_at (A4 m c), ← table_eq m c]
  unfold iblk
  blk_simp [idx t]
  refine congrArg (V m c main_v1) ?_
  blk_ext [idx t]
theorem blk_shift (t : Fin cfg0.N) (e : Fin 1024) : iblk m c 4 t (ix3 0 0 e) = A4 m c (ix3 (seg t) 3 e) := by
  have := lt_of_lt_of_eq t.isLt N_eq
  rw [← table_at (A4 m c), ← table_eq m c]
  unfold iblk
  blk_simp [idx t]
  refine congrArg (V m c main_v1) ?_
  blk_ext [idx t]
theorem blk_scale (t : Fin cfg0.N) (e : Fin 1024) : iblk m c 5 t (ix3 0 0 e) = A4 m c (ix3 (seg t) 4 e) := by
  have := lt_of_lt_of_eq t.isLt N_eq
  rw [← table_at (A4 m c), ← table_eq m c]
  unfold iblk
  blk_simp [idx t]
  refine congrArg (V m c main_v1) ?_
  blk_ext [idx t]
theorem blk_w (t : Fin cfg0.N) (k e : Fin 1024) : iblk m c 6 t (ix2 k e) = A3 m c (ix2 k e) := by
  refine Eq.trans ?_ (congrFun (weights_eq m c) (ix2 k e))
  unfold iblk
  blk_simp [idx t]
  refine congrArg (V m c main_v0) ?_
  blk_ext [idx t]
theorem blk_g (t : Fin cfg0.N) (e : Fin 1024) : iblk m c 7 t (ix2 0 e) = A5 m c (ix1 e) := by
  rw [← line_at (A5 m c), ← line_eq m c]
  unfold iblk
  blk_simp [idx t]
  refine congrArg (V m c main_v2) ?_
  blk_ext [idx t]

/-- The two partial products at one place. -/
abbrev parts (x0 x1 : Vec Ideal S256x512 .bf16) (x6 : Vec Ideal S1024x1024 .bf16) (r : Fin 256) (e : Fin 1024) : EReal :=
  (∑ k : Fin 512, x0 (ix2 r k) * x6 (ix2 (⟨k.val, by omega⟩ : Fin 1024) e)) + ∑ k : Fin 512, x1 (ix2 r k) * x6 (ix2 (⟨512 + k.val, by omega⟩ : Fin 1024) e)

/-- A row with its gated product at one place. -/
def whole (x0 x1 : Vec Ideal S256x512 .bf16) (x2 : Vec Ideal S256x1024 .f32) (x3 : Vec Ideal S1x1x1024 .f32) (x6 : Vec Ideal S1024x1024 .bf16) (r : Fin 256) (e : Fin 1024) : EReal :=
  x2 (ix2 r e) + x3 (ix3 0 0 e) * parts x0 x1 x6 r e

variable (x0 x1 : Vec Ideal S256x512 .bf16) (x2 : Vec Ideal S256x1024 .f32) (x3 x4 x5 : Vec Ideal S1x1x1024 .f32) (x6 : Vec Ideal S1024x1024 .bf16) (x7 : Vec Ideal S1x1024 .f32)
theorem sum_at (r : Fin 256) (e : Fin 1024) : k0_pay4 (View.ld x0 r0_0) (View.ld x6 r0_1) (View.ld x1 r0_0) (View.ld x6 r0_2) (View.ld x2 r0_3) (View.ld x3 r0_4) (ix2 r e) = whole x0 x1 x2 x3 x6 r e := by
  unfold whole
  pointwise [k0_pay4, k0_pay2]
theorem point8 (r : Fin 256) (e : Fin 1024) : out0_8 x0 x1 x2 x3 x4 x5 x6 x7 (ix2 r e) = whole x0 x1 x2 x3 x6 r e := by
  unfold out0_8
  refine (Pieces.here _ _ _ (ix2 r e) (fun a => ?_)).trans ?_
  · fin_cases a <;> simp
  exact sum_at x0 x1 x2 x3 x6 r e
theorem point9 (r : Fin 256) (e : Fin 1024) : out0_9 x0 x1 x2 x3 x4 x5 x6 x7 (ix2 r e) = parts x0 x1 x6 r e := by
  unfold out0_9
  refine (Pieces.here _ _ _ (ix2 r e) (fun a => ?_)).trans ?_
  · fin_cases a <;> simp
  pointwise [k0_pay3, k0_pay2]
theorem square_at (a b : Vec Ideal S256x512 .bf16) (u v : Vec Ideal S512x1024 .bf16) (x : Vec Ideal S256x1024 .f32) (d : Vec Ideal S1x1x1024 .f32) (r : Fin 256) :
    k0_pay8 a u b v x d (ix2 r 0) = ∑ j : Fin 1024, k0_pay4 a u b v x d (ix2 r j) * k0_pay4 a u b v x d (ix2 r j) := by
  unfold k0_pay8
  generalize k0_pay4 a u b v x d = y
  pointwise []
theorem point10 (r : Fin 256) (e : Fin 1024) : out0_10 x0 x1 x2 x3 x4 x5 x6 x7 (ix2 r e)
    = normed (fun j => whole x0 x1 x2 x3 x6 r j) (x7 (ix2 0 e)) (x5 (ix3 0 0 e)) (x4 (ix3 0 0 e)) e := by
  unfold out0_10
  refine (Pieces.here _ _ _ (ix2 r e) (fun a => ?_)).trans ?_
  · fin_cases a <;> simp
  refine (pay_at _ _ _ _ _ _ r e (square_at _ _ _ _ _ _ r) rfl).trans ?_
  simp only [sum_at]
  pointwise [normed, k0_pay5, k0_pay6, k0_pay7]

theorem parts_at (t : Fin cfg0.N) (r : Fin 256) (e : Fin 1024) :
    parts (iblk m c 0 t) (iblk m c 1 t) (iblk m c 6 t) r e = prod (A0 m c) (A1 m c) (A3 m c) (ix2 (row t r) e) := by
  rw [prod_at]
  simp only [parts, blk_p, blk_q, blk_w]
theorem row_at (t : Fin cfg0.N) (r : Fin 256) (e : Fin 1024) :
    whole (iblk m c 0 t) (iblk m c 1 t) (iblk m c 2 t) (iblk m c 3 t) (iblk m c 6 t) r e = resX (A2 m c) (A0 m c) (A1 m c) (A3 m c) (A4 m c) (ix2 (row t r) e) := by
  unfold whole
  rw [resX_at, parts_at, blk_x, blk_gate, byRow_tile _ (at18 t), gates_at]

theorem finalX : (dats m 0 c).arrAt 8 cfg0.N = resX (A2 m c) (A0 m c) (A1 m c) (A3 m c) (A4 m c) := by
  refine (dats m 0 c).arrAt_eq_of_covers 8 _ (by decide +kernel) fun t hf y => ?_
  blk_simp
  rw [after0_8]
  obtain ⟨r, e, rfl⟩ : ∃ (r : Fin 256) (e : Fin 1024), y = ix2 r e := ⟨y 0, y 1, by funext a; fin_cases a <;> rfl⟩
  refine ((point8 _ _ _ _ _ _ _ _ r e).trans (row_at m c t r e)).trans (congrArg (resX (A2 m c) (A0 m c) (A1 m c) (A3 m c) (A4 m c)) (?_ : ix2 (row t r) e = _))
  blk_ext [idx t]
theorem finalY : (dats m 0 c).arrAt 9 cfg0.N = resY (A0 m c) (A1 m c) (A3 m c) := by
  refine (dats m 0 c).arrAt_eq_of_covers 9 _ (by decide +kernel) fun t hf y => ?_
  blk_simp
  rw [after0_9]
  obtain ⟨r, e, rfl⟩ : ∃ (r : Fin 256) (e : Fin 1024), y = ix2 r e := ⟨y 0, y 1, by funext a; fin_cases a <;> rfl⟩
  refine ((point9 _ _ _ _ _ _ _ _ r e).trans ((parts_at m c t r e).trans (resY_at _ _ _ _ _).symm)).trans (congrArg (resY (A0 m c) (A1 m c) (A3 m c)) (?_ : ix2 (row t r) e = _))
  blk_ext [idx t]
theorem finalH : (dats m 0 c).arrAt 10 cfg0.N = resH (A2 m c) (A0 m c) (A1 m c) (A3 m c) (A4 m c) (A5 m c) := by
  refine (dats m 0 c).arrAt_eq_of_covers 10 _ (by decide +kernel) fun t hf y => ?_
  blk_simp
  rw [after0_10]
  obtain ⟨r, e, rfl⟩ : ∃ (r : Fin 256) (e : Fin 1024), y = ix2 r e := ⟨y 0, y 1, by funext a; fin_cases a <;> rfl⟩
  refine ((point10 _ _ _ _ _ _ _ _ r e).trans ?_).trans (congrArg (resH (A2 m c) (A0 m c) (A1 m c) (A3 m c) (A4 m c) (A5 m c)) (?_ : ix2 (row t r) e = _))
  · refine Eq.trans ?_ (norm_at _ _ _ _ _ e).symm
    simp only [row_at, blk_g, blk_scale, blk_shift]
    rw [byRow_tile _ (at18 t), byRow_tile _ (at18 t), scales_at, shifts_at]
  · blk_ext [idx t]
end Cert.Kernel17Ideal.Hand
end
-- ==== Proof.Mlp18.lean ====
module
public import proofs.«01_k».proof.Proof.Mlp17
public import proofs.«01_k».proof.Proof.Gen.Kernel18Ideal.Value
public import proofs.«01_k».proof.Proof.Gen.Reference18Ideal.Run
@[expose] public section
/-! The odd layer's output projection of the two mixers, with the residual and the norm: the context's rows pass through. -/
set_option maxRecDepth 16384
noncomputable section
open Idealize.ShloMosaic Idealize.ShloMosaic.TcCoe Idealize.SL.Sem
open Idealize.ShloMosaic.Pipeline (Dat)
namespace Cert.Reference18Ideal.Hand
open Cert.Reference18Ideal Cert.Reference18Ideal.Gen
open Cert.Reference16Ideal.Hand (normed)
open Cert.Reference17Ideal.Hand (prod)

/-- The latent tokens' modulation vectors. -/
def vectors (a : FVec Ideal S4x6x1024 .f32) : FVec Ideal S2x6x1024 .f32 :=
  shapeCast _ (extractStridedSlice S2x1x6x1024 ![0, 1, 0, 0] (shapeCast _ a shapeCasts_S4x6x1024_S2x2x6x1024) slices_S2x2x6x1024_S2x1x6x1024_0_1_0_0) shapeCasts_S2x1x6x1024_S2x6x1024
def gates (a : FVec Ideal S4x6x1024 .f32) : FVec Ideal S2x1x1024 .f32 :=
  broadcastInDim S2x1x1024 ![0, 2] bcast_S2x1024_S2x1x1024_0_2 (shapeCast _ (extractStridedSlice S2x1x1024 ![0, 2, 0] (vectors a) slices_S2x6x1024_S2x1x1024_0_2_0) shapeCasts_S2x1x1024_S2x1024)
theorem gates_at (a : FVec Ideal S4x6x1024 .f32) (i : Fin 2) (e : Fin 1024) : gates a (ix3 i 0 e) = a (ix3 (⟨2 * i.val + 1, by omega⟩ : Fin 4) (2 : Fin 6) e) := by
  pointwise [gates, vectors]
  blk_point []
def scales (a : FVec Ideal S4x6x1024 .f32) : FVec Ideal S2x1x1024 .f32 :=
  broadcastInDim S2x1x1024 ![0, 2] bcast_S2x1024_S2x1x1024_0_2 (shapeCast _ (extractStridedSlice S2x1x1024 ![0, 4, 0] (vectors a) slices_S2x6x1024_S2x1x1024_0_4_0) shapeCasts_S2x1x1024_S2x1024)
theorem scales_at (a : FVec Ideal S4x6x1024 .f32) (i : Fin 2) (e : Fin 1024) : scales a (ix3 i 0 e) = a (ix3 (⟨2 * i.val + 1, by omega⟩ : Fin 4) (4 : Fin 6) e) := by
  pointwise [scales, vectors]
  blk_point []
def shifts (a : FVec Ideal S4x6x1024 .f32) : FVec Ideal S2x1x1024 .f32 :=
  broadcastInDim S2x1x1024 ![0, 2] bcast_S2x1024_S2x1x1024_0_2 (shapeCast _ (extractStridedSlice S2x1x1024 ![0, 3, 0] (vectors a) slices_S2x6x1024_S2x1x1024_0_3_0) shapeCasts_S2x1x1024_S2x1024)
theorem shifts_at (a : FVec Ideal S4x6x1024 .f32) (i : Fin 2) (e : Fin 1024) : shifts a (ix3 i 0 e) = a (ix3 (⟨2 * i.val + 1, by omega⟩ : Fin 4) (3 : Fin 6) e) := by
  pointwise [shifts, vectors]
  blk_point []
/-- The context's rows. -/
def context (x : FVec Ideal S4608x1024 .f32) : FVec Ideal S2x256x1024 .f32 :=
  extractStridedSlice S2x256x1024 ![0, 0, 0] (shapeCast _ x shapeCasts_S4608x1024_S2x2304x1024) slices_S2x2304x1024_S2x256x1024_0_0_0
theorem context_at (x : FVec Ideal S4608x1024 .f32) (i : Fin 2) (q : Fin 256) (e : Fin 1024) :
    context x (ix3 i q e) = x (ix2 (⟨2304 * i.val + q.val, by omega⟩ : Fin 4608) e) := by
  pointwise [context]
  blk_point []
/-- The latent rows. -/
def latent (x : FVec Ideal S4608x1024 .f32) : FVec Ideal S2x2048x1024 .f32 :=
  extractStridedSlice S2x2048x1024 ![0, 256, 0] (shapeCast _ x shapeCasts_S4608x1024_S2x2304x1024) slices_S2x2304x1024_S2x2048x1024_0_256_0
theorem latent_at (x : FVec Ideal S4608x1024 .f32) (i : Fin 2) (q : Fin 2048) (e : Fin 1024) :
    latent x (ix3 i q e) = x (ix2 (⟨2304 * i.val + 256 + q.val, by omega⟩ : Fin 4608) e) := by
  pointwise [latent]
  blk_point []
/-- Zeros for the context. -/
def zeros : FVec Ideal S2x256x1024 .f32 := broadcastInDim S2x256x1024 ![] bcast_S_S2x256x1024 (constant S_ .f32 0x00000000#32)
theorem zeros_at (i : Fin 2) (q : Fin 256) (e : Fin 1024) : zeros (ix3 i q e) = (0 : EReal) := by
  pointwise [zeros]
/-- Context and latent rows together. -/
def rows (u : FVec Ideal S2x256x1024 .f32) (v : FVec Ideal S2x2048x1024 .f32) : FVec Ideal S4608x1024 .f32 :=
  shapeCast _ (concatenate S2x2304x1024 1 [⟨S2x256x1024, u⟩, ⟨S2x2048x1024, v⟩] concatenates_S2x256x1024_S2x2048x1024_S2x2304x1024_d1) shapeCasts_S2x2304x1024_S4608x1024
theorem rows_context (u : FVec Ideal S2x256x1024 .f32) (v : FVec Ideal S2x2048x1024 .f32) (i : Fin 2) (q : Fin 256) (e : Fin 1024) :
    rows u v (ix2 (⟨2304 * i.val + q.val, by omega⟩ : Fin 4608) e) = u (ix3 i q e) := by
  pointwise [rows]
  blk_point []
  all_goals omega
theorem rows_latent (u : FVec Ideal S2x256x1024 .f32) (v : FVec Ideal S2x2048x1024 .f32) (i : Fin 2) (q : Fin 2048) (e : Fin 1024) :
    rows u v (ix2 (⟨2304 * i.val + 256 + q.val, by omega⟩ : Fin 4608) e) = v (ix3 i q e) := by
  pointwise [rows]
  blk_point []
  all_goals omega

/-- The latent rows with their gated product. -/
def added (x p : FVec Ideal S2x2048x1024 .f32) (g : FVec Ideal S2x1x1024 .f32) : FVec Ideal S2x2048x1024 .f32 :=
  addf x (mulf (broadcastInDim S2x2048x1024 ![0, 1, 2] bcast_S2x1x1024_S2x2048x1024_0_1_2 g) p)
theorem added_at (x p : FVec Ideal S2x2048x1024 .f32) (g : FVec Ideal S2x1x1024 .f32) (i : Fin 2) (q : Fin 2048) (e : Fin 1024) :
    added x p g (ix3 i q e) = x (ix3 i q e) + g (ix3 i 0 e) * p (ix3 i q e) := by
  pointwise [added]
/-- The norm of the latent rows with the modulation. -/
def norm (x : FVec Ideal S2x2048x1024 .f32) (s b : FVec Ideal S2x1x1024 .f32) (g : FVec Ideal S1024 .f32) : FVec Ideal S2x2048x1024 .f32 :=
  addf (mulf (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 g))) (broadcastInDim S2x2048x1024 ![0, 1, 2] bcast_S2x1x1024_S2x2048x1024_0_1_2 (addf (broadcastInDim S2x1x1024 ![] bcast_S_S2x1x1024 (constant S_ .f32 0x3F800000#32)) s)))
    (broadcastInDim S2x2048x1024 ![0, 1, 2] bcast_S2x1x1024_S2x2048x1024_0_1_2 b)
theorem norm_at (x : FVec Ideal S2x2048x1024 .f32) (s b : FVec Ideal S2x1x1024 .f32) (g : FVec Ideal S1024 .f32) (i : Fin 2) (q : Fin 2048) (e : Fin 1024) :
    norm x s b g (ix3 i q e) = normed (fun j => x (ix3 i q j)) (g (ix1 e)) (s (ix3 i 0 e)) (b (ix3 i 0 e)) e := by
  unfold normed
  pointwise [norm]

/-- The latent rows after the call. -/
def moved (x : FVec Ideal S4608x1024 .f32) (p q : FVec Ideal S4608x512 .bf16) (w : FVec Ideal S1024x1024 .f32) (a : FVec Ideal S4x6x1024 .f32) : FVec Ideal S2x2048x1024 .f32 :=
  added (latent x) (latent (prod p q w)) (gates a)
/-- The rows after the call. -/
def resX (x : FVec Ideal S4608x1024 .f32) (p q : FVec Ideal S4608x512 .bf16) (w : FVec Ideal S1024x1024 .f32) (a : FVec Ideal S4x6x1024 .f32) : FVec Ideal S4608x1024 .f32 :=
  rows (context x) (moved x p q w a)
/-- The product as it is saved. -/
def resY (p q : FVec Ideal S4608x512 .bf16) (w : FVec Ideal S1024x1024 .f32) : FVec Ideal S4608x1024 .bf16 :=
  truncf .bf16 (rows zeros (latent (prod p q w))) bitsLt_bf16_f32
/-- The MLP's rows. -/
def resH (x : FVec Ideal S4608x1024 .f32) (p q : FVec Ideal S4608x512 .bf16) (w : FVec Ideal S1024x1024 .f32) (a : FVec Ideal S4x6x1024 .f32) (g : FVec Ideal S1024 .f32) : FVec Ideal S4608x1024 .bf16 :=
  truncf .bf16 (rows zeros (norm (moved x p q w a) (scales a) (shifts a) g)) bitsLt_bf16_f32

/-- A row of a context block. -/
theorem tile_context (k : Fin 18) (h : k.val % 9 = 0) (r : Fin 256) (e : Fin 1024) : ix2 (⟨256 * k.val + r.val, by omega⟩ : Fin 4608) e
    = ix2 (⟨2304 * (⟨k.val / 9, by omega⟩ : Fin 2).val + r.val, by dsimp only; omega⟩ : Fin 4608) e :=
  Sums.ix2_eq (by dsimp only; omega) rfl
/-- The place of a row of a latent block among the latent rows. -/
abbrev place (k : Fin 18) (r : Fin 256) : Fin 2048 := ⟨256 * (k.val % 9 - 1) + r.val, by omega⟩
theorem tile_latent (k : Fin 18) (h : ¬k.val % 9 = 0) (r : Fin 256) (e : Fin 1024) : ix2 (⟨256 * k.val + r.val, by omega⟩ : Fin 4608) e
    = ix2 (⟨2304 * (⟨k.val / 9, by omega⟩ : Fin 2).val + 256 + (place k r).val, by dsimp only; omega⟩ : Fin 4608) e :=
  Sums.ix2_eq (by dsimp only; omega) rfl
theorem latent_tile (x : FVec Ideal S4608x1024 .f32) (k : Fin 18) (h : ¬k.val % 9 = 0) (r : Fin 256) (e : Fin 1024) :
    latent x (ix3 (⟨k.val / 9, by omega⟩ : Fin 2) (place k r) e) = x (ix2 (⟨256 * k.val + r.val, by omega⟩ : Fin 4608) e) :=
  (latent_at _ _ _ _).trans (congrArg x (tile_latent k h r e).symm)

variable (x : FVec Ideal S4608x1024 .f32) (p q : FVec Ideal S4608x512 .bf16) (w : FVec Ideal S1024x1024 .f32) (a : FVec Ideal S4x6x1024 .f32) (g : FVec Ideal S1024 .f32)
theorem moved_at (k : Fin 18) (h : ¬k.val % 9 = 0) (r : Fin 256) (e : Fin 1024) :
    moved x p q w a (ix3 (⟨k.val / 9, by omega⟩ : Fin 2) (place k r) e) = x (ix2 (⟨256 * k.val + r.val, by omega⟩ : Fin 4608) e)
      + a (ix3 (⟨2 * (k.val / 9) + 1, by omega⟩ : Fin 4) (2 : Fin 6) e) * prod p q w (ix2 (⟨256 * k.val + r.val, by omega⟩ : Fin 4608) e) := by
  refine (added_at _ _ _ _ _ _).trans ?_
  rw [latent_tile _ k h, latent_tile _ k h, gates_at]
theorem resX_context (k : Fin 18) (h : k.val % 9 = 0) (r : Fin 256) (e : Fin 1024) :
    resX x p q w a (ix2 (⟨256 * k.val + r.val, by omega⟩ : Fin 4608) e) = x (ix2 (⟨256 * k.val + r.val, by omega⟩ : Fin 4608) e) := by
  rw [tile_context k h]
  exact (rows_context _ _ _ _ _).trans (context_at _ _ _ _)
theorem resX_latent (k : Fin 18) (h : ¬k.val % 9 = 0) (r : Fin 256) (e : Fin 1024) :
    resX x p q w a (ix2 (⟨256 * k.val + r.val, by omega⟩ : Fin 4608) e) = moved x p q w a (ix3 (⟨k.val / 9, by omega⟩ : Fin 2) (place k r) e) := by
  rw [tile_latent k h]
  exact rows_latent _ _ _ _ _
theorem resY_context (k : Fin 18) (h : k.val % 9 = 0) (r : Fin 256) (e : Fin 1024) :
    resY p q w (ix2 (⟨256 * k.val + r.val, by omega⟩ : Fin 4608) e) = (0 : EReal) := by
  rw [tile_context k h]
  exact (rows_context _ _ _ _ _).trans (zeros_at _ _ _)
theorem resY_latent (k : Fin 18) (h : ¬k.val % 9 = 0) (r : Fin 256) (e : Fin 1024) :
    resY p q w (ix2 (⟨256 * k.val + r.val, by omega⟩ : Fin 4608) e) = prod p q w (ix2 (⟨256 * k.val + r.val, by omega⟩ : Fin 4608) e) := by
  refine Eq.trans ?_ (latent_tile _ k h r e)
  rw [tile_latent k h]
  exact rows_latent _ _ _ _ _
theorem resH_context (k : Fin 18) (h : k.val % 9 = 0) (r : Fin 256) (e : Fin 1024) :
    resH x p q w a g (ix2 (⟨256 * k.val + r.val, by omega⟩ : Fin 4608) e) = (0 : EReal) := by
  rw [tile_context k h]
  exact (rows_context _ _ _ _ _).trans (zeros_at _ _ _)
theorem resH_latent (k : Fin 18) (h : ¬k.val % 9 = 0) (r : Fin 256) (e : Fin 1024) :
    resH x p q w a g (ix2 (⟨256 * k.val + r.val, by omega⟩ : Fin 4608) e)
      = normed (fun j => moved x p q w a (ix3 (⟨k.val / 9, by omega⟩ : Fin 2) (place k r) j)) (g (ix1 e))
        (a (ix3 (⟨2 * (k.val / 9) + 1, by omega⟩ : Fin 4) (4 : Fin 6) e)) (a (ix3 (⟨2 * (k.val / 9) + 1, by omega⟩ : Fin 4) (3 : Fin 6) e)) e := by
  rw [tile_latent k h]
  refine (rows_latent _ _ _ _ _).trans ((norm_at _ _ _ _ _ _ _).trans ?_)
  rw [scales_at, shifts_at]

end Cert.Reference18Ideal.Hand
namespace Cert.Kernel18Ideal.Hand
open Cert.Kernel18Ideal Cert.Kernel18Ideal.Gen
open Cert.Reference16Ideal.Hand (normed)
open Cert.Reference17Ideal.Hand (prod prod_at)
open Cert.Reference18Ideal.Hand (place moved moved_at resX resY resH resX_context resX_latent resY_context resY_latent resH_context resH_latent)
open Cert.Kernel16Ideal.Hand (table table_at line line_at)
open Cert.Kernel17Ideal.Hand (parts whole)
variable (m : (ℓ : Loc nD τ sig) → Buf (Elt Ideal) ℓ) (c : Dev nD)

theorem pay_at (x : FVec Ideal S256x1024 .f32) (g b s : FVec Ideal S1x1024 .f32) (q : FVec Ideal S256x1 .f32) (r : Fin 256) (e : Fin 1024)
    (hq : q (ix2 r 0) = Ideal.div (∑ j : Fin 1024, x (ix2 r j) * x (ix2 r j)) (Ideal.ofBits FTy.f32 1149239296#32)) :
    k0_pay1 x g b s q (ix2 r e) = normed (fun j => x (ix2 r j)) (g (ix2 0 e)) (s (ix2 0 e)) (b (ix2 0 e)) e := by
  unfold normed
  rw [← hq]
  pointwise [k0_pay1]

abbrev A0 : FVec Ideal S4608x512 .bf16 := m ((c.tc : Thread nD τ).loc main_arg0)
abbrev A1 : FVec Ideal S4608x512 .bf16 := m ((c.tc : Thread nD τ).loc main_arg1)
abbrev A2 : FVec Ideal S4608x1024 .f32 := m ((c.tc : Thread nD τ).loc main_arg2)
abbrev A3 : FVec Ideal S1024x1024 .f32 := m ((c.tc : Thread nD τ).loc main_arg3)
abbrev A4 : FVec Ideal S4x6x1024 .f32 := m ((c.tc : Thread nD τ).loc main_arg4)
abbrev A5 : FVec Ideal S1024 .f32 := m ((c.tc : Thread nD τ).loc main_arg5)

theorem weights_eq : (V m c main_v0 : FVec Ideal S1024x1024 .bf16) = truncf .bf16 (A3 m c) bitsLt_bf16_f32 := by
  entry_read
  rfl
theorem table_eq : (V m c main_v1 : FVec Ideal S24x1x1024 .f32) = table (A4 m c) := by
  entry_read
  rfl
theorem line_eq : (V m c main_v2 : FVec Ideal S1x1024 .f32) = line (A5 m c) := by
  entry_read
  rfl

theorem N_eq : cfg0.N = 18 := by decide +kernel
theorem idx : ∀ t : Fin cfg0.N, win0_0.index t = ![t.val, 0] ∧ win0_1.index t = ![t.val, 0] ∧ win0_2.index t = ![t.val, 0]
    ∧ win0_3.index t = ![(2 * (t.val / 9) + min (t.val % 9) 1) * 6 + 2, 0, 0]
    ∧ win0_4.index t = ![(2 * (t.val / 9) + min (t.val % 9) 1) * 6 + 3, 0, 0] ∧ win0_5.index t = ![(2 * (t.val / 9) + min (t.val % 9) 1) * 6 + 4, 0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The block of a step. -/
abbrev at18 (t : Fin cfg0.N) : Fin 18 := ⟨t.val, lt_of_lt_of_eq t.isLt N_eq⟩
abbrev row (t : Fin cfg0.N) (r : Fin 256) : Fin 4608 := ⟨256 * (at18 t).val + r.val, by have := (at18 t).isLt; omega⟩
/-- The line of the modulation table for a step: the example's context or latent tokens. -/
abbrev seg (t : Fin cfg0.N) : Fin 4 := ⟨2 * (t.val / 9) + min (t.val % 9) 1, by have := (at18 t).isLt; dsimp only at this; omega⟩

theorem blk_p (t : Fin cfg0.N) (r : Fin 256) (j : Fin 512) : iblk m c 0 t (ix2 r j) = A0 m c (ix2 (row t r) j) := by
  have := lt_of_lt_of_eq t.isLt N_eq
  blk_ext [iblk, V, idx t]
theorem blk_q (t : Fin cfg0.N) (r : Fin 256) (j : Fin 512) : iblk m c 1 t (ix2 r j) = A1 m c (ix2 (row t r) j) := by
  have := lt_of_lt_of_eq t.isLt N_eq
  blk_ext [iblk, V, idx t]
theorem blk_x (t : Fin cfg0.N) (r : Fin 256) (j : Fin 1024) : iblk m c 2 t (ix2 r j) = A2 m c (ix2 (row t r) j) := by
  have := lt_of_lt_of_eq t.isLt N_eq
  blk_ext [iblk, V, idx t]
theorem blk_gate (t : Fin cfg0.N) (e : Fin 1024) : iblk m c 3 t (ix3 0 0 e) = A4 m c (ix3 (seg t) 2 e) := by
  have := lt_of_lt_of_eq t.isLt N_eq
  rw [← table_at (A4 m c), ← table_eq m c]
  unfold iblk
  blk_simp [idx t]
  refine congrArg (V m c main_v1) ?_
  blk_ext [idx t]
theorem blk_shift (t : Fin cfg0.N) (e : Fin 1024) : iblk m c 4 t (ix3 0 0 e) = A4 m c (ix3 (seg t) 3 e) := by
  have := lt_of_lt_of_eq t.isLt N_eq
  rw [← table_at (A4 m c), ← table_eq m c]
  unfold iblk
  blk_simp [idx t]
  refine congrArg (V m c main_v1) ?_
  blk_ext [idx t]
theorem blk_scale (t : Fin cfg0.N) (e : Fin 1024) : iblk m c 5 t (ix3 0 0 e) = A4 m c (ix3 (seg t) 4 e) := by
  have := lt_of_lt_of_eq t.isLt N_eq
  rw [← table_at (A4 m c), ← table_eq m c]
  unfold iblk
  blk_simp [idx t]
  refine congrArg (V m c main_v1) ?_
  blk_ext [idx t]
theorem blk_w (t : Fin cfg0.N) (k e : Fin 1024) : iblk m c 6 t (ix2 k e) = A3 m c (ix2 k e) := by
  refine Eq.trans ?_ (congrFun (weights_eq m c) (ix2 k e))
  unfold iblk
  blk_simp [idx t]
  refine congrArg (V m c main_v0) ?_
  blk_ext [idx t]
theorem blk_g (t : Fin cfg0.N) (e : Fin 1024) : iblk m c 7 t (ix2 0 e) = A5 m c (ix1 e) := by
  rw [← line_at (A5 m c), ← line_eq m c]
  unfold iblk
  blk_simp [idx t]
  refine congrArg (V m c main_v2) ?_
  blk_ext [idx t]

variable (x0 x1 : Vec Ideal S256x512 .bf16) (x2 : Vec Ideal S256x1024 .f32) (x3 : Vec Ideal S1x1x1024 .f32) (x6 : Vec Ideal S1024x1024 .bf16)
theorem mean_at (a b : Vec Ideal S256x512 .bf16) (u v : Vec Ideal S512x1024 .bf16) (x : Vec Ideal S256x1024 .f32) (d : Vec Ideal S1x1x1024 .f32) (r : Fin 256) :
    k0_pay10 a u b v x d (ix2 r 0) = Ideal.div (∑ j : Fin 1024, k0_pay6 a u b v x d (ix2 r j) * k0_pay6 a u b v x d (ix2 r j)) (Ideal.ofBits FTy.f32 1149239296#32) := by
  unfold k0_pay10
  generalize k0_pay6 a u b v x d = y
  pointwise []

theorem step_contextX (t : Fin cfg0.N) (h0 : ¬¬(t.val % 9 = 0)) (h1 : t.val % 9 = 0) (r : Fin 256) (e : Fin 1024) :
    (outsAt0 m c t.val t.isLt).1 (ix2 r e) = iblk m c 2 t (ix2 r e) := by
  rw [outsAt0_A m c t h0 h1]
  frame_open
  frame_out
theorem step_contextY (t : Fin cfg0.N) (h0 : ¬¬(t.val % 9 = 0)) (h1 : t.val % 9 = 0) (r : Fin 256) (e : Fin 1024) :
    (outsAt0 m c t.val t.isLt).2.1 (ix2 r e) = (0 : EReal) := by
  rw [outsAt0_A m c t h0 h1]
  frame_open
  frame_out
  pointwise [k0_pay2]
theorem step_contextH (t : Fin cfg0.N) (h0 : ¬¬(t.val % 9 = 0)) (h1 : t.val % 9 = 0) (r : Fin 256) (e : Fin 1024) :
    (outsAt0 m c t.val t.isLt).2.2 (ix2 r e) = (0 : EReal) := by
  rw [outsAt0_A m c t h0 h1]
  frame_open
  frame_out
  pointwise [k0_pay3]
theorem step_latentX (t : Fin cfg0.N) (h0 : ¬(t.val % 9 = 0)) (h1 : ¬t.val % 9 = 0) (r : Fin 256) (e : Fin 1024) :
    (outsAt0 m c t.val t.isLt).1 (ix2 r e) = whole (iblk m c 0 t) (iblk m c 1 t) (iblk m c 2 t) (iblk m c 3 t) (iblk m c 6 t) r e := by
  rw [outsAt0_B m c t h0 h1]
  frame_open
  frame_out
  unfold whole
  pointwise [k0_pay6, k0_pay4]
theorem step_latentY (t : Fin cfg0.N) (h0 : ¬(t.val % 9 = 0)) (h1 : ¬t.val % 9 = 0) (r : Fin 256) (e : Fin 1024) :
    (outsAt0 m c t.val t.isLt).2.1 (ix2 r e) = parts (iblk m c 0 t) (iblk m c 1 t) (iblk m c 6 t) r e := by
  rw [outsAt0_B m c t h0 h1]
  frame_open
  frame_out
  pointwise [k0_pay5, k0_pay4]
theorem step_latentH (t : Fin cfg0.N) (h0 : ¬(t.val % 9 = 0)) (h1 : ¬t.val % 9 = 0) (r : Fin 256) (e : Fin 1024) :
    (outsAt0 m c t.val t.isLt).2.2 (ix2 r e) = normed (fun j => whole (iblk m c 0 t) (iblk m c 1 t) (iblk m c 2 t) (iblk m c 3 t) (iblk m c 6 t) r j)
      (iblk m c 7 t (ix2 0 e)) (iblk m c 5 t (ix3 0 0 e)) (iblk m c 4 t (ix3 0 0 e)) e := by
  rw [outsAt0_B m c t h0 h1]
  frame_open
  frame_out
  refine (pay_at _ _ _ _ _ r e (mean_at _ _ _ _ _ _ r)).trans ?_
  unfold whole
  pointwise [normed, k0_pay4, k0_pay6, k0_pay7, k0_pay8, k0_pay9]

theorem seg_eq (t : Fin cfg0.N) (h : ¬t.val % 9 = 0) : seg t = (⟨2 * ((at18 t).val / 9) + 1, by have := (at18 t).isLt; omega⟩ : Fin 4) :=
  Fin.ext (by dsimp only; omega)
theorem parts_at (t : Fin cfg0.N) (r : Fin 256) (e : Fin 1024) :
    parts (iblk m c 0 t) (iblk m c 1 t) (iblk m c 6 t) r e = prod (A0 m c) (A1 m c) (A3 m c) (ix2 (row t r) e) := by
  rw [prod_at]
  simp only [parts, blk_p, blk_q, blk_w]
theorem row_at (t : Fin cfg0.N) (h : ¬t.val % 9 = 0) (r : Fin 256) (e : Fin 1024) :
    whole (iblk m c 0 t) (iblk m c 1 t) (iblk m c 2 t) (iblk m c 3 t) (iblk m c 6 t) r e
      = moved (A2 m c) (A0 m c) (A1 m c) (A3 m c) (A4 m c) (ix3 (⟨(at18 t).val / 9, by have := (at18 t).isLt; omega⟩ : Fin 2) (place (at18 t) r) e) := by
  unfold whole
  rw [moved_at _ _ _ _ _ (at18 t) h, parts_at, blk_x, blk_gate, seg_eq t h]

theorem finalX : (dats m 0 c).arrAt 8 cfg0.N = resX (A2 m c) (A0 m c) (A1 m c) (A3 m c) (A4 m c) := by
  refine (dats m 0 c).arrAt_eq_of_covers 8 _ (by decide +kernel) fun t hf y => ?_
  blk_simp
  rw [after0_8]
  obtain ⟨r, e, rfl⟩ : ∃ (r : Fin 256) (e : Fin 1024), y = ix2 r e := ⟨y 0, y 1, by funext a; fin_cases a <;> rfl⟩
  refine Eq.trans ?_ (congrArg (resX (A2 m c) (A0 m c) (A1 m c) (A3 m c) (A4 m c)) (?_ : ix2 (row t r) e = _))
  · by_cases h : t.val % 9 = 0
    · exact (step_contextX m c t (not_not.mpr h) h r e).trans ((blk_x m c t r e).trans (resX_context _ _ _ _ _ (at18 t) h r e).symm)
    · exact (step_latentX m c t h h r e).trans ((row_at m c t h r e).trans (resX_latent _ _ _ _ _ (at18 t) h r e).symm)
  · blk_ext [idx t]
theorem finalY : (dats m 0 c).arrAt 9 cfg0.N = resY (A0 m c) (A1 m c) (A3 m c) := by
  refine (dats m 0 c).arrAt_eq_of_covers 9 _ (by decide +kernel) fun t hf y => ?_
  blk_simp
  rw [after0_9]
  obtain ⟨r, e, rfl⟩ : ∃ (r : Fin 256) (e : Fin 1024), y = ix2 r e := ⟨y 0, y 1, by funext a; fin_cases a <;> rfl⟩
  refine Eq.trans ?_ (congrArg (resY (A0 m c) (A1 m c) (A3 m c)) (?_ : ix2 (row t r) e = _))
  · by_cases h : t.val % 9 = 0
    · exact (step_contextY m c t (not_not.mpr h) h r e).trans (resY_context _ _ _ (at18 t) h r e).symm
    · exact (step_latentY m c t h h r e).trans ((parts_at m c t r e).trans (resY_latent _ _ _ (at18 t) h r e).symm)
  · blk_ext [idx t]
theorem finalH : (dats m 0 c).arrAt 10 cfg0.N = resH (A2 m c) (A0 m c) (A1 m c) (A3 m c) (A4 m c) (A5 m c) := by
  refine (dats m 0 c).arrAt_eq_of_covers 10 _ (by decide +kernel) fun t hf y => ?_
  blk_simp
  rw [after0_10]
  obtain ⟨r, e, rfl⟩ : ∃ (r : Fin 256) (e : Fin 1024), y = ix2 r e := ⟨y 0, y 1, by funext a; fin_cases a <;> rfl⟩
  refine Eq.trans ?_ (congrArg (resH (A2 m c) (A0 m c) (A1 m c) (A3 m c) (A4 m c) (A5 m c)) (?_ : ix2 (row t r) e = _))
  · by_cases h : t.val % 9 = 0
    · exact (step_contextH m c t (not_not.mpr h) h r e).trans (resH_context _ _ _ _ _ _ (at18 t) h r e).symm
    · refine (step_latentH m c t h h r e).trans (Eq.trans ?_ (resH_latent _ _ _ _ _ _ (at18 t) h r e).symm)
      simp only [row_at m c t h, blk_g, blk_scale, blk_shift, seg_eq t h]
  · blk_ext [idx t]
end Cert.Kernel18Ideal.Hand
end
-- ==== Proof.MlpClaims.lean ====
/- The claims about the calls that are products: what each kernel leaves is what its reference leaves. -/
module

public import proofs.«01_k».proof.Proof.Mlp
public import proofs.«01_k».proof.Proof.Mlp2
public import proofs.«01_k».proof.Proof.Mlp3
public import proofs.«01_k».proof.Proof.Mlp4
public import proofs.«01_k».proof.Proof.Mlp5
public import proofs.«01_k».proof.Proof.Mlp6
public import proofs.«01_k».proof.Proof.Mlp7
public import proofs.«01_k».proof.Proof.Mlp8
public import proofs.«01_k».proof.Proof.Mlp9
public import proofs.«01_k».proof.Proof.Mlp10
public import proofs.«01_k».proof.Proof.Mlp11
public import proofs.«01_k».proof.Proof.Mlp12
public import proofs.«01_k».proof.Proof.Mlp13
public import proofs.«01_k».proof.Proof.Mlp14
public import proofs.«01_k».proof.Proof.Mlp15
public import proofs.«01_k».proof.Proof.Mlp16
public import proofs.«01_k».proof.Proof.Mlp17
public import proofs.«01_k».proof.Proof.Mlp18
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem alg2 : Cert.algebraic_Kernel2Ideal_Reference2Ideal := by
  intro m g m' g' _ hagree
  refine ⟨fun c => Cert.Kernel2Ideal.Hand.res (Cert.Kernel2Ideal.Hand.A0 m c) (Cert.Kernel2Ideal.Hand.A1 m c) (Cert.Kernel2Ideal.Hand.A2 m c) (Cert.Kernel2Ideal.Hand.A3 m c), ?_, ?_⟩
  · exact (θ_run Cert.Kernel2Ideal.defs _ _).mono (fun r h c => ⟨(h c).1.trans (Cert.Kernel2Ideal.Hand.final m c), (h c).2⟩)
      (Cert.Kernel2Ideal.Value.run_blocks (F := Ideal) m g)
  · refine (θ_run Cert.Reference2Ideal.defs _ _).mono (fun r h c => ?_) (Cert.Reference2Ideal.Value.run (F := Ideal) m' g')
    have e0 : r.2.mem ((c.tc : Thread Cert.Reference2Ideal.nD Cert.Reference2Ideal.τ).loc Cert.Reference2Ideal.main_v15) = Cert.Kernel2Ideal.Hand.res (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) := (h c).1
    rw [(hagree c).1, (hagree c).2.1, (hagree c).2.2.1, (hagree c).2.2.2] at e0
    exact ⟨e0, (h c).2⟩

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem alg3 : Cert.algebraic_Kernel3Ideal_Reference3Ideal := by
  intro m g m' g' _ hagree
  refine ⟨fun c => Cert.Kernel3Ideal.Hand.res (Cert.Kernel3Ideal.Hand.A0 m c) (Cert.Kernel3Ideal.Hand.A1 m c), ?_, ?_⟩
  · exact (θ_run Cert.Kernel3Ideal.defs _ _).mono (fun r h c => ⟨(h c).1.trans (Cert.Kernel3Ideal.Hand.final m c), (h c).2⟩)
      (Cert.Kernel3Ideal.Value.run_blocks (F := Ideal) m g)
  · refine (θ_run Cert.Reference3Ideal.defs _ _).mono (fun r h c => ?_) (Cert.Reference3Ideal.Value.run (F := Ideal) m' g')
    have e0 : r.2.mem ((c.tc : Thread Cert.Reference3Ideal.nD Cert.Reference3Ideal.τ).loc Cert.Reference3Ideal.main_v4) = Cert.Kernel3Ideal.Hand.res (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) := (h c).1
    rw [(hagree c).1, (hagree c).2] at e0
    exact ⟨e0, (h c).2⟩

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem alg4 : Cert.algebraic_Kernel4Ideal_Reference4Ideal := by
  intro m g m' g' _ hagree
  refine ⟨fun c => Cert.Kernel4Ideal.Hand.res (Cert.Kernel4Ideal.Hand.A0 m c) (Cert.Kernel4Ideal.Hand.A1 m c), ?_, ?_⟩
  · exact (θ_run Cert.Kernel4Ideal.defs _ _).mono (fun r h c => ⟨h.1 c, h.2 c⟩)
      (θ_run_and (Cert.Kernel4Ideal.Hand.run m g) (Cert.Kernel4Ideal.Gen.unchanged m g (Cert.Kernel4Ideal.Hand.ok m)))
  · refine (θ_run Cert.Reference4Ideal.defs _ _).mono (fun r h c => ?_) (Cert.Reference4Ideal.Value.run (F := Ideal) m' g')
    have e0 : r.2.mem ((c.tc : Thread Cert.Reference4Ideal.nD Cert.Reference4Ideal.τ).loc Cert.Reference4Ideal.main_v9) = Cert.Kernel4Ideal.Hand.res (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) := (h c).1
    rw [(hagree c).1, (hagree c).2] at e0
    exact ⟨e0, (h c).2⟩

theorem frame_r5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem alg5 : Cert.algebraic_Kernel5Ideal_Reference5Ideal := by
  intro m g m' g' _ hagree
  refine ⟨fun c => Cert.Kernel5Ideal.Hand.res (Cert.Kernel5Ideal.Hand.A0 m c) (Cert.Kernel5Ideal.Hand.A1 m c) (Cert.Kernel5Ideal.Hand.A2 m c), ?_, ?_⟩
  · exact (θ_run Cert.Kernel5Ideal.defs _ _).mono (fun r h c => ⟨h.1 c, h.2 c⟩)
      (θ_run_and (Cert.Kernel5Ideal.Hand.run m g) (Cert.Kernel5Ideal.Gen.unchanged m g (Cert.Kernel5Ideal.Hand.ok m)))
  · refine (θ_run Cert.Reference5Ideal.defs _ _).mono (fun r h c => ?_) (Cert.Reference5Ideal.Value.run (F := Ideal) m' g')
    have e0 : r.2.mem ((c.tc : Thread Cert.Reference5Ideal.nD Cert.Reference5Ideal.τ).loc Cert.Reference5Ideal.main_v12) = Cert.Kernel5Ideal.Hand.res (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) := (h c).1
    rw [(hagree c).1, (hagree c).2.1, (hagree c).2.2] at e0
    exact ⟨e0, (h c).2⟩

theorem frame_r7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem alg7 : Cert.algebraic_Kernel7Ideal_Reference7Ideal := by
  intro m g m' g' _ hagree
  refine ⟨fun c => Cert.Kernel7Ideal.Hand.res (Cert.Kernel7Ideal.Hand.A1 m c) (Cert.Kernel7Ideal.Hand.A0 m c), ?_, ?_⟩
  · exact (θ_run Cert.Kernel7Ideal.defs _ _).mono (fun r h c => ⟨(h c).1.trans (Cert.Kernel7Ideal.Hand.final m c), (h c).2⟩)
      (Cert.Kernel7Ideal.Value.run_blocks (F := Ideal) m g)
  · refine (θ_run Cert.Reference7Ideal.defs _ _).mono (fun r h c => ?_) (Cert.Reference7Ideal.Value.run (F := Ideal) m' g')
    have e0 : r.2.mem ((c.tc : Thread Cert.Reference7Ideal.nD Cert.Reference7Ideal.τ).loc Cert.Reference7Ideal.main_v2) = Cert.Kernel7Ideal.Hand.res (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg0)) := (h c).1
    rw [(hagree c).1, (hagree c).2] at e0
    exact ⟨e0, (h c).2⟩

theorem frame_r8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem alg8 : Cert.algebraic_Kernel8Ideal_Reference8Ideal := by
  intro m g m' g' _ hagree
  refine ⟨fun c => Cert.Kernel8Ideal.Hand.res (Cert.Kernel8Ideal.Hand.A1 m c) (Cert.Kernel8Ideal.Hand.A0 m c), ?_, ?_⟩
  · exact (θ_run Cert.Kernel8Ideal.defs _ _).mono (fun r h c => ⟨(h c).1.trans (Cert.Kernel8Ideal.Hand.final m c), (h c).2⟩)
      (Cert.Kernel8Ideal.Value.run_blocks (F := Ideal) m g)
  · refine (θ_run Cert.Reference8Ideal.defs _ _).mono (fun r h c => ?_) (Cert.Reference8Ideal.Value.run (F := Ideal) m' g')
    have e0 : r.2.mem ((c.tc : Thread Cert.Reference8Ideal.nD Cert.Reference8Ideal.τ).loc Cert.Reference8Ideal.main_v6) = Cert.Kernel8Ideal.Hand.res (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg0)) := (h c).1
    rw [(hagree c).1, (hagree c).2] at e0
    exact ⟨e0, (h c).2⟩

theorem frame_r9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem alg9 : Cert.algebraic_Kernel9Ideal_Reference9Ideal := by
  intro m g m' g' _ hagree
  refine ⟨fun c => Cert.Kernel9Ideal.Hand.res (Cert.Kernel9Ideal.Hand.A0 m c) (Cert.Kernel9Ideal.Hand.A1 m c), ?_, ?_⟩
  · exact (θ_run Cert.Kernel9Ideal.defs _ _).mono (fun r h c => ⟨(h c).1.trans (Cert.Kernel9Ideal.Hand.final m c), (h c).2⟩)
      (Cert.Kernel9Ideal.Value.run_blocks (F := Ideal) m g)
  · refine (θ_run Cert.Reference9Ideal.defs _ _).mono (fun r h c => ?_) (Cert.Reference9Ideal.Value.run (F := Ideal) m' g')
    have e0 : r.2.mem ((c.tc : Thread Cert.Reference9Ideal.nD Cert.Reference9Ideal.τ).loc Cert.Reference9Ideal.main_v4) = Cert.Kernel9Ideal.Hand.res (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) := (h c).1
    rw [(hagree c).1, (hagree c).2] at e0
    exact ⟨e0, (h c).2⟩

theorem frame_r10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem alg10 : Cert.algebraic_Kernel10Ideal_Reference10Ideal := by
  intro m g m' g' _ hagree
  refine ⟨fun c => Cert.Kernel10Ideal.Hand.res (Cert.Kernel10Ideal.Hand.A0 m c) (Cert.Kernel10Ideal.Hand.A1 m c), ?_, ?_⟩
  · exact (θ_run Cert.Kernel10Ideal.defs _ _).mono (fun r h c => ⟨(h c).1.trans (Cert.Kernel10Ideal.Hand.final m c), (h c).2⟩)
      (Cert.Kernel10Ideal.Value.run_blocks (F := Ideal) m g)
  · refine (θ_run Cert.Reference10Ideal.defs _ _).mono (fun r h c => ?_) (Cert.Reference10Ideal.Value.run (F := Ideal) m' g')
    have e0 : r.2.mem ((c.tc : Thread Cert.Reference10Ideal.nD Cert.Reference10Ideal.τ).loc Cert.Reference10Ideal.main_v4) = Cert.Kernel10Ideal.Hand.res (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) := (h c).1
    rw [(hagree c).1, (hagree c).2] at e0
    exact ⟨e0, (h c).2⟩

theorem frame_r11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem alg11 : Cert.algebraic_Kernel11Ideal_Reference11Ideal := by
  intro m g m' g' _ hagree
  refine ⟨fun c => Cert.Kernel11Ideal.Hand.res (Cert.Kernel11Ideal.Hand.A0 m c) (Cert.Kernel11Ideal.Hand.A1 m c), ?_, ?_⟩
  · exact (θ_run Cert.Kernel11Ideal.defs _ _).mono (fun r h c => ⟨(h c).1.trans (Cert.Kernel11Ideal.Hand.final m c), (h c).2⟩)
      (Cert.Kernel11Ideal.Value.run_blocks (F := Ideal) m g)
  · refine (θ_run Cert.Reference11Ideal.defs _ _).mono (fun r h c => ?_) (Cert.Reference11Ideal.Value.run (F := Ideal) m' g')
    have e0 : r.2.mem ((c.tc : Thread Cert.Reference11Ideal.nD Cert.Reference11Ideal.τ).loc Cert.Reference11Ideal.main_v4) = Cert.Kernel11Ideal.Hand.res (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) := (h c).1
    rw [(hagree c).1, (hagree c).2] at e0
    exact ⟨e0, (h c).2⟩

theorem frame_r12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem alg12 : Cert.algebraic_Kernel12Ideal_Reference12Ideal := by
  intro m g m' g' _ hagree
  refine ⟨fun c => Cert.Kernel12Ideal.Hand.res (Cert.Kernel12Ideal.Hand.A0 m c) (Cert.Kernel12Ideal.Hand.A1 m c), ?_, ?_⟩
  · exact (θ_run Cert.Kernel12Ideal.defs _ _).mono (fun r h c => ⟨h.1 c, h.2 c⟩)
      (θ_run_and (Cert.Kernel12Ideal.Hand.run m g) (Cert.Kernel12Ideal.Gen.unchanged m g (Cert.Kernel12Ideal.Hand.ok m)))
  · refine (θ_run Cert.Reference12Ideal.defs _ _).mono (fun r h c => ?_) (Cert.Reference12Ideal.Value.run (F := Ideal) m' g')
    have e0 : r.2.mem ((c.tc : Thread Cert.Reference12Ideal.nD Cert.Reference12Ideal.τ).loc Cert.Reference12Ideal.main_v7) = Cert.Kernel12Ideal.Hand.res (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) := (h c).1
    rw [(hagree c).1, (hagree c).2] at e0
    exact ⟨e0, (h c).2⟩

theorem frame_r13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem alg13 : Cert.algebraic_Kernel13Ideal_Reference13Ideal := by
  intro m g m' g' _ hagree
  refine ⟨fun c => Cert.Kernel13Ideal.Hand.res (Cert.Kernel13Ideal.Hand.A0 m c) (Cert.Kernel13Ideal.Hand.A1 m c), ?_, ?_⟩
  · exact (θ_run Cert.Kernel13Ideal.defs _ _).mono (fun r h c => ⟨h.1 c, h.2 c⟩)
      (θ_run_and (Cert.Kernel13Ideal.Hand.run m g) (Cert.Kernel13Ideal.Gen.unchanged m g (Cert.Kernel13Ideal.Hand.ok m)))
  · refine (θ_run Cert.Reference13Ideal.defs _ _).mono (fun r h c => ?_) (Cert.Reference13Ideal.Value.run (F := Ideal) m' g')
    have e0 : r.2.mem ((c.tc : Thread Cert.Reference13Ideal.nD Cert.Reference13Ideal.τ).loc Cert.Reference13Ideal.main_v11) = Cert.Kernel13Ideal.Hand.res (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) := (h c).1
    rw [(hagree c).1, (hagree c).2] at e0
    exact ⟨e0, (h c).2⟩

theorem frame_r14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

theorem alg14 : Cert.algebraic_Kernel14Ideal_Reference14Ideal := by
  intro m g m' g' _ hagree
  refine ⟨fun c => Cert.Kernel14Ideal.Hand.res (Cert.Kernel14Ideal.Hand.A0 m c) (Cert.Kernel14Ideal.Hand.A1 m c), ?_, ?_⟩
  · exact (θ_run Cert.Kernel14Ideal.defs _ _).mono (fun r h c => ⟨h.1 c, h.2 c⟩)
      (θ_run_and (Cert.Kernel14Ideal.Hand.run m g) (Cert.Kernel14Ideal.Gen.unchanged m g (Cert.Kernel14Ideal.Hand.ok m)))
  · refine (θ_run Cert.Reference14Ideal.defs _ _).mono (fun r h c => ?_) (Cert.Reference14Ideal.Value.run (F := Ideal) m' g')
    have e0 : r.2.mem ((c.tc : Thread Cert.Reference14Ideal.nD Cert.Reference14Ideal.τ).loc Cert.Reference14Ideal.main_v7) = Cert.Kernel14Ideal.Hand.res (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) := (h c).1
    rw [(hagree c).1, (hagree c).2] at e0
    exact ⟨e0, (h c).2⟩

theorem frame_r15 : Cert.quiescent_Reference15Ideal := fun m ρ _ =>
  (θ_run Cert.Reference15Ideal.defs _ _).mono (fun r h => ⟨fun c => (h c).2.2, Idealize.ShloMosaic.sem_eq_zero_of_no_sems (by decide) r.2⟩)
    (Cert.Reference15Ideal.Value.run (F := Ideal) m ρ)

theorem alg15 : Cert.algebraic_Kernel15Ideal_Reference15Ideal := by
  intro m g m' g' _ hagree
  refine ⟨fun c => Cert.Reference15Ideal.Hand.resX (Cert.Kernel15Ideal.Hand.A0 m c) (Cert.Kernel15Ideal.Hand.A1 m c) (Cert.Kernel15Ideal.Hand.A2 m c) (Cert.Kernel15Ideal.Hand.A3 m c), fun c => Cert.Reference15Ideal.Hand.resY (Cert.Kernel15Ideal.Hand.A1 m c) (Cert.Kernel15Ideal.Hand.A2 m c), ?_, ?_⟩
  · exact (θ_run Cert.Kernel15Ideal.defs _ _).mono (fun r h c => ⟨(h c).1.trans (Cert.Kernel15Ideal.Hand.finalX m c), (h c).2.1.trans (Cert.Kernel15Ideal.Hand.finalY m c), (h c).2.2⟩)
      (Cert.Kernel15Ideal.Value.run_blocks (F := Ideal) m g)
  · refine (θ_run Cert.Reference15Ideal.defs _ _).mono (fun r h c => ?_) (Cert.Reference15Ideal.Value.run (F := Ideal) m' g')
    have e0 : r.2.mem ((c.tc : Thread Cert.Reference15Ideal.nD Cert.Reference15Ideal.τ).loc Cert.Reference15Ideal.main_v17) = Cert.Reference15Ideal.Hand.resX (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) := (h c).1
    have e1 : r.2.mem ((c.tc : Thread Cert.Reference15Ideal.nD Cert.Reference15Ideal.τ).loc Cert.Reference15Ideal.main_v19) = Cert.Reference15Ideal.Hand.resY (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) := (h c).2.1
    rw [(hagree c).1, (hagree c).2.1, (hagree c).2.2.1, (hagree c).2.2.2] at e0
    rw [(hagree c).2.1, (hagree c).2.2.1] at e1
    exact ⟨e0, e1, (h c).2.2⟩

theorem frame_r17 : Cert.quiescent_Reference17Ideal := fun m ρ _ =>
  (θ_run Cert.Reference17Ideal.defs _ _).mono (fun r h => ⟨fun c => (h c).2.2.2, Idealize.ShloMosaic.sem_eq_zero_of_no_sems (by decide) r.2⟩)
    (Cert.Reference17Ideal.Value.run (F := Ideal) m ρ)

theorem alg17 : Cert.algebraic_Kernel17Ideal_Reference17Ideal := by
  intro m g m' g' _ hagree
  refine ⟨fun c => Cert.Reference17Ideal.Hand.resX (Cert.Kernel17Ideal.Hand.A2 m c) (Cert.Kernel17Ideal.Hand.A0 m c) (Cert.Kernel17Ideal.Hand.A1 m c) (Cert.Kernel17Ideal.Hand.A3 m c) (Cert.Kernel17Ideal.Hand.A4 m c), fun c => Cert.Reference17Ideal.Hand.resY (Cert.Kernel17Ideal.Hand.A0 m c) (Cert.Kernel17Ideal.Hand.A1 m c) (Cert.Kernel17Ideal.Hand.A3 m c), fun c => Cert.Reference17Ideal.Hand.resH (Cert.Kernel17Ideal.Hand.A2 m c) (Cert.Kernel17Ideal.Hand.A0 m c) (Cert.Kernel17Ideal.Hand.A1 m c) (Cert.Kernel17Ideal.Hand.A3 m c) (Cert.Kernel17Ideal.Hand.A4 m c) (Cert.Kernel17Ideal.Hand.A5 m c), ?_, ?_⟩
  · exact (θ_run Cert.Kernel17Ideal.defs _ _).mono (fun r h c => ⟨(h c).1.trans (Cert.Kernel17Ideal.Hand.finalX m c), (h c).2.1.trans (Cert.Kernel17Ideal.Hand.finalY m c), (h c).2.2.1.trans (Cert.Kernel17Ideal.Hand.finalH m c), (h c).2.2.2⟩)
      (Cert.Kernel17Ideal.Value.run_blocks (F := Ideal) m g)
  · refine (θ_run Cert.Reference17Ideal.defs _ _).mono (fun r h c => ?_) (Cert.Reference17Ideal.Value.run (F := Ideal) m' g')
    have e0 : r.2.mem ((c.tc : Thread Cert.Reference17Ideal.nD Cert.Reference17Ideal.τ).loc Cert.Reference17Ideal.main_v13) = Cert.Reference17Ideal.Hand.resX (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg3)) (m' ((c.tc : Thread Cert.Reference17Ideal.nD Cert.Reference17Ideal.τ).loc Cert.Reference17Ideal.main_arg4)) := (h c).1
    have e1 : r.2.mem ((c.tc : Thread Cert.Reference17Ideal.nD Cert.Reference17Ideal.τ).loc Cert.Reference17Ideal.main_v47) = Cert.Reference17Ideal.Hand.resY (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg3)) := (h c).2.1
    have e2 : r.2.mem ((c.tc : Thread Cert.Reference17Ideal.nD Cert.Reference17Ideal.τ).loc Cert.Reference17Ideal.main_v48) = Cert.Reference17Ideal.Hand.resH (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg3)) (m' ((c.tc : Thread Cert.Reference17Ideal.nD Cert.Reference17Ideal.τ).loc Cert.Reference17Ideal.main_arg4)) (m' ((c.tc : Thread Cert.Reference17Ideal.nD Cert.Reference17Ideal.τ).loc Cert.Reference17Ideal.main_arg5)) := (h c).2.2.1
    rw [(hagree c).1, (hagree c).2.1, (hagree c).2.2.1, (hagree c).2.2.2.1, (hagree c).2.2.2.2.1] at e0
    rw [(hagree c).1, (hagree c).2.1, (hagree c).2.2.2.1] at e1
    rw [(hagree c).1, (hagree c).2.1, (hagree c).2.2.1, (hagree c).2.2.2.1, (hagree c).2.2.2.2.1, (hagree c).2.2.2.2.2] at e2
    exact ⟨e0, e1, e2, (h c).2.2.2⟩

theorem frame_r18 : Cert.quiescent_Reference18Ideal := fun m ρ _ =>
  (θ_run Cert.Reference18Ideal.defs _ _).mono (fun r h => ⟨fun c => (h c).2.2.2, Idealize.ShloMosaic.sem_eq_zero_of_no_sems (by decide) r.2⟩)
    (Cert.Reference18Ideal.Value.run (F := Ideal) m ρ)

theorem alg18 : Cert.algebraic_Kernel18Ideal_Reference18Ideal := by
  intro m g m' g' _ hagree
  refine ⟨fun c => Cert.Reference18Ideal.Hand.resX (Cert.Kernel18Ideal.Hand.A2 m c) (Cert.Kernel18Ideal.Hand.A0 m c) (Cert.Kernel18Ideal.Hand.A1 m c) (Cert.Kernel18Ideal.Hand.A3 m c) (Cert.Kernel18Ideal.Hand.A4 m c), fun c => Cert.Reference18Ideal.Hand.resY (Cert.Kernel18Ideal.Hand.A0 m c) (Cert.Kernel18Ideal.Hand.A1 m c) (Cert.Kernel18Ideal.Hand.A3 m c), fun c => Cert.Reference18Ideal.Hand.resH (Cert.Kernel18Ideal.Hand.A2 m c) (Cert.Kernel18Ideal.Hand.A0 m c) (Cert.Kernel18Ideal.Hand.A1 m c) (Cert.Kernel18Ideal.Hand.A3 m c) (Cert.Kernel18Ideal.Hand.A4 m c) (Cert.Kernel18Ideal.Hand.A5 m c), ?_, ?_⟩
  · exact (θ_run Cert.Kernel18Ideal.defs _ _).mono (fun r h c => ⟨(h c).1.trans (Cert.Kernel18Ideal.Hand.finalX m c), (h c).2.1.trans (Cert.Kernel18Ideal.Hand.finalY m c), (h c).2.2.1.trans (Cert.Kernel18Ideal.Hand.finalH m c), (h c).2.2.2⟩)
      (Cert.Kernel18Ideal.Value.run_blocks (F := Ideal) m g)
  · refine (θ_run Cert.Reference18Ideal.defs _ _).mono (fun r h c => ?_) (Cert.Reference18Ideal.Value.run (F := Ideal) m' g')
    have e0 : r.2.mem ((c.tc : Thread Cert.Reference18Ideal.nD Cert.Reference18Ideal.τ).loc Cert.Reference18Ideal.main_v44) = Cert.Reference18Ideal.Hand.resX (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg3)) (m' ((c.tc : Thread Cert.Reference18Ideal.nD Cert.Reference18Ideal.τ).loc Cert.Reference18Ideal.main_arg4)) := (h c).1
    have e1 : r.2.mem ((c.tc : Thread Cert.Reference18Ideal.nD Cert.Reference18Ideal.τ).loc Cert.Reference18Ideal.main_v49) = Cert.Reference18Ideal.Hand.resY (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg3)) := (h c).2.1
    have e2 : r.2.mem ((c.tc : Thread Cert.Reference18Ideal.nD Cert.Reference18Ideal.τ).loc Cert.Reference18Ideal.main_v50) = Cert.Reference18Ideal.Hand.resH (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg3)) (m' ((c.tc : Thread Cert.Reference18Ideal.nD Cert.Reference18Ideal.τ).loc Cert.Reference18Ideal.main_arg4)) (m' ((c.tc : Thread Cert.Reference18Ideal.nD Cert.Reference18Ideal.τ).loc Cert.Reference18Ideal.main_arg5)) := (h c).2.2.1
    rw [(hagree c).1, (hagree c).2.1, (hagree c).2.2.1, (hagree c).2.2.2.1, (hagree c).2.2.2.2.1] at e0
    rw [(hagree c).1, (hagree c).2.1, (hagree c).2.2.2.1] at e1
    rw [(hagree c).1, (hagree c).2.1, (hagree c).2.2.1, (hagree c).2.2.2.1, (hagree c).2.2.2.2.1, (hagree c).2.2.2.2.2] at e2
    exact ⟨e0, e1, e2, (h c).2.2.2⟩

theorem frame_r16 : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

theorem alg16 : Cert.algebraic_Kernel16Ideal_Reference16Ideal := by
  intro m g m' g' _ hagree
  refine ⟨fun c => Cert.Reference16Ideal.Hand.resX (Cert.Kernel16Ideal.Hand.A0 m c) (Cert.Kernel16Ideal.Hand.A1 m c) (Cert.Kernel16Ideal.Hand.A2 m c) (Cert.Kernel16Ideal.Hand.A3 m c), fun c => Cert.Reference16Ideal.Hand.resY (Cert.Kernel16Ideal.Hand.A1 m c) (Cert.Kernel16Ideal.Hand.A2 m c), fun c => Cert.Reference16Ideal.Hand.resH (Cert.Kernel16Ideal.Hand.A0 m c) (Cert.Kernel16Ideal.Hand.A1 m c) (Cert.Kernel16Ideal.Hand.A2 m c) (Cert.Kernel16Ideal.Hand.A3 m c) (Cert.Kernel16Ideal.Hand.A4 m c) (Cert.Kernel16Ideal.Hand.A5 m c), ?_, ?_⟩
  · exact (θ_run Cert.Kernel16Ideal.defs _ _).mono (fun r h c => ⟨(h c).1.trans (Cert.Kernel16Ideal.Hand.finalX m c), (h c).2.1.trans (Cert.Kernel16Ideal.Hand.finalY m c), (h c).2.2.1.trans (Cert.Kernel16Ideal.Hand.finalH m c), (h c).2.2.2⟩)
      (Cert.Kernel16Ideal.Value.run_blocks (F := Ideal) m g)
  · refine (θ_run Cert.Reference16Ideal.defs _ _).mono (fun r h c => ?_) (Cert.Reference16Ideal.Value.run (F := Ideal) m' g')
    have e0 : r.2.mem ((c.tc : Thread Cert.Reference16Ideal.nD Cert.Reference16Ideal.τ).loc Cert.Reference16Ideal.main_v13) = Cert.Reference16Ideal.Hand.resX (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) := (h c).1
    have e1 : r.2.mem ((c.tc : Thread Cert.Reference16Ideal.nD Cert.Reference16Ideal.τ).loc Cert.Reference16Ideal.main_v47) = Cert.Reference16Ideal.Hand.resY (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) := (h c).2.1
    have e2 : r.2.mem ((c.tc : Thread Cert.Reference16Ideal.nD Cert.Reference16Ideal.τ).loc Cert.Reference16Ideal.main_v48) = Cert.Reference16Ideal.Hand.resH (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) := (h c).2.2.1
    rw [(hagree c).1, (hagree c).2.1, (hagree c).2.2.1, (hagree c).2.2.2.1] at e0
    rw [(hagree c).2.1, (hagree c).2.2.1] at e1
    rw [(hagree c).1, (hagree c).2.1, (hagree c).2.2.1, (hagree c).2.2.2.1, (hagree c).2.2.2.2.1, (hagree c).2.2.2.2.2] at e2
    exact ⟨e0, e1, e2, (h c).2.2.2⟩

theorem frame_r6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

theorem alg6 : Cert.algebraic_Kernel6Ideal_Reference6Ideal := by
  intro m g m' g' _ hagree
  refine ⟨fun c => Cert.Kernel6Ideal.Hand.resA (Cert.Kernel6Ideal.Hand.A0 m c) (Cert.Kernel6Ideal.Hand.A1 m c), fun c => Cert.Kernel6Ideal.Hand.resF (Cert.Kernel6Ideal.Hand.A0 m c) (Cert.Kernel6Ideal.Hand.A1 m c), ?_, ?_⟩
  · exact (θ_run Cert.Kernel6Ideal.defs _ _).mono (fun r h c => ⟨(h c).1.trans (Cert.Kernel6Ideal.Hand.finalA m c), (h c).2.1.trans (Cert.Kernel6Ideal.Hand.finalF m c), (h c).2.2⟩)
      (Cert.Kernel6Ideal.Value.run_blocks (F := Ideal) m g)
  · refine (θ_run Cert.Reference6Ideal.defs _ _).mono (fun r h c => ?_) (Cert.Reference6Ideal.Value.run (F := Ideal) m' g')
    have e0 : r.2.mem ((c.tc : Thread Cert.Reference6Ideal.nD Cert.Reference6Ideal.τ).loc Cert.Reference6Ideal.main_v2) = Cert.Kernel6Ideal.Hand.resA (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) := (h c).1
    have e1 : r.2.mem ((c.tc : Thread Cert.Reference6Ideal.nD Cert.Reference6Ideal.τ).loc Cert.Reference6Ideal.main_v5) = Cert.Kernel6Ideal.Hand.resF (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) := (h c).2.1
    rw [(hagree c).1, (hagree c).2] at e0
    rw [(hagree c).1, (hagree c).2] at e1
    exact ⟨e0, e1, (h c).2.2⟩

end Cert.Proof
end
-- ==== Proof.lean ====
/- The proof of the claims. The gradients of the grouped-query attention: the two arrays the kernel leaves are those
   of the reference (`Proof/Final.lean`), given that the arguments are finite. The MLP and the projections: `Proof/MlpClaims.lean`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Final
public import proofs.«01_k».proof.Proof.MlpClaims
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

theorem top_bits : Ideal.ofBits .f32 0x7F800000#32 = (⊤ : EReal) := by
  simp [Ideal.ofBits, Ideal.ieee]

/-- A number whose absolute value is below infinity is a real. -/
theorem isR_of_abs {x : EReal} (h : BitVec.ofBool (decide (max x (-x) < ⊤)) = 1#1) : Cert.Rows.IsR x := by
  have h' : max x (-x) < ⊤ := by
    by_contra hn
    rw [decide_eq_false hn] at h
    exact absurd h (by decide)
  obtain ⟨h1, h2⟩ := max_lt_iff.mp h'
  refine ⟨x.toReal, (EReal.coe_toReal h1.ne ?_).symm⟩
  rintro rfl
  simp at h2

/-- The test of one argument, at one index. -/
theorem isR_of_test {s s0 : Shape} {d : Fin s0.rank → Fin s.rank} (hb : s0.BroadcastsInDim s d) (hw : FTy.bits .bf16 < FTy.bits .f32)
    (a : FVec Ideal s .bf16) (h : cmpf .olt (Host.absf (extf .f32 a hw)) (broadcastInDim s d hb (constant (F := Ideal) s0 .f32 0x7F800000#32)) = fun _ => 1#1)
    (j : s.Idx) : Cert.Rows.IsR (a j) := by
  have e : BitVec.ofBool (decide (max (a j) (-(a j)) < Ideal.ofBits .f32 0x7F800000#32)) = 1#1 := congrFun h j
  rw [top_bits] at e
  exact isR_of_abs e

theorem frame_ri : Cert.quiescent_ReferenceIdeal := by
  intro m ρ _
  exact (θ_run Cert.ReferenceIdeal.defs _ _).mono (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m ρ)

theorem frame_ri_finite : Cert.quiescent_ReferenceIdeal_pre_finite := by
  intro m ρ _
  exact frame_ri m ρ trivial

theorem algebraic : Cert.algebraic_KernelIdeal_ReferenceIdeal_pre_finite := by
  intro m g m' g' hpre hagree
  refine ⟨fun c => Cert.ReferenceIdeal.Hand.r130 (Cert.KernelIdeal.Hand.A0 m c) (Cert.KernelIdeal.Hand.A1 m c) (Cert.KernelIdeal.Hand.A2 m c),
    fun c => Cert.ReferenceIdeal.Hand.r133 (Cert.KernelIdeal.Hand.A0 m c) (Cert.KernelIdeal.Hand.A1 m c) (Cert.KernelIdeal.Hand.A2 m c), ?_, ?_⟩
  · refine (θ_run Cert.KernelIdeal.defs _ _).mono (fun r h c => ?_) (Cert.KernelIdeal.Value.run_blocks (F := Ideal) m g)
    have f0 := isR_of_test _ _ _ (hpre c).1
    have f1 := isR_of_test _ _ _ (hpre c).2.1
    have f2 := isR_of_test _ _ _ (hpre c).2.2
    exact ⟨(h c).1.trans (Cert.KernelIdeal.Hand.finalQ m c f0 f1 f2), (h c).2.1.trans (Cert.KernelIdeal.Hand.finalKV m c f0 f1 f2), (h c).2.2⟩
  · refine (θ_run Cert.ReferenceIdeal.defs _ _).mono (fun r h c => ?_) (Cert.ReferenceIdeal.Value.run (F := Ideal) m' g')
    have e0 := Cert.ReferenceIdeal.Hand.out0_eq m' c
    have e1 := Cert.ReferenceIdeal.Hand.out1_eq m' c
    rw [(hagree c).1, (hagree c).2.1, (hagree c).2.2] at e0 e1
    exact ⟨(h c).1.trans e0, (h c).2.1.trans e1, (h c).2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    frame_ri, frame_ri_finite,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ (Cert.Kernel4.Hand.ok m), fun m ρ _ => Cert.Kernel4Ideal.Gen.frame m ρ (Cert.Kernel4Ideal.Hand.ok m), frame_r4,
    fun m ρ _ => Cert.Kernel5.Gen.frame m ρ (Cert.Kernel5.Hand.ok m), fun m ρ _ => Cert.Kernel5Ideal.Gen.frame m ρ (Cert.Kernel5Ideal.Hand.ok m), frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    fun m ρ _ => Cert.Kernel8.Gen.frame m ρ, fun m ρ _ => Cert.Kernel8Ideal.Gen.frame m ρ, frame_r8,
    fun m ρ _ => Cert.Kernel9.Gen.frame m ρ, fun m ρ _ => Cert.Kernel9Ideal.Gen.frame m ρ, frame_r9,
    fun m ρ _ => Cert.Kernel10.Gen.frame m ρ, fun m ρ _ => Cert.Kernel10Ideal.Gen.frame m ρ, frame_r10,
    fun m ρ _ => Cert.Kernel11.Gen.frame m ρ, fun m ρ _ => Cert.Kernel11Ideal.Gen.frame m ρ, frame_r11,
    fun m ρ _ => Cert.Kernel12.Gen.frame m ρ (Cert.Kernel12.Hand.ok m), fun m ρ _ => Cert.Kernel12Ideal.Gen.frame m ρ (Cert.Kernel12Ideal.Hand.ok m), frame_r12,
    fun m ρ _ => Cert.Kernel13.Gen.frame m ρ (Cert.Kernel13.Hand.ok m), fun m ρ _ => Cert.Kernel13Ideal.Gen.frame m ρ (Cert.Kernel13Ideal.Hand.ok m), frame_r13,
    fun m ρ _ => Cert.Kernel14.Gen.frame m ρ (Cert.Kernel14.Hand.ok m), fun m ρ _ => Cert.Kernel14Ideal.Gen.frame m ρ (Cert.Kernel14Ideal.Hand.ok m), frame_r14,
    fun m ρ _ => Cert.Kernel15.Gen.frame m ρ, fun m ρ _ => Cert.Kernel15Ideal.Gen.frame m ρ, frame_r15,
    fun m ρ _ => Cert.Kernel16.Gen.frame m ρ, fun m ρ _ => Cert.Kernel16Ideal.Gen.frame m ρ, frame_r16,
    fun m ρ _ => Cert.Kernel17.Gen.frame m ρ, fun m ρ _ => Cert.Kernel17Ideal.Gen.frame m ρ, frame_r17,
    fun m ρ _ => Cert.Kernel18.Gen.frame m ρ, fun m ρ _ => Cert.Kernel18Ideal.Gen.frame m ρ, frame_r18,
    trivial, algebraic, trivial, alg2, trivial, alg3, trivial, alg4, trivial, alg5, trivial, alg6,
    trivial, alg7, trivial, alg8, trivial, alg9, trivial, alg10, trivial, alg11, trivial, alg12, trivial, alg13, trivial, alg14,
    trivial, alg15, trivial, alg16, trivial, alg17, trivial, alg18⟩

end Cert.Proof
end
